-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpFinal (m : (ℓ : Loc Cert.MlpFinal.nD Cert.MlpFinal.τ Cert.MlpFinal.sig) → Buf (Elt Bits) ℓ) : Prop :=
  True

def Pre_MlpFinalIdeal (m : (ℓ : Loc Cert.MlpFinalIdeal.nD Cert.MlpFinalIdeal.τ Cert.MlpFinalIdeal.sig) → Buf (Elt Ideal) ℓ) : Prop :=
  True

def Pre_MlpFinalRefIdeal (m : (ℓ : Loc Cert.MlpFinalRefIdeal.nD Cert.MlpFinalRefIdeal.τ Cert.MlpFinalRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_ProjBS (m : (ℓ : Loc Cert.ProjBS.nD Cert.ProjBS.τ Cert.ProjBS.sig) → Buf (Elt Bits) ℓ) : Prop :=
  True

def Pre_ProjBSIdeal (m : (ℓ : Loc Cert.ProjBSIdeal.nD Cert.ProjBSIdeal.τ Cert.ProjBSIdeal.sig) → Buf (Elt Ideal) ℓ) : Prop :=
  True

def Pre_ProjBSRefIdeal (m : (ℓ : Loc Cert.ProjBSRefIdeal.nD Cert.ProjBSRefIdeal.τ Cert.ProjBSRefIdeal.sig) → Buf (Elt Ideal) ℓ) : Prop :=
  True

def Pre_MlpSF (m : (ℓ : Loc Cert.MlpSF.nD Cert.MlpSF.τ Cert.MlpSF.sig) → Buf (Elt Bits) ℓ) : Prop :=
  True

def Pre_MlpSFIdeal (m : (ℓ : Loc Cert.MlpSFIdeal.nD Cert.MlpSFIdeal.τ Cert.MlpSFIdeal.sig) → Buf (Elt Ideal) ℓ) : Prop :=
  True

def Pre_MlpSFRefIdeal (m : (ℓ : Loc Cert.MlpSFRefIdeal.nD Cert.MlpSFRefIdeal.τ Cert.MlpSFRefIdeal.sig) → Buf (Elt Ideal) ℓ) : Prop :=
  True

def Pre_ShiftA (m : (ℓ : Loc Cert.ShiftA.nD Cert.ShiftA.τ Cert.ShiftA.sig) → Buf (Elt Bits) ℓ) : Prop :=
  True

def Pre_ShiftAIdeal (m : (ℓ : Loc Cert.ShiftAIdeal.nD Cert.ShiftAIdeal.τ Cert.ShiftAIdeal.sig) → Buf (Elt Ideal) ℓ) : Prop :=
  True

def Pre_ShiftARefIdeal (m : (ℓ : Loc Cert.ShiftARefIdeal.nD Cert.ShiftARefIdeal.τ Cert.ShiftARefIdeal.sig) → Buf (Elt Ideal) ℓ) : Prop :=
  True

def Pre_ShiftB (m : (ℓ : Loc Cert.ShiftB.nD Cert.ShiftB.τ Cert.ShiftB.sig) → Buf (Elt Bits) ℓ) : Prop :=
  True

def Pre_ShiftBIdeal (m : (ℓ : Loc Cert.ShiftBIdeal.nD Cert.ShiftBIdeal.τ Cert.ShiftBIdeal.sig) → Buf (Elt Ideal) ℓ) : Prop :=
  True

def Pre_ShiftBRefIdeal (m : (ℓ : Loc Cert.ShiftBRefIdeal.nD Cert.ShiftBRefIdeal.τ Cert.ShiftBRefIdeal.sig) → Buf (Elt Ideal) ℓ) : Prop :=
  True

def Pre_ShiftC (m : (ℓ : Loc Cert.ShiftC.nD Cert.ShiftC.τ Cert.ShiftC.sig) → Buf (Elt Bits) ℓ) : Prop :=
  True

def Pre_ShiftCIdeal (m : (ℓ : Loc Cert.ShiftCIdeal.nD Cert.ShiftCIdeal.τ Cert.ShiftCIdeal.sig) → Buf (Elt Ideal) ℓ) : Prop :=
  True

def Pre_ShiftCRefIdeal (m : (ℓ : Loc Cert.ShiftCRefIdeal.nD Cert.ShiftCRefIdeal.τ Cert.ShiftCRefIdeal.sig) → Buf (Elt Ideal) ℓ) : Prop :=
  True

def Pre_ShiftD (m : (ℓ : Loc Cert.ShiftD.nD Cert.ShiftD.τ Cert.ShiftD.sig) → Buf (Elt Bits) ℓ) : Prop :=
  True

def Pre_ShiftDIdeal (m : (ℓ : Loc Cert.ShiftDIdeal.nD Cert.ShiftDIdeal.τ Cert.ShiftDIdeal.sig) → Buf (Elt Ideal) ℓ) : Prop :=
  True

def Pre_ShiftDRefIdeal (m : (ℓ : Loc Cert.ShiftDRefIdeal.nD Cert.ShiftDRefIdeal.τ Cert.ShiftDRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpFinal [hMlpFinal : Cert.MlpFinal.Facts] : Prop :=
  ∀ (m : (ℓ : Loc Cert.MlpFinal.nD Cert.MlpFinal.τ Cert.MlpFinal.sig) → Buf (Elt Bits) ℓ) (g : Dev Cert.MlpFinal.nD → PrngReg), Pre_MlpFinal m →
    θ_run (Cert.MlpFinal.defs (F := Bits)) (onTc (τ := Cert.MlpFinal.τ) (Cert.MlpFinal.main (F := Bits))) ⟨m, fun _ => 0, g⟩ (fun r => (∀ c : Dev Cert.MlpFinal.nD,
      r.2.mem ((c.tc : Thread Cert.MlpFinal.nD Cert.MlpFinal.τ).loc Cert.MlpFinal.main_arg0) = m ((c.tc : Thread Cert.MlpFinal.nD Cert.MlpFinal.τ).loc Cert.MlpFinal.main_arg0)
      ∧ r.2.mem ((c.tc : Thread Cert.MlpFinal.nD Cert.MlpFinal.τ).loc Cert.MlpFinal.main_arg1) = m ((c.tc : Thread Cert.MlpFinal.nD Cert.MlpFinal.τ).loc Cert.MlpFinal.main_arg1)
      ∧ r.2.mem ((c.tc : Thread Cert.MlpFinal.nD Cert.MlpFinal.τ).loc Cert.MlpFinal.main_arg2) = m ((c.tc : Thread Cert.MlpFinal.nD Cert.MlpFinal.τ).loc Cert.MlpFinal.main_arg2)
      ∧ r.2.mem ((c.tc : Thread Cert.MlpFinal.nD Cert.MlpFinal.τ).loc Cert.MlpFinal.main_arg3) = m ((c.tc : Thread Cert.MlpFinal.nD Cert.MlpFinal.τ).loc Cert.MlpFinal.main_arg3)
      ∧ r.2.mem ((c.tc : Thread Cert.MlpFinal.nD Cert.MlpFinal.τ).loc Cert.MlpFinal.main_arg4) = m ((c.tc : Thread Cert.MlpFinal.nD Cert.MlpFinal.τ).loc Cert.MlpFinal.main_arg4))
      ∧ r.2.sem = fun _ => 0)

def quiescent_MlpFinalIdeal [hMlpFinalIdeal : Cert.MlpFinalIdeal.Facts] : Prop :=
  ∀ (m : (ℓ : Loc Cert.MlpFinalIdeal.nD Cert.MlpFinalIdeal.τ Cert.MlpFinalIdeal.sig) → Buf (Elt Ideal) ℓ) (g : Dev Cert.MlpFinalIdeal.nD → PrngReg), Pre_MlpFinalIdeal m →
    θ_run (Cert.MlpFinalIdeal.defs (F := Ideal)) (onTc (τ := Cert.MlpFinalIdeal.τ) (Cert.MlpFinalIdeal.main (F := Ideal))) ⟨m, fun _ => 0, g⟩ (fun r => (∀ c : Dev Cert.MlpFinalIdeal.nD,
      r.2.mem ((c.tc : Thread Cert.MlpFinalIdeal.nD Cert.MlpFinalIdeal.τ).loc Cert.MlpFinalIdeal.main_arg0) = m ((c.tc : Thread Cert.MlpFinalIdeal.nD Cert.MlpFinalIdeal.τ).loc Cert.MlpFinalIdeal.main_arg0)
      ∧ r.2.mem ((c.tc : Thread Cert.MlpFinalIdeal.nD Cert.MlpFinalIdeal.τ).loc Cert.MlpFinalIdeal.main_arg1) = m ((c.tc : Thread Cert.MlpFinalIdeal.nD Cert.MlpFinalIdeal.τ).loc Cert.MlpFinalIdeal.main_arg1)
      ∧ r.2.mem ((c.tc : Thread Cert.MlpFinalIdeal.nD Cert.MlpFinalIdeal.τ).loc Cert.MlpFinalIdeal.main_arg2) = m ((c.tc : Thread Cert.MlpFinalIdeal.nD Cert.MlpFinalIdeal.τ).loc Cert.MlpFinalIdeal.main_arg2)
      ∧ r.2.mem ((c.tc : Thread Cert.MlpFinalIdeal.nD Cert.MlpFinalIdeal.τ).loc Cert.MlpFinalIdeal.main_arg3) = m ((c.tc : Thread Cert.MlpFinalIdeal.nD Cert.MlpFinalIdeal.τ).loc Cert.MlpFinalIdeal.main_arg3)
      ∧ r.2.mem ((c.tc : Thread Cert.MlpFinalIdeal.nD Cert.MlpFinalIdeal.τ).loc Cert.MlpFinalIdeal.main_arg4) = m ((c.tc : Thread Cert.MlpFinalIdeal.nD Cert.MlpFinalIdeal.τ).loc Cert.MlpFinalIdeal.main_arg4))
      ∧ r.2.sem = fun _ => 0)

def quiescent_MlpFinalRefIdeal [hMlpFinalRefIdeal : Cert.MlpFinalRefIdeal.Facts] : Prop :=
  ∀ (m : (ℓ : Loc Cert.MlpFinalRefIdeal.nD Cert.MlpFinalRefIdeal.τ Cert.MlpFinalRefIdeal.sig) → Buf (Elt Ideal) ℓ) (g : Dev Cert.MlpFinalRefIdeal.nD → PrngReg), Pre_MlpFinalRefIdeal m →
    θ_run (Cert.MlpFinalRefIdeal.defs (F := Ideal)) (onTc (τ := Cert.MlpFinalRefIdeal.τ) (Cert.MlpFinalRefIdeal.main (F := Ideal))) ⟨m, fun _ => 0, g⟩ (fun r => (∀ c : Dev Cert.MlpFinalRefIdeal.nD,
      r.2.mem ((c.tc : Thread Cert.MlpFinalRefIdeal.nD Cert.MlpFinalRefIdeal.τ).loc Cert.MlpFinalRefIdeal.main_arg0) = m ((c.tc : Thread Cert.MlpFinalRefIdeal.nD Cert.MlpFinalRefIdeal.τ).loc Cert.MlpFinalRefIdeal.main_arg0)
      ∧ r.2.mem ((c.tc : Thread Cert.MlpFinalRefIdeal.nD Cert.MlpFinalRefIdeal.τ).loc Cert.MlpFinalRefIdeal.main_arg1) = m ((c.tc : Thread Cert.MlpFinalRefIdeal.nD Cert.MlpFinalRefIdeal.τ).loc Cert.MlpFinalRefIdeal.main_arg1)
      ∧ r.2.mem ((c.tc : Thread Cert.MlpFinalRefIdeal.nD Cert.MlpFinalRefIdeal.τ).loc Cert.MlpFinalRefIdeal.main_arg2) = m ((c.tc : Thread Cert.MlpFinalRefIdeal.nD Cert.MlpFinalRefIdeal.τ).loc Cert.MlpFinalRefIdeal.main_arg2)
      ∧ r.2.mem ((c.tc : Thread Cert.MlpFinalRefIdeal.nD Cert.MlpFinalRefIdeal.τ).loc Cert.MlpFinalRefIdeal.main_arg3) = m ((c.tc : Thread Cert.MlpFinalRefIdeal.nD Cert.MlpFinalRefIdeal.τ).loc Cert.MlpFinalRefIdeal.main_arg3)
      ∧ r.2.mem ((c.tc : Thread Cert.MlpFinalRefIdeal.nD Cert.MlpFinalRefIdeal.τ).loc Cert.MlpFinalRefIdeal.main_arg4) = m ((c.tc : Thread Cert.MlpFinalRefIdeal.nD Cert.MlpFinalRefIdeal.τ).loc Cert.MlpFinalRefIdeal.main_arg4))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2))
      ∧ r.2.sem = fun _ => 0)

def quiescent_ProjBS [hProjBS : Cert.ProjBS.Facts] : Prop :=
  ∀ (m : (ℓ : Loc Cert.ProjBS.nD Cert.ProjBS.τ Cert.ProjBS.sig) → Buf (Elt Bits) ℓ) (g : Dev Cert.ProjBS.nD → PrngReg), Pre_ProjBS m →
    θ_run (Cert.ProjBS.defs (F := Bits)) (onTc (τ := Cert.ProjBS.τ) (Cert.ProjBS.main (F := Bits))) ⟨m, fun _ => 0, g⟩ (fun r => (∀ c : Dev Cert.ProjBS.nD,
      r.2.mem ((c.tc : Thread Cert.ProjBS.nD Cert.ProjBS.τ).loc Cert.ProjBS.main_arg0) = m ((c.tc : Thread Cert.ProjBS.nD Cert.ProjBS.τ).loc Cert.ProjBS.main_arg0)
      ∧ r.2.mem ((c.tc : Thread Cert.ProjBS.nD Cert.ProjBS.τ).loc Cert.ProjBS.main_arg1) = m ((c.tc : Thread Cert.ProjBS.nD Cert.ProjBS.τ).loc Cert.ProjBS.main_arg1)
      ∧ r.2.mem ((c.tc : Thread Cert.ProjBS.nD Cert.ProjBS.τ).loc Cert.ProjBS.main_arg2) = m ((c.tc : Thread Cert.ProjBS.nD Cert.ProjBS.τ).loc Cert.ProjBS.main_arg2))
      ∧ r.2.sem = fun _ => 0)

def quiescent_ProjBSIdeal [hProjBSIdeal : Cert.ProjBSIdeal.Facts] : Prop :=
  ∀ (m : (ℓ : Loc Cert.ProjBSIdeal.nD Cert.ProjBSIdeal.τ Cert.ProjBSIdeal.sig) → Buf (Elt Ideal) ℓ) (g : Dev Cert.ProjBSIdeal.nD → PrngReg), Pre_ProjBSIdeal m →
    θ_run (Cert.ProjBSIdeal.defs (F := Ideal)) (onTc (τ := Cert.ProjBSIdeal.τ) (Cert.ProjBSIdeal.main (F := Ideal))) ⟨m, fun _ => 0, g⟩ (fun r => (∀ c : Dev Cert.ProjBSIdeal.nD,
      r.2.mem ((c.tc : Thread Cert.ProjBSIdeal.nD Cert.ProjBSIdeal.τ).loc Cert.ProjBSIdeal.main_arg0) = m ((c.tc : Thread Cert.ProjBSIdeal.nD Cert.ProjBSIdeal.τ).loc Cert.ProjBSIdeal.main_arg0)
      ∧ r.2.mem ((c.tc : Thread Cert.ProjBSIdeal.nD Cert.ProjBSIdeal.τ).loc Cert.ProjBSIdeal.main_arg1) = m ((c.tc : Thread Cert.ProjBSIdeal.nD Cert.ProjBSIdeal.τ).loc Cert.ProjBSIdeal.main_arg1)
      ∧ r.2.mem ((c.tc : Thread Cert.ProjBSIdeal.nD Cert.ProjBSIdeal.τ).loc Cert.ProjBSIdeal.main_arg2) = m ((c.tc : Thread Cert.ProjBSIdeal.nD Cert.ProjBSIdeal.τ).loc Cert.ProjBSIdeal.main_arg2))
      ∧ r.2.sem = fun _ => 0)

def quiescent_ProjBSRefIdeal [hProjBSRefIdeal : Cert.ProjBSRefIdeal.Facts] : Prop :=
  ∀ (m : (ℓ : Loc Cert.ProjBSRefIdeal.nD Cert.ProjBSRefIdeal.τ Cert.ProjBSRefIdeal.sig) → Buf (Elt Ideal) ℓ) (g : Dev Cert.ProjBSRefIdeal.nD → PrngReg), Pre_ProjBSRefIdeal m →
    θ_run (Cert.ProjBSRefIdeal.defs (F := Ideal)) (onTc (τ := Cert.ProjBSRefIdeal.τ) (Cert.ProjBSRefIdeal.main (F := Ideal))) ⟨m, fun _ => 0, g⟩ (fun r => (∀ c : Dev Cert.ProjBSRefIdeal.nD,
      r.2.mem ((c.tc : Thread Cert.ProjBSRefIdeal.nD Cert.ProjBSRefIdeal.τ).loc Cert.ProjBSRefIdeal.main_arg0) = m ((c.tc : Thread Cert.ProjBSRefIdeal.nD Cert.ProjBSRefIdeal.τ).loc Cert.ProjBSRefIdeal.main_arg0)
      ∧ r.2.mem ((c.tc : Thread Cert.ProjBSRefIdeal.nD Cert.ProjBSRefIdeal.τ).loc Cert.ProjBSRefIdeal.main_arg1) = m ((c.tc : Thread Cert.ProjBSRefIdeal.nD Cert.ProjBSRefIdeal.τ).loc Cert.ProjBSRefIdeal.main_arg1)
      ∧ r.2.mem ((c.tc : Thread Cert.ProjBSRefIdeal.nD Cert.ProjBSRefIdeal.τ).loc Cert.ProjBSRefIdeal.main_arg2) = m ((c.tc : Thread Cert.ProjBSRefIdeal.nD Cert.ProjBSRefIdeal.τ).loc Cert.ProjBSRefIdeal.main_arg2))
      ∧ r.2.sem = fun _ => 0)

def quiescent_MlpSF [hMlpSF : Cert.MlpSF.Facts] : Prop :=
  ∀ (m : (ℓ : Loc Cert.MlpSF.nD Cert.MlpSF.τ Cert.MlpSF.sig) → Buf (Elt Bits) ℓ) (g : Dev Cert.MlpSF.nD → PrngReg), Pre_MlpSF m →
    θ_run (Cert.MlpSF.defs (F := Bits)) (onTc (τ := Cert.MlpSF.τ) (Cert.MlpSF.main (F := Bits))) ⟨m, fun _ => 0, g⟩ (fun r => (∀ c : Dev Cert.MlpSF.nD,
      r.2.mem ((c.tc : Thread Cert.MlpSF.nD Cert.MlpSF.τ).loc Cert.MlpSF.main_arg0) = m ((c.tc : Thread Cert.MlpSF.nD Cert.MlpSF.τ).loc Cert.MlpSF.main_arg0)
      ∧ r.2.mem ((c.tc : Thread Cert.MlpSF.nD Cert.MlpSF.τ).loc Cert.MlpSF.main_arg1) = m ((c.tc : Thread Cert.MlpSF.nD Cert.MlpSF.τ).loc Cert.MlpSF.main_arg1)
      ∧ r.2.mem ((c.tc : Thread Cert.MlpSF.nD Cert.MlpSF.τ).loc Cert.MlpSF.main_arg2) = m ((c.tc : Thread Cert.MlpSF.nD Cert.MlpSF.τ).loc Cert.MlpSF.main_arg2)
      ∧ r.2.mem ((c.tc : Thread Cert.MlpSF.nD Cert.MlpSF.τ).loc Cert.MlpSF.main_arg3) = m ((c.tc : Thread Cert.MlpSF.nD Cert.MlpSF.τ).loc Cert.MlpSF.main_arg3)
      ∧ r.2.mem ((c.tc : Thread Cert.MlpSF.nD Cert.MlpSF.τ).loc Cert.MlpSF.main_arg4) = m ((c.tc : Thread Cert.MlpSF.nD Cert.MlpSF.τ).loc Cert.MlpSF.main_arg4))
      ∧ r.2.sem = fun _ => 0)

def quiescent_MlpSFIdeal [hMlpSFIdeal : Cert.MlpSFIdeal.Facts] : Prop :=
  ∀ (m : (ℓ : Loc Cert.MlpSFIdeal.nD Cert.MlpSFIdeal.τ Cert.MlpSFIdeal.sig) → Buf (Elt Ideal) ℓ) (g : Dev Cert.MlpSFIdeal.nD → PrngReg), Pre_MlpSFIdeal m →
    θ_run (Cert.MlpSFIdeal.defs (F := Ideal)) (onTc (τ := Cert.MlpSFIdeal.τ) (Cert.MlpSFIdeal.main (F := Ideal))) ⟨m, fun _ => 0, g⟩ (fun r => (∀ c : Dev Cert.MlpSFIdeal.nD,
      r.2.mem ((c.tc : Thread Cert.MlpSFIdeal.nD Cert.MlpSFIdeal.τ).loc Cert.MlpSFIdeal.main_arg0) = m ((c.tc : Thread Cert.MlpSFIdeal.nD Cert.MlpSFIdeal.τ).loc Cert.MlpSFIdeal.main_arg0)
      ∧ r.2.mem ((c.tc : Thread Cert.MlpSFIdeal.nD Cert.MlpSFIdeal.τ).loc Cert.MlpSFIdeal.main_arg1) = m ((c.tc : Thread Cert.MlpSFIdeal.nD Cert.MlpSFIdeal.τ).loc Cert.MlpSFIdeal.main_arg1)
      ∧ r.2.mem ((c.tc : Thread Cert.MlpSFIdeal.nD Cert.MlpSFIdeal.τ).loc Cert.MlpSFIdeal.main_arg2) = m ((c.tc : Thread Cert.MlpSFIdeal.nD Cert.MlpSFIdeal.τ).loc Cert.MlpSFIdeal.main_arg2)
      ∧ r.2.mem ((c.tc : Thread Cert.MlpSFIdeal.nD Cert.MlpSFIdeal.τ).loc Cert.MlpSFIdeal.main_arg3) = m ((c.tc : Thread Cert.MlpSFIdeal.nD Cert.MlpSFIdeal.τ).loc Cert.MlpSFIdeal.main_arg3)
      ∧ r.2.mem ((c.tc : Thread Cert.MlpSFIdeal.nD Cert.MlpSFIdeal.τ).loc Cert.MlpSFIdeal.main_arg4) = m ((c.tc : Thread Cert.MlpSFIdeal.nD Cert.MlpSFIdeal.τ).loc Cert.MlpSFIdeal.main_arg4))
      ∧ r.2.sem = fun _ => 0)

def quiescent_MlpSFRefIdeal [hMlpSFRefIdeal : Cert.MlpSFRefIdeal.Facts] : Prop :=
  ∀ (m : (ℓ : Loc Cert.MlpSFRefIdeal.nD Cert.MlpSFRefIdeal.τ Cert.MlpSFRefIdeal.sig) → Buf (Elt Ideal) ℓ) (g : Dev Cert.MlpSFRefIdeal.nD → PrngReg), Pre_MlpSFRefIdeal m →
    θ_run (Cert.MlpSFRefIdeal.defs (F := Ideal)) (onTc (τ := Cert.MlpSFRefIdeal.τ) (Cert.MlpSFRefIdeal.main (F := Ideal))) ⟨m, fun _ => 0, g⟩ (fun r => (∀ c : Dev Cert.MlpSFRefIdeal.nD,
      r.2.mem ((c.tc : Thread Cert.MlpSFRefIdeal.nD Cert.MlpSFRefIdeal.τ).loc Cert.MlpSFRefIdeal.main_arg0) = m ((c.tc : Thread Cert.MlpSFRefIdeal.nD Cert.MlpSFRefIdeal.τ).loc Cert.MlpSFRefIdeal.main_arg0)
      ∧ r.2.mem ((c.tc : Thread Cert.MlpSFRefIdeal.nD Cert.MlpSFRefIdeal.τ).loc Cert.MlpSFRefIdeal.main_arg1) = m ((c.tc : Thread Cert.MlpSFRefIdeal.nD Cert.MlpSFRefIdeal.τ).loc Cert.MlpSFRefIdeal.main_arg1)
      ∧ r.2.mem ((c.tc : Thread Cert.MlpSFRefIdeal.nD Cert.MlpSFRefIdeal.τ).loc Cert.MlpSFRefIdeal.main_arg2) = m ((c.tc : Thread Cert.MlpSFRefIdeal.nD Cert.MlpSFRefIdeal.τ).loc Cert.MlpSFRefIdeal.main_arg2)
      ∧ r.2.mem ((c.tc : Thread Cert.MlpSFRefIdeal.nD Cert.MlpSFRefIdeal.τ).loc Cert.MlpSFRefIdeal.main_arg3) = m ((c.tc : Thread Cert.MlpSFRefIdeal.nD Cert.MlpSFRefIdeal.τ).loc Cert.MlpSFRefIdeal.main_arg3)
      ∧ r.2.mem ((c.tc : Thread Cert.MlpSFRefIdeal.nD Cert.MlpSFRefIdeal.τ).loc Cert.MlpSFRefIdeal.main_arg4) = m ((c.tc : Thread Cert.MlpSFRefIdeal.nD Cert.MlpSFRefIdeal.τ).loc Cert.MlpSFRefIdeal.main_arg4))
      ∧ r.2.sem = fun _ => 0)

def quiescent_ShiftA [hShiftA : Cert.ShiftA.Facts] : Prop :=
  ∀ (m : (ℓ : Loc Cert.ShiftA.nD Cert.ShiftA.τ Cert.ShiftA.sig) → Buf (Elt Bits) ℓ) (g : Dev Cert.ShiftA.nD → PrngReg), Pre_ShiftA m →
    θ_run (Cert.ShiftA.defs (F := Bits)) (onTc (τ := Cert.ShiftA.τ) (Cert.ShiftA.main (F := Bits))) ⟨m, fun _ => 0, g⟩ (fun r => (∀ c : Dev Cert.ShiftA.nD,
      r.2.mem ((c.tc : Thread Cert.ShiftA.nD Cert.ShiftA.τ).loc Cert.ShiftA.main_arg0) = m ((c.tc : Thread Cert.ShiftA.nD Cert.ShiftA.τ).loc Cert.ShiftA.main_arg0)
      ∧ r.2.mem ((c.tc : Thread Cert.ShiftA.nD Cert.ShiftA.τ).loc Cert.ShiftA.main_arg1) = m ((c.tc : Thread Cert.ShiftA.nD Cert.ShiftA.τ).loc Cert.ShiftA.main_arg1))
      ∧ r.2.sem = fun _ => 0)

def quiescent_ShiftAIdeal [hShiftAIdeal : Cert.ShiftAIdeal.Facts] : Prop :=
  ∀ (m : (ℓ : Loc Cert.ShiftAIdeal.nD Cert.ShiftAIdeal.τ Cert.ShiftAIdeal.sig) → Buf (Elt Ideal) ℓ) (g : Dev Cert.ShiftAIdeal.nD → PrngReg), Pre_ShiftAIdeal m →
    θ_run (Cert.ShiftAIdeal.defs (F := Ideal)) (onTc (τ := Cert.ShiftAIdeal.τ) (Cert.ShiftAIdeal.main (F := Ideal))) ⟨m, fun _ => 0, g⟩ (fun r => (∀ c : Dev Cert.ShiftAIdeal.nD,
      r.2.mem ((c.tc : Thread Cert.ShiftAIdeal.nD Cert.ShiftAIdeal.τ).loc Cert.ShiftAIdeal.main_arg0) = m ((c.tc : Thread Cert.ShiftAIdeal.nD Cert.ShiftAIdeal.τ).loc Cert.ShiftAIdeal.main_arg0)
      ∧ r.2.mem ((c.tc : Thread Cert.ShiftAIdeal.nD Cert.ShiftAIdeal.τ).loc Cert.ShiftAIdeal.main_arg1) = m ((c.tc : Thread Cert.ShiftAIdeal.nD Cert.ShiftAIdeal.τ).loc Cert.ShiftAIdeal.main_arg1))
      ∧ r.2.sem = fun _ => 0)

def quiescent_ShiftARefIdeal [hShiftARefIdeal : Cert.ShiftARefIdeal.Facts] : Prop :=
  ∀ (m : (ℓ : Loc Cert.ShiftARefIdeal.nD Cert.ShiftARefIdeal.τ Cert.ShiftARefIdeal.sig) → Buf (Elt Ideal) ℓ) (g : Dev Cert.ShiftARefIdeal.nD → PrngReg), Pre_ShiftARefIdeal m →
    θ_run (Cert.ShiftARefIdeal.defs (F := Ideal)) (onTc (τ := Cert.ShiftARefIdeal.τ) (Cert.ShiftARefIdeal.main (F := Ideal))) ⟨m, fun _ => 0, g⟩ (fun r => (∀ c : Dev Cert.ShiftARefIdeal.nD,
      r.2.mem ((c.tc : Thread Cert.ShiftARefIdeal.nD Cert.ShiftARefIdeal.τ).loc Cert.ShiftARefIdeal.main_arg0) = m ((c.tc : Thread Cert.ShiftARefIdeal.nD Cert.ShiftARefIdeal.τ).loc Cert.ShiftARefIdeal.main_arg0)
      ∧ r.2.mem ((c.tc : Thread Cert.ShiftARefIdeal.nD Cert.ShiftARefIdeal.τ).loc Cert.ShiftARefIdeal.main_arg1) = m ((c.tc : Thread Cert.ShiftARefIdeal.nD Cert.ShiftARefIdeal.τ).loc Cert.ShiftARefIdeal.main_arg1))
      ∧ r.2.sem = fun _ => 0)

def quiescent_ShiftB [hShiftB : Cert.ShiftB.Facts] : Prop :=
  ∀ (m : (ℓ : Loc Cert.ShiftB.nD Cert.ShiftB.τ Cert.ShiftB.sig) → Buf (Elt Bits) ℓ) (g : Dev Cert.ShiftB.nD → PrngReg), Pre_ShiftB m →
    θ_run (Cert.ShiftB.defs (F := Bits)) (onTc (τ := Cert.ShiftB.τ) (Cert.ShiftB.main (F := Bits))) ⟨m, fun _ => 0, g⟩ (fun r => (∀ c : Dev Cert.ShiftB.nD,
      r.2.mem ((c.tc : Thread Cert.ShiftB.nD Cert.ShiftB.τ).loc Cert.ShiftB.main_arg0) = m ((c.tc : Thread Cert.ShiftB.nD Cert.ShiftB.τ).loc Cert.ShiftB.main_arg0)
      ∧ r.2.mem ((c.tc : Thread Cert.ShiftB.nD Cert.ShiftB.τ).loc Cert.ShiftB.main_arg1) = m ((c.tc : Thread Cert.ShiftB.nD Cert.ShiftB.τ).loc Cert.ShiftB.main_arg1))
      ∧ r.2.sem = fun _ => 0)

def quiescent_ShiftBIdeal [hShiftBIdeal : Cert.ShiftBIdeal.Facts] : Prop :=
  ∀ (m : (ℓ : Loc Cert.ShiftBIdeal.nD Cert.ShiftBIdeal.τ Cert.ShiftBIdeal.sig) → Buf (Elt Ideal) ℓ) (g : Dev Cert.ShiftBIdeal.nD → PrngReg), Pre_ShiftBIdeal m →
    θ_run (Cert.ShiftBIdeal.defs (F := Ideal)) (onTc (τ := Cert.ShiftBIdeal.τ) (Cert.ShiftBIdeal.main (F := Ideal))) ⟨m, fun _ => 0, g⟩ (fun r => (∀ c : Dev Cert.ShiftBIdeal.nD,
      r.2.mem ((c.tc : Thread Cert.ShiftBIdeal.nD Cert.ShiftBIdeal.τ).loc Cert.ShiftBIdeal.main_arg0) = m ((c.tc : Thread Cert.ShiftBIdeal.nD Cert.ShiftBIdeal.τ).loc Cert.ShiftBIdeal.main_arg0)
      ∧ r.2.mem ((c.tc : Thread Cert.ShiftBIdeal.nD Cert.ShiftBIdeal.τ).loc Cert.ShiftBIdeal.main_arg1) = m ((c.tc : Thread Cert.ShiftBIdeal.nD Cert.ShiftBIdeal.τ).loc Cert.ShiftBIdeal.main_arg1))
      ∧ r.2.sem = fun _ => 0)

def quiescent_ShiftBRefIdeal [hShiftBRefIdeal : Cert.ShiftBRefIdeal.Facts] : Prop :=
  ∀ (m : (ℓ : Loc Cert.ShiftBRefIdeal.nD Cert.ShiftBRefIdeal.τ Cert.ShiftBRefIdeal.sig) → Buf (Elt Ideal) ℓ) (g : Dev Cert.ShiftBRefIdeal.nD → PrngReg), Pre_ShiftBRefIdeal m →
    θ_run (Cert.ShiftBRefIdeal.defs (F := Ideal)) (onTc (τ := Cert.ShiftBRefIdeal.τ) (Cert.ShiftBRefIdeal.main (F := Ideal))) ⟨m, fun _ => 0, g⟩ (fun r => (∀ c : Dev Cert.ShiftBRefIdeal.nD,
      r.2.mem ((c.tc : Thread Cert.ShiftBRefIdeal.nD Cert.ShiftBRefIdeal.τ).loc Cert.ShiftBRefIdeal.main_arg0) = m ((c.tc : Thread Cert.ShiftBRefIdeal.nD Cert.ShiftBRefIdeal.τ).loc Cert.ShiftBRefIdeal.main_arg0)
      ∧ r.2.mem ((c.tc : Thread Cert.ShiftBRefIdeal.nD Cert.ShiftBRefIdeal.τ).loc Cert.ShiftBRefIdeal.main_arg1) = m ((c.tc : Thread Cert.ShiftBRefIdeal.nD Cert.ShiftBRefIdeal.τ).loc Cert.ShiftBRefIdeal.main_arg1))
      ∧ r.2.sem = fun _ => 0)

def quiescent_ShiftC [hShiftC : Cert.ShiftC.Facts] : Prop :=
  ∀ (m : (ℓ : Loc Cert.ShiftC.nD Cert.ShiftC.τ Cert.ShiftC.sig) → Buf (Elt Bits) ℓ) (g : Dev Cert.ShiftC.nD → PrngReg), Pre_ShiftC m →
    θ_run (Cert.ShiftC.defs (F := Bits)) (onTc (τ := Cert.ShiftC.τ) (Cert.ShiftC.main (F := Bits))) ⟨m, fun _ => 0, g⟩ (fun r => (∀ c : Dev Cert.ShiftC.nD,
      r.2.mem ((c.tc : Thread Cert.ShiftC.nD Cert.ShiftC.τ).loc Cert.ShiftC.main_arg0) = m ((c.tc : Thread Cert.ShiftC.nD Cert.ShiftC.τ).loc Cert.ShiftC.main_arg0)
      ∧ r.2.mem ((c.tc : Thread Cert.ShiftC.nD Cert.ShiftC.τ).loc Cert.ShiftC.main_arg1) = m ((c.tc : Thread Cert.ShiftC.nD Cert.ShiftC.τ).loc Cert.ShiftC.main_arg1))
      ∧ r.2.sem = fun _ => 0)

def quiescent_ShiftCIdeal [hShiftCIdeal : Cert.ShiftCIdeal.Facts] : Prop :=
  ∀ (m : (ℓ : Loc Cert.ShiftCIdeal.nD Cert.ShiftCIdeal.τ Cert.ShiftCIdeal.sig) → Buf (Elt Ideal) ℓ) (g : Dev Cert.ShiftCIdeal.nD → PrngReg), Pre_ShiftCIdeal m →
    θ_run (Cert.ShiftCIdeal.defs (F := Ideal)) (onTc (τ := Cert.ShiftCIdeal.τ) (Cert.ShiftCIdeal.main (F := Ideal))) ⟨m, fun _ => 0, g⟩ (fun r => (∀ c : Dev Cert.ShiftCIdeal.nD,
      r.2.mem ((c.tc : Thread Cert.ShiftCIdeal.nD Cert.ShiftCIdeal.τ).loc Cert.ShiftCIdeal.main_arg0) = m ((c.tc : Thread Cert.ShiftCIdeal.nD Cert.ShiftCIdeal.τ).loc Cert.ShiftCIdeal.main_arg0)
      ∧ r.2.mem ((c.tc : Thread Cert.ShiftCIdeal.nD Cert.ShiftCIdeal.τ).loc Cert.ShiftCIdeal.main_arg1) = m ((c.tc : Thread Cert.ShiftCIdeal.nD Cert.ShiftCIdeal.τ).loc Cert.ShiftCIdeal.main_arg1))
      ∧ r.2.sem = fun _ => 0)

def quiescent_ShiftCRefIdeal [hShiftCRefIdeal : Cert.ShiftCRefIdeal.Facts] : Prop :=
  ∀ (m : (ℓ : Loc Cert.ShiftCRefIdeal.nD Cert.ShiftCRefIdeal.τ Cert.ShiftCRefIdeal.sig) → Buf (Elt Ideal) ℓ) (g : Dev Cert.ShiftCRefIdeal.nD → PrngReg), Pre_ShiftCRefIdeal m →
    θ_run (Cert.ShiftCRefIdeal.defs (F := Ideal)) (onTc (τ := Cert.ShiftCRefIdeal.τ) (Cert.ShiftCRefIdeal.main (F := Ideal))) ⟨m, fun _ => 0, g⟩ (fun r => (∀ c : Dev Cert.ShiftCRefIdeal.nD,
      r.2.mem ((c.tc : Thread Cert.ShiftCRefIdeal.nD Cert.ShiftCRefIdeal.τ).loc Cert.ShiftCRefIdeal.main_arg0) = m ((c.tc : Thread Cert.ShiftCRefIdeal.nD Cert.ShiftCRefIdeal.τ).loc Cert.ShiftCRefIdeal.main_arg0)
      ∧ r.2.mem ((c.tc : Thread Cert.ShiftCRefIdeal.nD Cert.ShiftCRefIdeal.τ).loc Cert.ShiftCRefIdeal.main_arg1) = m ((c.tc : Thread Cert.ShiftCRefIdeal.nD Cert.ShiftCRefIdeal.τ).loc Cert.ShiftCRefIdeal.main_arg1))
      ∧ r.2.sem = fun _ => 0)

def quiescent_ShiftD [hShiftD : Cert.ShiftD.Facts] : Prop :=
  ∀ (m : (ℓ : Loc Cert.ShiftD.nD Cert.ShiftD.τ Cert.ShiftD.sig) → Buf (Elt Bits) ℓ) (g : Dev Cert.ShiftD.nD → PrngReg), Pre_ShiftD m →
    θ_run (Cert.ShiftD.defs (F := Bits)) (onTc (τ := Cert.ShiftD.τ) (Cert.ShiftD.main (F := Bits))) ⟨m, fun _ => 0, g⟩ (fun r => (∀ c : Dev Cert.ShiftD.nD,
      r.2.mem ((c.tc : Thread Cert.ShiftD.nD Cert.ShiftD.τ).loc Cert.ShiftD.main_arg0) = m ((c.tc : Thread Cert.ShiftD.nD Cert.ShiftD.τ).loc Cert.ShiftD.main_arg0)
      ∧ r.2.mem ((c.tc : Thread Cert.ShiftD.nD Cert.ShiftD.τ).loc Cert.ShiftD.main_arg1) = m ((c.tc : Thread Cert.ShiftD.nD Cert.ShiftD.τ).loc Cert.ShiftD.main_arg1))
      ∧ r.2.sem = fun _ => 0)

def quiescent_ShiftDIdeal [hShiftDIdeal : Cert.ShiftDIdeal.Facts] : Prop :=
  ∀ (m : (ℓ : Loc Cert.ShiftDIdeal.nD Cert.ShiftDIdeal.τ Cert.ShiftDIdeal.sig) → Buf (Elt Ideal) ℓ) (g : Dev Cert.ShiftDIdeal.nD → PrngReg), Pre_ShiftDIdeal m →
    θ_run (Cert.ShiftDIdeal.defs (F := Ideal)) (onTc (τ := Cert.ShiftDIdeal.τ) (Cert.ShiftDIdeal.main (F := Ideal))) ⟨m, fun _ => 0, g⟩ (fun r => (∀ c : Dev Cert.ShiftDIdeal.nD,
      r.2.mem ((c.tc : Thread Cert.ShiftDIdeal.nD Cert.ShiftDIdeal.τ).loc Cert.ShiftDIdeal.main_arg0) = m ((c.tc : Thread Cert.ShiftDIdeal.nD Cert.ShiftDIdeal.τ).loc Cert.ShiftDIdeal.main_arg0)
      ∧ r.2.mem ((c.tc : Thread Cert.ShiftDIdeal.nD Cert.ShiftDIdeal.τ).loc Cert.ShiftDIdeal.main_arg1) = m ((c.tc : Thread Cert.ShiftDIdeal.nD Cert.ShiftDIdeal.τ).loc Cert.ShiftDIdeal.main_arg1))
      ∧ r.2.sem = fun _ => 0)

def quiescent_ShiftDRefIdeal [hShiftDRefIdeal : Cert.ShiftDRefIdeal.Facts] : Prop :=
  ∀ (m : (ℓ : Loc Cert.ShiftDRefIdeal.nD Cert.ShiftDRefIdeal.τ Cert.ShiftDRefIdeal.sig) → Buf (Elt Ideal) ℓ) (g : Dev Cert.ShiftDRefIdeal.nD → PrngReg), Pre_ShiftDRefIdeal m →
    θ_run (Cert.ShiftDRefIdeal.defs (F := Ideal)) (onTc (τ := Cert.ShiftDRefIdeal.τ) (Cert.ShiftDRefIdeal.main (F := Ideal))) ⟨m, fun _ => 0, g⟩ (fun r => (∀ c : Dev Cert.ShiftDRefIdeal.nD,
      r.2.mem ((c.tc : Thread Cert.ShiftDRefIdeal.nD Cert.ShiftDRefIdeal.τ).loc Cert.ShiftDRefIdeal.main_arg0) = m ((c.tc : Thread Cert.ShiftDRefIdeal.nD Cert.ShiftDRefIdeal.τ).loc Cert.ShiftDRefIdeal.main_arg0)
      ∧ r.2.mem ((c.tc : Thread Cert.ShiftDRefIdeal.nD Cert.ShiftDRefIdeal.τ).loc Cert.ShiftDRefIdeal.main_arg1) = m ((c.tc : Thread Cert.ShiftDRefIdeal.nD Cert.ShiftDRefIdeal.τ).loc Cert.ShiftDRefIdeal.main_arg1))
      ∧ r.2.sem = fun _ => 0)

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v13_0)) (v1 : (c : Dev Cert.AttnIdeal.nD) → Buf (Elt Ideal) ((c.tc : Thread Cert.AttnIdeal.nD Cert.AttnIdeal.τ).loc Cert.AttnIdeal.main_v13_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v13_0) = v0 c
          ∧ r.2.mem ((c.tc : Thread Cert.AttnIdeal.nD Cert.AttnIdeal.τ).loc Cert.AttnIdeal.main_v13_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v59) = v0 c
          ∧ r.2.mem ((c.tc : Thread Cert.AttnRefIdeal.nD Cert.AttnRefIdeal.τ).loc Cert.AttnRefIdeal.main_v60) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v12_0)) (v1 : (c : Dev Cert.ProjIdeal.nD) → Buf (Elt Ideal) ((c.tc : Thread Cert.ProjIdeal.nD Cert.ProjIdeal.τ).loc Cert.ProjIdeal.main_v12_1)) (v2 : (c : Dev Cert.ProjIdeal.nD) → Buf (Elt Ideal) ((c.tc : Thread Cert.ProjIdeal.nD Cert.ProjIdeal.τ).loc Cert.ProjIdeal.main_v12_2)) (v3 : (c : Dev Cert.ProjIdeal.nD) → Buf (Elt Ideal) ((c.tc : Thread Cert.ProjIdeal.nD Cert.ProjIdeal.τ).loc Cert.ProjIdeal.main_v12_3)) (v4 : (c : Dev Cert.ProjIdeal.nD) → Buf (Elt Ideal) ((c.tc : Thread Cert.ProjIdeal.nD Cert.ProjIdeal.τ).loc Cert.ProjIdeal.main_v12_4)) (v5 : (c : Dev Cert.ProjIdeal.nD) → Buf (Elt Ideal) ((c.tc : Thread Cert.ProjIdeal.nD Cert.ProjIdeal.τ).loc Cert.ProjIdeal.main_v12_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12_0) = v0 c
          ∧ r.2.mem ((c.tc : Thread Cert.ProjIdeal.nD Cert.ProjIdeal.τ).loc Cert.ProjIdeal.main_v12_1) = v1 c
          ∧ r.2.mem ((c.tc : Thread Cert.ProjIdeal.nD Cert.ProjIdeal.τ).loc Cert.ProjIdeal.main_v12_2) = v2 c
          ∧ r.2.mem ((c.tc : Thread Cert.ProjIdeal.nD Cert.ProjIdeal.τ).loc Cert.ProjIdeal.main_v12_3) = v3 c
          ∧ r.2.mem ((c.tc : Thread Cert.ProjIdeal.nD Cert.ProjIdeal.τ).loc Cert.ProjIdeal.main_v12_4) = v4 c
          ∧ r.2.mem ((c.tc : Thread Cert.ProjIdeal.nD Cert.ProjIdeal.τ).loc Cert.ProjIdeal.main_v12_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_v21) = v1 c
          ∧ r.2.mem ((c.tc : Thread Cert.ProjRefIdeal.nD Cert.ProjRefIdeal.τ).loc Cert.ProjRefIdeal.main_v23) = v2 c
          ∧ r.2.mem ((c.tc : Thread Cert.ProjRefIdeal.nD Cert.ProjRefIdeal.τ).loc Cert.ProjRefIdeal.main_v25) = v3 c
          ∧ r.2.mem ((c.tc : Thread Cert.ProjRefIdeal.nD Cert.ProjRefIdeal.τ).loc Cert.ProjRefIdeal.main_v27) = v4 c
          ∧ r.2.mem ((c.tc : Thread Cert.ProjRefIdeal.nD Cert.ProjRefIdeal.τ).loc Cert.ProjRefIdeal.main_v29) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v17) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_MlpFinal_MlpFinalIdeal : Prop :=
  True

def algebraic_MlpFinalIdeal_MlpFinalRefIdeal [hMlpFinalIdeal : Cert.MlpFinalIdeal.Facts] [hMlpFinalRefIdeal : Cert.MlpFinalRefIdeal.Facts] : Prop :=
  ∀ (m : (ℓ : Loc Cert.MlpFinalIdeal.nD Cert.MlpFinalIdeal.τ Cert.MlpFinalIdeal.sig) → Buf (Elt Ideal) ℓ) (g : Dev Cert.MlpFinalIdeal.nD → PrngReg)
    (m' : (ℓ : Loc Cert.MlpFinalRefIdeal.nD Cert.MlpFinalRefIdeal.τ Cert.MlpFinalRefIdeal.sig) → Buf (Elt Ideal) ℓ) (g' : Dev Cert.MlpFinalRefIdeal.nD → PrngReg), Pre_MlpFinalIdeal m →
    (∀ c : Dev Cert.MlpFinalIdeal.nD,
      m' ((c.tc : Thread Cert.MlpFinalRefIdeal.nD Cert.MlpFinalRefIdeal.τ).loc Cert.MlpFinalRefIdeal.main_arg0) = m ((c.tc : Thread Cert.MlpFinalIdeal.nD Cert.MlpFinalIdeal.τ).loc Cert.MlpFinalIdeal.main_arg0)
      ∧ m' ((c.tc : Thread Cert.MlpFinalRefIdeal.nD Cert.MlpFinalRefIdeal.τ).loc Cert.MlpFinalRefIdeal.main_arg1) = m ((c.tc : Thread Cert.MlpFinalIdeal.nD Cert.MlpFinalIdeal.τ).loc Cert.MlpFinalIdeal.main_arg1)
      ∧ m' ((c.tc : Thread Cert.MlpFinalRefIdeal.nD Cert.MlpFinalRefIdeal.τ).loc Cert.MlpFinalRefIdeal.main_arg2) = m ((c.tc : Thread Cert.MlpFinalIdeal.nD Cert.MlpFinalIdeal.τ).loc Cert.MlpFinalIdeal.main_arg2)
      ∧ m' ((c.tc : Thread Cert.MlpFinalRefIdeal.nD Cert.MlpFinalRefIdeal.τ).loc Cert.MlpFinalRefIdeal.main_arg3) = m ((c.tc : Thread Cert.MlpFinalIdeal.nD Cert.MlpFinalIdeal.τ).loc Cert.MlpFinalIdeal.main_arg3)
      ∧ m' ((c.tc : Thread Cert.MlpFinalRefIdeal.nD Cert.MlpFinalRefIdeal.τ).loc Cert.MlpFinalRefIdeal.main_arg4) = m ((c.tc : Thread Cert.MlpFinalIdeal.nD Cert.MlpFinalIdeal.τ).loc Cert.MlpFinalIdeal.main_arg4)) →
    ∃ (v0 : (c : Dev Cert.MlpFinalIdeal.nD) → Buf (Elt Ideal) ((c.tc : Thread Cert.MlpFinalIdeal.nD Cert.MlpFinalIdeal.τ).loc Cert.MlpFinalIdeal.main_v4)),
      θ_run (Cert.MlpFinalIdeal.defs (F := Ideal)) (onTc (τ := Cert.MlpFinalIdeal.τ) (Cert.MlpFinalIdeal.main (F := Ideal))) ⟨m, fun _ => 0, g⟩ (fun r => ∀ c : Dev Cert.MlpFinalIdeal.nD,
          r.2.mem ((c.tc : Thread Cert.MlpFinalIdeal.nD Cert.MlpFinalIdeal.τ).loc Cert.MlpFinalIdeal.main_v4) = v0 c
          ∧ r.2.mem ((c.tc : Thread Cert.MlpFinalIdeal.nD Cert.MlpFinalIdeal.τ).loc Cert.MlpFinalIdeal.main_arg0) = m ((c.tc : Thread Cert.MlpFinalIdeal.nD Cert.MlpFinalIdeal.τ).loc Cert.MlpFinalIdeal.main_arg0)
          ∧ r.2.mem ((c.tc : Thread Cert.MlpFinalIdeal.nD Cert.MlpFinalIdeal.τ).loc Cert.MlpFinalIdeal.main_arg1) = m ((c.tc : Thread Cert.MlpFinalIdeal.nD Cert.MlpFinalIdeal.τ).loc Cert.MlpFinalIdeal.main_arg1)
          ∧ r.2.mem ((c.tc : Thread Cert.MlpFinalIdeal.nD Cert.MlpFinalIdeal.τ).loc Cert.MlpFinalIdeal.main_arg2) = m ((c.tc : Thread Cert.MlpFinalIdeal.nD Cert.MlpFinalIdeal.τ).loc Cert.MlpFinalIdeal.main_arg2)
          ∧ r.2.mem ((c.tc : Thread Cert.MlpFinalIdeal.nD Cert.MlpFinalIdeal.τ).loc Cert.MlpFinalIdeal.main_arg3) = m ((c.tc : Thread Cert.MlpFinalIdeal.nD Cert.MlpFinalIdeal.τ).loc Cert.MlpFinalIdeal.main_arg3)
          ∧ r.2.mem ((c.tc : Thread Cert.MlpFinalIdeal.nD Cert.MlpFinalIdeal.τ).loc Cert.MlpFinalIdeal.main_arg4) = m ((c.tc : Thread Cert.MlpFinalIdeal.nD Cert.MlpFinalIdeal.τ).loc Cert.MlpFinalIdeal.main_arg4))
      ∧ θ_run (Cert.MlpFinalRefIdeal.defs (F := Ideal)) (onTc (τ := Cert.MlpFinalRefIdeal.τ) (Cert.MlpFinalRefIdeal.main (F := Ideal))) ⟨m', fun _ => 0, g'⟩ (fun r => ∀ c : Dev Cert.MlpFinalRefIdeal.nD,
          r.2.mem ((c.tc : Thread Cert.MlpFinalRefIdeal.nD Cert.MlpFinalRefIdeal.τ).loc Cert.MlpFinalRefIdeal.main_v30) = v0 c
          ∧ r.2.mem ((c.tc : Thread Cert.MlpFinalRefIdeal.nD Cert.MlpFinalRefIdeal.τ).loc Cert.MlpFinalRefIdeal.main_arg0) = m' ((c.tc : Thread Cert.MlpFinalRefIdeal.nD Cert.MlpFinalRefIdeal.τ).loc Cert.MlpFinalRefIdeal.main_arg0)
          ∧ r.2.mem ((c.tc : Thread Cert.MlpFinalRefIdeal.nD Cert.MlpFinalRefIdeal.τ).loc Cert.MlpFinalRefIdeal.main_arg1) = m' ((c.tc : Thread Cert.MlpFinalRefIdeal.nD Cert.MlpFinalRefIdeal.τ).loc Cert.MlpFinalRefIdeal.main_arg1)
          ∧ r.2.mem ((c.tc : Thread Cert.MlpFinalRefIdeal.nD Cert.MlpFinalRefIdeal.τ).loc Cert.MlpFinalRefIdeal.main_arg2) = m' ((c.tc : Thread Cert.MlpFinalRefIdeal.nD Cert.MlpFinalRefIdeal.τ).loc Cert.MlpFinalRefIdeal.main_arg2)
          ∧ r.2.mem ((c.tc : Thread Cert.MlpFinalRefIdeal.nD Cert.MlpFinalRefIdeal.τ).loc Cert.MlpFinalRefIdeal.main_arg3) = m' ((c.tc : Thread Cert.MlpFinalRefIdeal.nD Cert.MlpFinalRefIdeal.τ).loc Cert.MlpFinalRefIdeal.main_arg3)
          ∧ r.2.mem ((c.tc : Thread Cert.MlpFinalRefIdeal.nD Cert.MlpFinalRefIdeal.τ).loc Cert.MlpFinalRefIdeal.main_arg4) = m' ((c.tc : Thread Cert.MlpFinalRefIdeal.nD Cert.MlpFinalRefIdeal.τ).loc Cert.MlpFinalRefIdeal.main_arg4))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v12_0)) (v1 : (c : Dev Cert.ProjBIdeal.nD) → Buf (Elt Ideal) ((c.tc : Thread Cert.ProjBIdeal.nD Cert.ProjBIdeal.τ).loc Cert.ProjBIdeal.main_v12_1)) (v2 : (c : Dev Cert.ProjBIdeal.nD) → Buf (Elt Ideal) ((c.tc : Thread Cert.ProjBIdeal.nD Cert.ProjBIdeal.τ).loc Cert.ProjBIdeal.main_v12_2)) (v3 : (c : Dev Cert.ProjBIdeal.nD) → Buf (Elt Ideal) ((c.tc : Thread Cert.ProjBIdeal.nD Cert.ProjBIdeal.τ).loc Cert.ProjBIdeal.main_v12_3)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v12_0) = v0 c
          ∧ r.2.mem ((c.tc : Thread Cert.ProjBIdeal.nD Cert.ProjBIdeal.τ).loc Cert.ProjBIdeal.main_v12_1) = v1 c
          ∧ r.2.mem ((c.tc : Thread Cert.ProjBIdeal.nD Cert.ProjBIdeal.τ).loc Cert.ProjBIdeal.main_v12_2) = v2 c
          ∧ r.2.mem ((c.tc : Thread Cert.ProjBIdeal.nD Cert.ProjBIdeal.τ).loc Cert.ProjBIdeal.main_v12_3) = v3 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v21) = v0 c
          ∧ r.2.mem ((c.tc : Thread Cert.ProjBRefIdeal.nD Cert.ProjBRefIdeal.τ).loc Cert.ProjBRefIdeal.main_v22) = v1 c
          ∧ r.2.mem ((c.tc : Thread Cert.ProjBRefIdeal.nD Cert.ProjBRefIdeal.τ).loc Cert.ProjBRefIdeal.main_v23) = v2 c
          ∧ r.2.mem ((c.tc : Thread Cert.ProjBRefIdeal.nD Cert.ProjBRefIdeal.τ).loc Cert.ProjBRefIdeal.main_v29) = v3 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v1) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v1) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2))

def preserves_ProjBS_ProjBSIdeal : Prop :=
  True

def algebraic_ProjBSIdeal_ProjBSRefIdeal [hProjBSIdeal : Cert.ProjBSIdeal.Facts] [hProjBSRefIdeal : Cert.ProjBSRefIdeal.Facts] : Prop :=
  ∀ (m : (ℓ : Loc Cert.ProjBSIdeal.nD Cert.ProjBSIdeal.τ Cert.ProjBSIdeal.sig) → Buf (Elt Ideal) ℓ) (g : Dev Cert.ProjBSIdeal.nD → PrngReg)
    (m' : (ℓ : Loc Cert.ProjBSRefIdeal.nD Cert.ProjBSRefIdeal.τ Cert.ProjBSRefIdeal.sig) → Buf (Elt Ideal) ℓ) (g' : Dev Cert.ProjBSRefIdeal.nD → PrngReg), Pre_ProjBSIdeal m →
    (∀ c : Dev Cert.ProjBSIdeal.nD,
      m' ((c.tc : Thread Cert.ProjBSRefIdeal.nD Cert.ProjBSRefIdeal.τ).loc Cert.ProjBSRefIdeal.main_arg0) = m ((c.tc : Thread Cert.ProjBSIdeal.nD Cert.ProjBSIdeal.τ).loc Cert.ProjBSIdeal.main_arg0)
      ∧ m' ((c.tc : Thread Cert.ProjBSRefIdeal.nD Cert.ProjBSRefIdeal.τ).loc Cert.ProjBSRefIdeal.main_arg1) = m ((c.tc : Thread Cert.ProjBSIdeal.nD Cert.ProjBSIdeal.τ).loc Cert.ProjBSIdeal.main_arg1)
      ∧ m' ((c.tc : Thread Cert.ProjBSRefIdeal.nD Cert.ProjBSRefIdeal.τ).loc Cert.ProjBSRefIdeal.main_arg2) = m ((c.tc : Thread Cert.ProjBSIdeal.nD Cert.ProjBSIdeal.τ).loc Cert.ProjBSIdeal.main_arg2)) →
    ∃ (v0 : (c : Dev Cert.ProjBSIdeal.nD) → Buf (Elt Ideal) ((c.tc : Thread Cert.ProjBSIdeal.nD Cert.ProjBSIdeal.τ).loc Cert.ProjBSIdeal.main_v12_0)) (v1 : (c : Dev Cert.ProjBSIdeal.nD) → Buf (Elt Ideal) ((c.tc : Thread Cert.ProjBSIdeal.nD Cert.ProjBSIdeal.τ).loc Cert.ProjBSIdeal.main_v12_1)) (v2 : (c : Dev Cert.ProjBSIdeal.nD) → Buf (Elt Ideal) ((c.tc : Thread Cert.ProjBSIdeal.nD Cert.ProjBSIdeal.τ).loc Cert.ProjBSIdeal.main_v12_2)) (v3 : (c : Dev Cert.ProjBSIdeal.nD) → Buf (Elt Ideal) ((c.tc : Thread Cert.ProjBSIdeal.nD Cert.ProjBSIdeal.τ).loc Cert.ProjBSIdeal.main_v12_3)),
      θ_run (Cert.ProjBSIdeal.defs (F := Ideal)) (onTc (τ := Cert.ProjBSIdeal.τ) (Cert.ProjBSIdeal.main (F := Ideal))) ⟨m, fun _ => 0, g⟩ (fun r => ∀ c : Dev Cert.ProjBSIdeal.nD,
          r.2.mem ((c.tc : Thread Cert.ProjBSIdeal.nD Cert.ProjBSIdeal.τ).loc Cert.ProjBSIdeal.main_v12_0) = v0 c
          ∧ r.2.mem ((c.tc : Thread Cert.ProjBSIdeal.nD Cert.ProjBSIdeal.τ).loc Cert.ProjBSIdeal.main_v12_1) = v1 c
          ∧ r.2.mem ((c.tc : Thread Cert.ProjBSIdeal.nD Cert.ProjBSIdeal.τ).loc Cert.ProjBSIdeal.main_v12_2) = v2 c
          ∧ r.2.mem ((c.tc : Thread Cert.ProjBSIdeal.nD Cert.ProjBSIdeal.τ).loc Cert.ProjBSIdeal.main_v12_3) = v3 c
          ∧ r.2.mem ((c.tc : Thread Cert.ProjBSIdeal.nD Cert.ProjBSIdeal.τ).loc Cert.ProjBSIdeal.main_arg0) = m ((c.tc : Thread Cert.ProjBSIdeal.nD Cert.ProjBSIdeal.τ).loc Cert.ProjBSIdeal.main_arg0)
          ∧ r.2.mem ((c.tc : Thread Cert.ProjBSIdeal.nD Cert.ProjBSIdeal.τ).loc Cert.ProjBSIdeal.main_arg1) = m ((c.tc : Thread Cert.ProjBSIdeal.nD Cert.ProjBSIdeal.τ).loc Cert.ProjBSIdeal.main_arg1)
          ∧ r.2.mem ((c.tc : Thread Cert.ProjBSIdeal.nD Cert.ProjBSIdeal.τ).loc Cert.ProjBSIdeal.main_arg2) = m ((c.tc : Thread Cert.ProjBSIdeal.nD Cert.ProjBSIdeal.τ).loc Cert.ProjBSIdeal.main_arg2))
      ∧ θ_run (Cert.ProjBSRefIdeal.defs (F := Ideal)) (onTc (τ := Cert.ProjBSRefIdeal.τ) (Cert.ProjBSRefIdeal.main (F := Ideal))) ⟨m', fun _ => 0, g'⟩ (fun r => ∀ c : Dev Cert.ProjBSRefIdeal.nD,
          r.2.mem ((c.tc : Thread Cert.ProjBSRefIdeal.nD Cert.ProjBSRefIdeal.τ).loc Cert.ProjBSRefIdeal.main_v21) = v0 c
          ∧ r.2.mem ((c.tc : Thread Cert.ProjBSRefIdeal.nD Cert.ProjBSRefIdeal.τ).loc Cert.ProjBSRefIdeal.main_v22) = v1 c
          ∧ r.2.mem ((c.tc : Thread Cert.ProjBSRefIdeal.nD Cert.ProjBSRefIdeal.τ).loc Cert.ProjBSRefIdeal.main_v23) = v2 c
          ∧ r.2.mem ((c.tc : Thread Cert.ProjBSRefIdeal.nD Cert.ProjBSRefIdeal.τ).loc Cert.ProjBSRefIdeal.main_v29) = v3 c
          ∧ r.2.mem ((c.tc : Thread Cert.ProjBSRefIdeal.nD Cert.ProjBSRefIdeal.τ).loc Cert.ProjBSRefIdeal.main_arg0) = m' ((c.tc : Thread Cert.ProjBSRefIdeal.nD Cert.ProjBSRefIdeal.τ).loc Cert.ProjBSRefIdeal.main_arg0)
          ∧ r.2.mem ((c.tc : Thread Cert.ProjBSRefIdeal.nD Cert.ProjBSRefIdeal.τ).loc Cert.ProjBSRefIdeal.main_arg1) = m' ((c.tc : Thread Cert.ProjBSRefIdeal.nD Cert.ProjBSRefIdeal.τ).loc Cert.ProjBSRefIdeal.main_arg1)
          ∧ r.2.mem ((c.tc : Thread Cert.ProjBSRefIdeal.nD Cert.ProjBSRefIdeal.τ).loc Cert.ProjBSRefIdeal.main_arg2) = m' ((c.tc : Thread Cert.ProjBSRefIdeal.nD Cert.ProjBSRefIdeal.τ).loc Cert.ProjBSRefIdeal.main_arg2))

def preserves_MlpSF_MlpSFIdeal : Prop :=
  True

def algebraic_MlpSFIdeal_MlpSFRefIdeal [hMlpSFIdeal : Cert.MlpSFIdeal.Facts] [hMlpSFRefIdeal : Cert.MlpSFRefIdeal.Facts] : Prop :=
  ∀ (m : (ℓ : Loc Cert.MlpSFIdeal.nD Cert.MlpSFIdeal.τ Cert.MlpSFIdeal.sig) → Buf (Elt Ideal) ℓ) (g : Dev Cert.MlpSFIdeal.nD → PrngReg)
    (m' : (ℓ : Loc Cert.MlpSFRefIdeal.nD Cert.MlpSFRefIdeal.τ Cert.MlpSFRefIdeal.sig) → Buf (Elt Ideal) ℓ) (g' : Dev Cert.MlpSFRefIdeal.nD → PrngReg), Pre_MlpSFIdeal m →
    (∀ c : Dev Cert.MlpSFIdeal.nD,
      m' ((c.tc : Thread Cert.MlpSFRefIdeal.nD Cert.MlpSFRefIdeal.τ).loc Cert.MlpSFRefIdeal.main_arg0) = m ((c.tc : Thread Cert.MlpSFIdeal.nD Cert.MlpSFIdeal.τ).loc Cert.MlpSFIdeal.main_arg0)
      ∧ m' ((c.tc : Thread Cert.MlpSFRefIdeal.nD Cert.MlpSFRefIdeal.τ).loc Cert.MlpSFRefIdeal.main_arg1) = m ((c.tc : Thread Cert.MlpSFIdeal.nD Cert.MlpSFIdeal.τ).loc Cert.MlpSFIdeal.main_arg1)
      ∧ m' ((c.tc : Thread Cert.MlpSFRefIdeal.nD Cert.MlpSFRefIdeal.τ).loc Cert.MlpSFRefIdeal.main_arg2) = m ((c.tc : Thread Cert.MlpSFIdeal.nD Cert.MlpSFIdeal.τ).loc Cert.MlpSFIdeal.main_arg2)
      ∧ m' ((c.tc : Thread Cert.MlpSFRefIdeal.nD Cert.MlpSFRefIdeal.τ).loc Cert.MlpSFRefIdeal.main_arg3) = m ((c.tc : Thread Cert.MlpSFIdeal.nD Cert.MlpSFIdeal.τ).loc Cert.MlpSFIdeal.main_arg3)
      ∧ m' ((c.tc : Thread Cert.MlpSFRefIdeal.nD Cert.MlpSFRefIdeal.τ).loc Cert.MlpSFRefIdeal.main_arg4) = m ((c.tc : Thread Cert.MlpSFIdeal.nD Cert.MlpSFIdeal.τ).loc Cert.MlpSFIdeal.main_arg4)) →
    ∃ (v0 : (c : Dev Cert.MlpSFIdeal.nD) → Buf (Elt Ideal) ((c.tc : Thread Cert.MlpSFIdeal.nD Cert.MlpSFIdeal.τ).loc Cert.MlpSFIdeal.main_v4)),
      θ_run (Cert.MlpSFIdeal.defs (F := Ideal)) (onTc (τ := Cert.MlpSFIdeal.τ) (Cert.MlpSFIdeal.main (F := Ideal))) ⟨m, fun _ => 0, g⟩ (fun r => ∀ c : Dev Cert.MlpSFIdeal.nD,
          r.2.mem ((c.tc : Thread Cert.MlpSFIdeal.nD Cert.MlpSFIdeal.τ).loc Cert.MlpSFIdeal.main_v4) = v0 c
          ∧ r.2.mem ((c.tc : Thread Cert.MlpSFIdeal.nD Cert.MlpSFIdeal.τ).loc Cert.MlpSFIdeal.main_arg0) = m ((c.tc : Thread Cert.MlpSFIdeal.nD Cert.MlpSFIdeal.τ).loc Cert.MlpSFIdeal.main_arg0)
          ∧ r.2.mem ((c.tc : Thread Cert.MlpSFIdeal.nD Cert.MlpSFIdeal.τ).loc Cert.MlpSFIdeal.main_arg1) = m ((c.tc : Thread Cert.MlpSFIdeal.nD Cert.MlpSFIdeal.τ).loc Cert.MlpSFIdeal.main_arg1)
          ∧ r.2.mem ((c.tc : Thread Cert.MlpSFIdeal.nD Cert.MlpSFIdeal.τ).loc Cert.MlpSFIdeal.main_arg2) = m ((c.tc : Thread Cert.MlpSFIdeal.nD Cert.MlpSFIdeal.τ).loc Cert.MlpSFIdeal.main_arg2)
          ∧ r.2.mem ((c.tc : Thread Cert.MlpSFIdeal.nD Cert.MlpSFIdeal.τ).loc Cert.MlpSFIdeal.main_arg3) = m ((c.tc : Thread Cert.MlpSFIdeal.nD Cert.MlpSFIdeal.τ).loc Cert.MlpSFIdeal.main_arg3)
          ∧ r.2.mem ((c.tc : Thread Cert.MlpSFIdeal.nD Cert.MlpSFIdeal.τ).loc Cert.MlpSFIdeal.main_arg4) = m ((c.tc : Thread Cert.MlpSFIdeal.nD Cert.MlpSFIdeal.τ).loc Cert.MlpSFIdeal.main_arg4))
      ∧ θ_run (Cert.MlpSFRefIdeal.defs (F := Ideal)) (onTc (τ := Cert.MlpSFRefIdeal.τ) (Cert.MlpSFRefIdeal.main (F := Ideal))) ⟨m', fun _ => 0, g'⟩ (fun r => ∀ c : Dev Cert.MlpSFRefIdeal.nD,
          r.2.mem ((c.tc : Thread Cert.MlpSFRefIdeal.nD Cert.MlpSFRefIdeal.τ).loc Cert.MlpSFRefIdeal.main_v30) = v0 c
          ∧ r.2.mem ((c.tc : Thread Cert.MlpSFRefIdeal.nD Cert.MlpSFRefIdeal.τ).loc Cert.MlpSFRefIdeal.main_arg0) = m' ((c.tc : Thread Cert.MlpSFRefIdeal.nD Cert.MlpSFRefIdeal.τ).loc Cert.MlpSFRefIdeal.main_arg0)
          ∧ r.2.mem ((c.tc : Thread Cert.MlpSFRefIdeal.nD Cert.MlpSFRefIdeal.τ).loc Cert.MlpSFRefIdeal.main_arg1) = m' ((c.tc : Thread Cert.MlpSFRefIdeal.nD Cert.MlpSFRefIdeal.τ).loc Cert.MlpSFRefIdeal.main_arg1)
          ∧ r.2.mem ((c.tc : Thread Cert.MlpSFRefIdeal.nD Cert.MlpSFRefIdeal.τ).loc Cert.MlpSFRefIdeal.main_arg2) = m' ((c.tc : Thread Cert.MlpSFRefIdeal.nD Cert.MlpSFRefIdeal.τ).loc Cert.MlpSFRefIdeal.main_arg2)
          ∧ r.2.mem ((c.tc : Thread Cert.MlpSFRefIdeal.nD Cert.MlpSFRefIdeal.τ).loc Cert.MlpSFRefIdeal.main_arg3) = m' ((c.tc : Thread Cert.MlpSFRefIdeal.nD Cert.MlpSFRefIdeal.τ).loc Cert.MlpSFRefIdeal.main_arg3)
          ∧ r.2.mem ((c.tc : Thread Cert.MlpSFRefIdeal.nD Cert.MlpSFRefIdeal.τ).loc Cert.MlpSFRefIdeal.main_arg4) = m' ((c.tc : Thread Cert.MlpSFRefIdeal.nD Cert.MlpSFRefIdeal.τ).loc Cert.MlpSFRefIdeal.main_arg4))

def preserves_ShiftA_ShiftAIdeal : Prop :=
  True

def algebraic_ShiftAIdeal_ShiftARefIdeal [hShiftAIdeal : Cert.ShiftAIdeal.Facts] [hShiftARefIdeal : Cert.ShiftARefIdeal.Facts] : Prop :=
  ∀ (m : (ℓ : Loc Cert.ShiftAIdeal.nD Cert.ShiftAIdeal.τ Cert.ShiftAIdeal.sig) → Buf (Elt Ideal) ℓ) (g : Dev Cert.ShiftAIdeal.nD → PrngReg)
    (m' : (ℓ : Loc Cert.ShiftARefIdeal.nD Cert.ShiftARefIdeal.τ Cert.ShiftARefIdeal.sig) → Buf (Elt Ideal) ℓ) (g' : Dev Cert.ShiftARefIdeal.nD → PrngReg), Pre_ShiftAIdeal m →
    (∀ c : Dev Cert.ShiftAIdeal.nD,
      m' ((c.tc : Thread Cert.ShiftARefIdeal.nD Cert.ShiftARefIdeal.τ).loc Cert.ShiftARefIdeal.main_arg0) = m ((c.tc : Thread Cert.ShiftAIdeal.nD Cert.ShiftAIdeal.τ).loc Cert.ShiftAIdeal.main_arg0)
      ∧ m' ((c.tc : Thread Cert.ShiftARefIdeal.nD Cert.ShiftARefIdeal.τ).loc Cert.ShiftARefIdeal.main_arg1) = m ((c.tc : Thread Cert.ShiftAIdeal.nD Cert.ShiftAIdeal.τ).loc Cert.ShiftAIdeal.main_arg1)) →
    ∃ (v0 : (c : Dev Cert.ShiftAIdeal.nD) → Buf (Elt Ideal) ((c.tc : Thread Cert.ShiftAIdeal.nD Cert.ShiftAIdeal.τ).loc Cert.ShiftAIdeal.main_v2)),
      θ_run (Cert.ShiftAIdeal.defs (F := Ideal)) (onTc (τ := Cert.ShiftAIdeal.τ) (Cert.ShiftAIdeal.main (F := Ideal))) ⟨m, fun _ => 0, g⟩ (fun r => ∀ c : Dev Cert.ShiftAIdeal.nD,
          r.2.mem ((c.tc : Thread Cert.ShiftAIdeal.nD Cert.ShiftAIdeal.τ).loc Cert.ShiftAIdeal.main_v2) = v0 c
          ∧ r.2.mem ((c.tc : Thread Cert.ShiftAIdeal.nD Cert.ShiftAIdeal.τ).loc Cert.ShiftAIdeal.main_arg0) = m ((c.tc : Thread Cert.ShiftAIdeal.nD Cert.ShiftAIdeal.τ).loc Cert.ShiftAIdeal.main_arg0)
          ∧ r.2.mem ((c.tc : Thread Cert.ShiftAIdeal.nD Cert.ShiftAIdeal.τ).loc Cert.ShiftAIdeal.main_arg1) = m ((c.tc : Thread Cert.ShiftAIdeal.nD Cert.ShiftAIdeal.τ).loc Cert.ShiftAIdeal.main_arg1))
      ∧ θ_run (Cert.ShiftARefIdeal.defs (F := Ideal)) (onTc (τ := Cert.ShiftARefIdeal.τ) (Cert.ShiftARefIdeal.main (F := Ideal))) ⟨m', fun _ => 0, g'⟩ (fun r => ∀ c : Dev Cert.ShiftARefIdeal.nD,
          r.2.mem ((c.tc : Thread Cert.ShiftARefIdeal.nD Cert.ShiftARefIdeal.τ).loc Cert.ShiftARefIdeal.main_v3) = v0 c
          ∧ r.2.mem ((c.tc : Thread Cert.ShiftARefIdeal.nD Cert.ShiftARefIdeal.τ).loc Cert.ShiftARefIdeal.main_arg0) = m' ((c.tc : Thread Cert.ShiftARefIdeal.nD Cert.ShiftARefIdeal.τ).loc Cert.ShiftARefIdeal.main_arg0)
          ∧ r.2.mem ((c.tc : Thread Cert.ShiftARefIdeal.nD Cert.ShiftARefIdeal.τ).loc Cert.ShiftARefIdeal.main_arg1) = m' ((c.tc : Thread Cert.ShiftARefIdeal.nD Cert.ShiftARefIdeal.τ).loc Cert.ShiftARefIdeal.main_arg1))

def preserves_ShiftB_ShiftBIdeal : Prop :=
  True

def algebraic_ShiftBIdeal_ShiftBRefIdeal [hShiftBIdeal : Cert.ShiftBIdeal.Facts] [hShiftBRefIdeal : Cert.ShiftBRefIdeal.Facts] : Prop :=
  ∀ (m : (ℓ : Loc Cert.ShiftBIdeal.nD Cert.ShiftBIdeal.τ Cert.ShiftBIdeal.sig) → Buf (Elt Ideal) ℓ) (g : Dev Cert.ShiftBIdeal.nD → PrngReg)
    (m' : (ℓ : Loc Cert.ShiftBRefIdeal.nD Cert.ShiftBRefIdeal.τ Cert.ShiftBRefIdeal.sig) → Buf (Elt Ideal) ℓ) (g' : Dev Cert.ShiftBRefIdeal.nD → PrngReg), Pre_ShiftBIdeal m →
    (∀ c : Dev Cert.ShiftBIdeal.nD,
      m' ((c.tc : Thread Cert.ShiftBRefIdeal.nD Cert.ShiftBRefIdeal.τ).loc Cert.ShiftBRefIdeal.main_arg0) = m ((c.tc : Thread Cert.ShiftBIdeal.nD Cert.ShiftBIdeal.τ).loc Cert.ShiftBIdeal.main_arg0)
      ∧ m' ((c.tc : Thread Cert.ShiftBRefIdeal.nD Cert.ShiftBRefIdeal.τ).loc Cert.ShiftBRefIdeal.main_arg1) = m ((c.tc : Thread Cert.ShiftBIdeal.nD Cert.ShiftBIdeal.τ).loc Cert.ShiftBIdeal.main_arg1)) →
    ∃ (v0 : (c : Dev Cert.ShiftBIdeal.nD) → Buf (Elt Ideal) ((c.tc : Thread Cert.ShiftBIdeal.nD Cert.ShiftBIdeal.τ).loc Cert.ShiftBIdeal.main_v2)),
      θ_run (Cert.ShiftBIdeal.defs (F := Ideal)) (onTc (τ := Cert.ShiftBIdeal.τ) (Cert.ShiftBIdeal.main (F := Ideal))) ⟨m, fun _ => 0, g⟩ (fun r => ∀ c : Dev Cert.ShiftBIdeal.nD,
          r.2.mem ((c.tc : Thread Cert.ShiftBIdeal.nD Cert.ShiftBIdeal.τ).loc Cert.ShiftBIdeal.main_v2) = v0 c
          ∧ r.2.mem ((c.tc : Thread Cert.ShiftBIdeal.nD Cert.ShiftBIdeal.τ).loc Cert.ShiftBIdeal.main_arg0) = m ((c.tc : Thread Cert.ShiftBIdeal.nD Cert.ShiftBIdeal.τ).loc Cert.ShiftBIdeal.main_arg0)
          ∧ r.2.mem ((c.tc : Thread Cert.ShiftBIdeal.nD Cert.ShiftBIdeal.τ).loc Cert.ShiftBIdeal.main_arg1) = m ((c.tc : Thread Cert.ShiftBIdeal.nD Cert.ShiftBIdeal.τ).loc Cert.ShiftBIdeal.main_arg1))
      ∧ θ_run (Cert.ShiftBRefIdeal.defs (F := Ideal)) (onTc (τ := Cert.ShiftBRefIdeal.τ) (Cert.ShiftBRefIdeal.main (F := Ideal))) ⟨m', fun _ => 0, g'⟩ (fun r => ∀ c : Dev Cert.ShiftBRefIdeal.nD,
          r.2.mem ((c.tc : Thread Cert.ShiftBRefIdeal.nD Cert.ShiftBRefIdeal.τ).loc Cert.ShiftBRefIdeal.main_v3) = v0 c
          ∧ r.2.mem ((c.tc : Thread Cert.ShiftBRefIdeal.nD Cert.ShiftBRefIdeal.τ).loc Cert.ShiftBRefIdeal.main_arg0) = m' ((c.tc : Thread Cert.ShiftBRefIdeal.nD Cert.ShiftBRefIdeal.τ).loc Cert.ShiftBRefIdeal.main_arg0)
          ∧ r.2.mem ((c.tc : Thread Cert.ShiftBRefIdeal.nD Cert.ShiftBRefIdeal.τ).loc Cert.ShiftBRefIdeal.main_arg1) = m' ((c.tc : Thread Cert.ShiftBRefIdeal.nD Cert.ShiftBRefIdeal.τ).loc Cert.ShiftBRefIdeal.main_arg1))

def preserves_ShiftC_ShiftCIdeal : Prop :=
  True

def algebraic_ShiftCIdeal_ShiftCRefIdeal [hShiftCIdeal : Cert.ShiftCIdeal.Facts] [hShiftCRefIdeal : Cert.ShiftCRefIdeal.Facts] : Prop :=
  ∀ (m : (ℓ : Loc Cert.ShiftCIdeal.nD Cert.ShiftCIdeal.τ Cert.ShiftCIdeal.sig) → Buf (Elt Ideal) ℓ) (g : Dev Cert.ShiftCIdeal.nD → PrngReg)
    (m' : (ℓ : Loc Cert.ShiftCRefIdeal.nD Cert.ShiftCRefIdeal.τ Cert.ShiftCRefIdeal.sig) → Buf (Elt Ideal) ℓ) (g' : Dev Cert.ShiftCRefIdeal.nD → PrngReg), Pre_ShiftCIdeal m →
    (∀ c : Dev Cert.ShiftCIdeal.nD,
      m' ((c.tc : Thread Cert.ShiftCRefIdeal.nD Cert.ShiftCRefIdeal.τ).loc Cert.ShiftCRefIdeal.main_arg0) = m ((c.tc : Thread Cert.ShiftCIdeal.nD Cert.ShiftCIdeal.τ).loc Cert.ShiftCIdeal.main_arg0)
      ∧ m' ((c.tc : Thread Cert.ShiftCRefIdeal.nD Cert.ShiftCRefIdeal.τ).loc Cert.ShiftCRefIdeal.main_arg1) = m ((c.tc : Thread Cert.ShiftCIdeal.nD Cert.ShiftCIdeal.τ).loc Cert.ShiftCIdeal.main_arg1)) →
    ∃ (v0 : (c : Dev Cert.ShiftCIdeal.nD) → Buf (Elt Ideal) ((c.tc : Thread Cert.ShiftCIdeal.nD Cert.ShiftCIdeal.τ).loc Cert.ShiftCIdeal.main_v2)),
      θ_run (Cert.ShiftCIdeal.defs (F := Ideal)) (onTc (τ := Cert.ShiftCIdeal.τ) (Cert.ShiftCIdeal.main (F := Ideal))) ⟨m, fun _ => 0, g⟩ (fun r => ∀ c : Dev Cert.ShiftCIdeal.nD,
          r.2.mem ((c.tc : Thread Cert.ShiftCIdeal.nD Cert.ShiftCIdeal.τ).loc Cert.ShiftCIdeal.main_v2) = v0 c
          ∧ r.2.mem ((c.tc : Thread Cert.ShiftCIdeal.nD Cert.ShiftCIdeal.τ).loc Cert.ShiftCIdeal.main_arg0) = m ((c.tc : Thread Cert.ShiftCIdeal.nD Cert.ShiftCIdeal.τ).loc Cert.ShiftCIdeal.main_arg0)
          ∧ r.2.mem ((c.tc : Thread Cert.ShiftCIdeal.nD Cert.ShiftCIdeal.τ).loc Cert.ShiftCIdeal.main_arg1) = m ((c.tc : Thread Cert.ShiftCIdeal.nD Cert.ShiftCIdeal.τ).loc Cert.ShiftCIdeal.main_arg1))
      ∧ θ_run (Cert.ShiftCRefIdeal.defs (F := Ideal)) (onTc (τ := Cert.ShiftCRefIdeal.τ) (Cert.ShiftCRefIdeal.main (F := Ideal))) ⟨m', fun _ => 0, g'⟩ (fun r => ∀ c : Dev Cert.ShiftCRefIdeal.nD,
          r.2.mem ((c.tc : Thread Cert.ShiftCRefIdeal.nD Cert.ShiftCRefIdeal.τ).loc Cert.ShiftCRefIdeal.main_v3) = v0 c
          ∧ r.2.mem ((c.tc : Thread Cert.ShiftCRefIdeal.nD Cert.ShiftCRefIdeal.τ).loc Cert.ShiftCRefIdeal.main_arg0) = m' ((c.tc : Thread Cert.ShiftCRefIdeal.nD Cert.ShiftCRefIdeal.τ).loc Cert.ShiftCRefIdeal.main_arg0)
          ∧ r.2.mem ((c.tc : Thread Cert.ShiftCRefIdeal.nD Cert.ShiftCRefIdeal.τ).loc Cert.ShiftCRefIdeal.main_arg1) = m' ((c.tc : Thread Cert.ShiftCRefIdeal.nD Cert.ShiftCRefIdeal.τ).loc Cert.ShiftCRefIdeal.main_arg1))

def preserves_ShiftD_ShiftDIdeal : Prop :=
  True

def algebraic_ShiftDIdeal_ShiftDRefIdeal [hShiftDIdeal : Cert.ShiftDIdeal.Facts] [hShiftDRefIdeal : Cert.ShiftDRefIdeal.Facts] : Prop :=
  ∀ (m : (ℓ : Loc Cert.ShiftDIdeal.nD Cert.ShiftDIdeal.τ Cert.ShiftDIdeal.sig) → Buf (Elt Ideal) ℓ) (g : Dev Cert.ShiftDIdeal.nD → PrngReg)
    (m' : (ℓ : Loc Cert.ShiftDRefIdeal.nD Cert.ShiftDRefIdeal.τ Cert.ShiftDRefIdeal.sig) → Buf (Elt Ideal) ℓ) (g' : Dev Cert.ShiftDRefIdeal.nD → PrngReg), Pre_ShiftDIdeal m →
    (∀ c : Dev Cert.ShiftDIdeal.nD,
      m' ((c.tc : Thread Cert.ShiftDRefIdeal.nD Cert.ShiftDRefIdeal.τ).loc Cert.ShiftDRefIdeal.main_arg0) = m ((c.tc : Thread Cert.ShiftDIdeal.nD Cert.ShiftDIdeal.τ).loc Cert.ShiftDIdeal.main_arg0)
      ∧ m' ((c.tc : Thread Cert.ShiftDRefIdeal.nD Cert.ShiftDRefIdeal.τ).loc Cert.ShiftDRefIdeal.main_arg1) = m ((c.tc : Thread Cert.ShiftDIdeal.nD Cert.ShiftDIdeal.τ).loc Cert.ShiftDIdeal.main_arg1)) →
    ∃ (v0 : (c : Dev Cert.ShiftDIdeal.nD) → Buf (Elt Ideal) ((c.tc : Thread Cert.ShiftDIdeal.nD Cert.ShiftDIdeal.τ).loc Cert.ShiftDIdeal.main_v2)),
      θ_run (Cert.ShiftDIdeal.defs (F := Ideal)) (onTc (τ := Cert.ShiftDIdeal.τ) (Cert.ShiftDIdeal.main (F := Ideal))) ⟨m, fun _ => 0, g⟩ (fun r => ∀ c : Dev Cert.ShiftDIdeal.nD,
          r.2.mem ((c.tc : Thread Cert.ShiftDIdeal.nD Cert.ShiftDIdeal.τ).loc Cert.ShiftDIdeal.main_v2) = v0 c
          ∧ r.2.mem ((c.tc : Thread Cert.ShiftDIdeal.nD Cert.ShiftDIdeal.τ).loc Cert.ShiftDIdeal.main_arg0) = m ((c.tc : Thread Cert.ShiftDIdeal.nD Cert.ShiftDIdeal.τ).loc Cert.ShiftDIdeal.main_arg0)
          ∧ r.2.mem ((c.tc : Thread Cert.ShiftDIdeal.nD Cert.ShiftDIdeal.τ).loc Cert.ShiftDIdeal.main_arg1) = m ((c.tc : Thread Cert.ShiftDIdeal.nD Cert.ShiftDIdeal.τ).loc Cert.ShiftDIdeal.main_arg1))
      ∧ θ_run (Cert.ShiftDRefIdeal.defs (F := Ideal)) (onTc (τ := Cert.ShiftDRefIdeal.τ) (Cert.ShiftDRefIdeal.main (F := Ideal))) ⟨m', fun _ => 0, g'⟩ (fun r => ∀ c : Dev Cert.ShiftDRefIdeal.nD,
          r.2.mem ((c.tc : Thread Cert.ShiftDRefIdeal.nD Cert.ShiftDRefIdeal.τ).loc Cert.ShiftDRefIdeal.main_v3) = v0 c
          ∧ r.2.mem ((c.tc : Thread Cert.ShiftDRefIdeal.nD Cert.ShiftDRefIdeal.τ).loc Cert.ShiftDRefIdeal.main_arg0) = m' ((c.tc : Thread Cert.ShiftDRefIdeal.nD Cert.ShiftDRefIdeal.τ).loc Cert.ShiftDRefIdeal.main_arg0)
          ∧ r.2.mem ((c.tc : Thread Cert.ShiftDRefIdeal.nD Cert.ShiftDRefIdeal.τ).loc Cert.ShiftDRefIdeal.main_arg1) = m' ((c.tc : Thread Cert.ShiftDRefIdeal.nD Cert.ShiftDRefIdeal.τ).loc Cert.ShiftDRefIdeal.main_arg1))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMlp : Cert.Mlp.Facts) (hMlpIdeal : Cert.MlpIdeal.Facts) (hMlpRefIdeal : Cert.MlpRefIdeal.Facts) (hMlpFinal : Cert.MlpFinal.Facts) (hMlpFinalIdeal : Cert.MlpFinalIdeal.Facts) (hMlpFinalRefIdeal : Cert.MlpFinalRefIdeal.Facts) (hProjB : Cert.ProjB.Facts) (hProjBIdeal : Cert.ProjBIdeal.Facts) (hProjBRefIdeal : Cert.ProjBRefIdeal.Facts) (hResid : Cert.Resid.Facts) (hResidIdeal : Cert.ResidIdeal.Facts) (hResidRefIdeal : Cert.ResidRefIdeal.Facts) (hProjBS : Cert.ProjBS.Facts) (hProjBSIdeal : Cert.ProjBSIdeal.Facts) (hProjBSRefIdeal : Cert.ProjBSRefIdeal.Facts) (hMlpSF : Cert.MlpSF.Facts) (hMlpSFIdeal : Cert.MlpSFIdeal.Facts) (hMlpSFRefIdeal : Cert.MlpSFRefIdeal.Facts) (hShiftA : Cert.ShiftA.Facts) (hShiftAIdeal : Cert.ShiftAIdeal.Facts) (hShiftARefIdeal : Cert.ShiftARefIdeal.Facts) (hShiftB : Cert.ShiftB.Facts) (hShiftBIdeal : Cert.ShiftBIdeal.Facts) (hShiftBRefIdeal : Cert.ShiftBRefIdeal.Facts) (hShiftC : Cert.ShiftC.Facts) (hShiftCIdeal : Cert.ShiftCIdeal.Facts) (hShiftCRefIdeal : Cert.ShiftCRefIdeal.Facts) (hShiftD : Cert.ShiftD.Facts) (hShiftDIdeal : Cert.ShiftDIdeal.Facts) (hShiftDRefIdeal : Cert.ShiftDRefIdeal.Facts) (hPre_finite_attn : Cert.Pre_finite_attn.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Proj (hProj := hProj)
    ∧ quiescent_ProjIdeal (hProjIdeal := hProjIdeal)
    ∧ quiescent_ProjRefIdeal (hProjRefIdeal := hProjRefIdeal)
    ∧ quiescent_Mlp (hMlp := hMlp)
    ∧ quiescent_MlpIdeal (hMlpIdeal := hMlpIdeal)
    ∧ quiescent_MlpRefIdeal (hMlpRefIdeal := hMlpRefIdeal)
    ∧ quiescent_MlpFinal (hMlpFinal := hMlpFinal)
    ∧ quiescent_MlpFinalIdeal (hMlpFinalIdeal := hMlpFinalIdeal)
    ∧ quiescent_MlpFinalRefIdeal (hMlpFinalRefIdeal := hMlpFinalRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_Resid (hResid := hResid)
    ∧ quiescent_ResidIdeal (hResidIdeal := hResidIdeal)
    ∧ quiescent_ResidRefIdeal (hResidRefIdeal := hResidRefIdeal)
    ∧ quiescent_ProjBS (hProjBS := hProjBS)
    ∧ quiescent_ProjBSIdeal (hProjBSIdeal := hProjBSIdeal)
    ∧ quiescent_ProjBSRefIdeal (hProjBSRefIdeal := hProjBSRefIdeal)
    ∧ quiescent_MlpSF (hMlpSF := hMlpSF)
    ∧ quiescent_MlpSFIdeal (hMlpSFIdeal := hMlpSFIdeal)
    ∧ quiescent_MlpSFRefIdeal (hMlpSFRefIdeal := hMlpSFRefIdeal)
    ∧ quiescent_ShiftA (hShiftA := hShiftA)
    ∧ quiescent_ShiftAIdeal (hShiftAIdeal := hShiftAIdeal)
    ∧ quiescent_ShiftARefIdeal (hShiftARefIdeal := hShiftARefIdeal)
    ∧ quiescent_ShiftB (hShiftB := hShiftB)
    ∧ quiescent_ShiftBIdeal (hShiftBIdeal := hShiftBIdeal)
    ∧ quiescent_ShiftBRefIdeal (hShiftBRefIdeal := hShiftBRefIdeal)
    ∧ quiescent_ShiftC (hShiftC := hShiftC)
    ∧ quiescent_ShiftCIdeal (hShiftCIdeal := hShiftCIdeal)
    ∧ quiescent_ShiftCRefIdeal (hShiftCRefIdeal := hShiftCRefIdeal)
    ∧ quiescent_ShiftD (hShiftD := hShiftD)
    ∧ quiescent_ShiftDIdeal (hShiftDIdeal := hShiftDIdeal)
    ∧ quiescent_ShiftDRefIdeal (hShiftDRefIdeal := hShiftDRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Proj_ProjIdeal
    ∧ algebraic_ProjIdeal_ProjRefIdeal (hProjIdeal := hProjIdeal) (hProjRefIdeal := hProjRefIdeal)
    ∧ preserves_Mlp_MlpIdeal
    ∧ algebraic_MlpIdeal_MlpRefIdeal (hMlpIdeal := hMlpIdeal) (hMlpRefIdeal := hMlpRefIdeal)
    ∧ preserves_MlpFinal_MlpFinalIdeal
    ∧ algebraic_MlpFinalIdeal_MlpFinalRefIdeal (hMlpFinalIdeal := hMlpFinalIdeal) (hMlpFinalRefIdeal := hMlpFinalRefIdeal)
    ∧ preserves_ProjB_ProjBIdeal
    ∧ algebraic_ProjBIdeal_ProjBRefIdeal (hProjBIdeal := hProjBIdeal) (hProjBRefIdeal := hProjBRefIdeal)
    ∧ preserves_Resid_ResidIdeal
    ∧ algebraic_ResidIdeal_ResidRefIdeal (hResidIdeal := hResidIdeal) (hResidRefIdeal := hResidRefIdeal)
    ∧ preserves_ProjBS_ProjBSIdeal
    ∧ algebraic_ProjBSIdeal_ProjBSRefIdeal (hProjBSIdeal := hProjBSIdeal) (hProjBSRefIdeal := hProjBSRefIdeal)
    ∧ preserves_MlpSF_MlpSFIdeal
    ∧ algebraic_MlpSFIdeal_MlpSFRefIdeal (hMlpSFIdeal := hMlpSFIdeal) (hMlpSFRefIdeal := hMlpSFRefIdeal)
    ∧ preserves_ShiftA_ShiftAIdeal
    ∧ algebraic_ShiftAIdeal_ShiftARefIdeal (hShiftAIdeal := hShiftAIdeal) (hShiftARefIdeal := hShiftARefIdeal)
    ∧ preserves_ShiftB_ShiftBIdeal
    ∧ algebraic_ShiftBIdeal_ShiftBRefIdeal (hShiftBIdeal := hShiftBIdeal) (hShiftBRefIdeal := hShiftBRefIdeal)
    ∧ preserves_ShiftC_ShiftCIdeal
    ∧ algebraic_ShiftCIdeal_ShiftCRefIdeal (hShiftCIdeal := hShiftCIdeal) (hShiftCRefIdeal := hShiftCRefIdeal)
    ∧ preserves_ShiftD_ShiftDIdeal
    ∧ algebraic_ShiftDIdeal_ShiftDRefIdeal (hShiftDIdeal := hShiftDIdeal) (hShiftDRefIdeal := hShiftDRefIdeal)
-- ==== Pre_finite_attn.lean ====
abbrev S32768x1024 : Shape := ⟨2, ![32768, 1024]⟩
abbrev S32768x2048 : Shape := ⟨2, ![32768, 2048]⟩
abbrev S32x16 : Shape := ⟨2, ![32, 16]⟩
abbrev S_ : Shape := ⟨0, ![]⟩

class Facts : Prop where
  slices_S32768x2048_S32768x1024_0_0 : S32768x2048.Slices ![0, 0] S32768x1024
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S32768x1024 .f32) (main_arg1 : FVec F S32768x2048 .f32) (main_arg2 : FVec F S32x16 .f32) : IVec S_ 1 :=
  let main_v0 : FVec F S32768x1024 .f32 := (extractStridedSlice S32768x1024 ![0, 0] · slices_S32768x2048_S32768x1024_0_0) main_arg1
  let main_v1 : FVec F S32768x1024 .f32 := Host.absf main_arg0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := Host.absf main_v0
  let main_cst_0 : FVec F S_ .f32 := constant S_ .f32 0x7F800000#32
  let main_v6 : FVec F S32768x1024 .f32 := broadcastInDim S32768x1024 ![] bcast_S_S32768x1024 main_cst_0
  let main_v7 : IVec S32768x1024 1 := cmpf .olt main_v5 main_v6
  let main_c_1 : IVec S_ 1 := constantI S_ 1 1#1
  let main_v8 : IVec S_ 1 := (fun x v => Host.reduce IntOp.andi x v reducesTo_S32768x1024_S_d0_1 h_S_) main_v7 main_c_1
  let main_v9 : IVec S_ 1 := andi main_v4 main_v8
  let main_v10 : FVec F S32x16 .f32 := Host.absf main_arg2
  let main_cst_2 : FVec F S_ .f32 := constant S_ .f32 0x7F800000#32
  let main_v11 : FVec F S32x16 .f32 := broadcastInDim S32x16 ![] bcast_S_S32x16 main_cst_2
  let main_v12 : IVec S32x16 1 := cmpf .olt main_v10 main_v11
  let main_c_3 : IVec S_ 1 := constantI S_ 1 1#1
  let main_v13 : IVec S_ 1 := (fun x v => Host.reduce IntOp.andi x v reducesTo_S32x16_S_d0_1 h_S_) main_v12 main_c_3
  let main_v14 : IVec S_ 1 := andi main_v9 main_v13
  main_v14
-- ==== Attn.lean ====
abbrev S32768x1024 : Shape := ⟨2, ![32768, 1024]⟩
abbrev S32768x2048 : Shape := ⟨2, ![32768, 2048]⟩
abbrev S32x16 : Shape := ⟨2, ![32, 16]⟩
abbrev S128x256 : Shape := ⟨2, ![128, 256]⟩
abbrev S16x2048x1024 : Shape := ⟨3, ![16, 2048, 1024]⟩
abbrev S16x2048x2048 : Shape := ⟨3, ![16, 2048, 2048]⟩
abbrev S16x32 : Shape := ⟨2, ![16, 32]⟩
abbrev S_ : Shape := ⟨0, ![]⟩
abbrev S128x256x1 : Shape := ⟨3, ![128, 256, 1]⟩
abbrev S1 : Shape := ⟨1, ![1]⟩
abbrev S1x1x1 : Shape := ⟨3, ![1, 1, 1]⟩
abbrev S16x128x256 : Shape := ⟨3, ![16, 128, 256]⟩
abbrev S1x128x256 : Shape := ⟨3, ![1, 128, 256]⟩
abbrev S1x16x128x256 : Shape := ⟨4, ![1, 16, 128, 256]⟩
abbrev S2x16x128x256 : Shape := ⟨4, ![2, 16, 128, 256]⟩
abbrev S16x1x2048x16 : Shape := ⟨4, ![16, 1, 2048, 16]⟩
abbrev S1x128x1024 : Shape := ⟨3, ![1, 128, 1024]⟩
abbrev S1x1x128x16 : Shape := ⟨4, ![1, 1, 128, 16]⟩
abbrev S128x128 : Shape := ⟨2, ![128, 128]⟩
abbrev S128x16 : Shape := ⟨2, ![128, 16]⟩
abbrev S1x128x128 : Shape := ⟨3, ![1, 128, 128]⟩
abbrev S256x128 : Shape := ⟨2, ![256, 128]⟩
abbrev S1x1x128x256 : Shape := ⟨4, ![1, 1, 128, 256]⟩
abbrev S128 : Shape := ⟨1, ![128]⟩
abbrev S128x1 : Shape := ⟨2, ![128, 1]⟩

abbrev nBuf : Space → Nat
  | .hbm => 74
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x2048, .f32⟩
  | .hbm, ⟨2, _⟩ => ⟨S32x16, .f32⟩
  | .hbm, ⟨3, _⟩ => ⟨S128x256, .i32⟩
  | .hbm, ⟨4, _⟩ => ⟨S128x256, .i1⟩
  | .hbm, ⟨5, _⟩ => ⟨S128x256, .i32⟩
  | .hbm, ⟨6, _⟩ => ⟨S128x256, .i1⟩
  | .hbm, ⟨7, _⟩ => ⟨S16x2048x1024, .f32⟩
  | .hbm, ⟨8, _⟩ => ⟨S16x2048x2048, .f32⟩
  | .hbm, ⟨9, _⟩ => ⟨S16x32, .f32⟩
  | .hbm, ⟨10, _⟩ => ⟨S_, .i32⟩
  | .hbm, ⟨11, _⟩ => ⟨S128x256, .i32⟩
  | .hbm, ⟨12, _⟩ => ⟨S128x256, .i1⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S128x256, .i32⟩
  | .hbm, ⟨17, _⟩ => ⟨S128x256x1, .i32⟩
  | .hbm, ⟨18, _⟩ => ⟨S1, .i32⟩
  | .hbm, ⟨19, _⟩ => ⟨S_, .i32⟩
  | .hbm, ⟨20, _⟩ => ⟨S128x256x1, .i32⟩
  | .hbm, ⟨21, _⟩ => ⟨S128x256x1, .i1⟩
  | .hbm, ⟨22, _⟩ => ⟨S1x1x1, .i32⟩
  | .hbm, ⟨23, _⟩ => ⟨S128x256x1, .i32⟩
  | .hbm, ⟨24, _⟩ => ⟨S128x256x1, .i1⟩
  | .hbm, ⟨25, _⟩ => ⟨S128x256x1, .i1⟩
  | .hbm, ⟨26, _⟩ => ⟨S_, .i1⟩
  | .hbm, ⟨27, _⟩ => ⟨S128x256, .i1⟩
  | .hbm, ⟨28, _⟩ => ⟨S16x128x256, .f32⟩
  | .hbm, ⟨29, _⟩ => ⟨S16x128x256, .i1⟩
  | .hbm, ⟨30, _⟩ => ⟨S_, .f32⟩
  | .hbm, ⟨31, _⟩ => ⟨S16x128x256, .f32⟩
  | .hbm, ⟨32, _⟩ => ⟨S16x128x256, .f32⟩
  | .hbm, ⟨33, _⟩ => ⟨S1x128x256, .i1⟩
  | .hbm, ⟨34, _⟩ => ⟨S_, .f32⟩
  | .hbm, ⟨35, _⟩ => ⟨S_, .f32⟩
  | .hbm, ⟨36, _⟩ => ⟨S16x128x256, .i1⟩
  | .hbm, ⟨37, _⟩ => ⟨S16x128x256, .f32⟩
  | .hbm, ⟨38, _⟩ => ⟨S16x128x256, .f32⟩
  | .hbm, ⟨39, _⟩ => ⟨S16x32, .f32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S128x256x1, .i32⟩
  | .hbm, ⟨48, _⟩ => ⟨S1, .i32⟩
  | .hbm, ⟨49, _⟩ => ⟨S_, .i32⟩
  | .hbm, ⟨50, _⟩ => ⟨S128x256x1, .i32⟩
  | .hbm, ⟨51, _⟩ => ⟨S128x256x1, .i1⟩
  | .hbm, ⟨52, _⟩ => ⟨S1x1x1, .i32⟩
  | .hbm, ⟨53, _⟩ => ⟨S128x256x1, .i32⟩
  | .hbm, ⟨54, _⟩ => ⟨S128x256x1, .i1⟩
  | .hbm, ⟨55, _⟩ => ⟨S128x256x1, .i1⟩
  | .hbm, ⟨56, _⟩ => ⟨S_, .i1⟩
  | .hbm, ⟨57, _⟩ => ⟨S128x256, .i1⟩
  | .hbm, ⟨58, _⟩ => ⟨S16x128x256, .f32⟩
  | .hbm, ⟨59, _⟩ => ⟨S16x128x256, .i1⟩
  | .hbm, ⟨60, _⟩ => ⟨S_, .f32⟩
  | .hbm, ⟨61, _⟩ => ⟨S16x128x256, .f32⟩
  | .hbm, ⟨62, _⟩ => ⟨S16x128x256, .f32⟩
  | .hbm, ⟨63, _⟩ => ⟨S1x128x256, .i1⟩
  | .hbm, ⟨64, _⟩ => ⟨S_, .f32⟩
  | .hbm, ⟨65, _⟩ => ⟨S_, .f32⟩
  | .hbm, ⟨66, _⟩ => ⟨S16x128x256, .i1⟩
  | .hbm, ⟨67, _⟩ => ⟨S16x128x256, .f32⟩
  | .hbm, ⟨68, _⟩ => ⟨S16x128x256, .f32⟩
  | .hbm, ⟨69, _⟩ => ⟨S1x16x128x256, .f32⟩
  | .hbm, ⟨70, _⟩ => ⟨S1x16x128x256, .f32⟩
  | .hbm, ⟨71, _⟩ => ⟨S2x16x128x256, .f32⟩
  | .hbm, ⟨72, _⟩ => ⟨S16x2048x1024, .f32⟩
  | .hbm, ⟨73, _⟩ => ⟨S16x1x2048x16, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x16x128x256, .f32⟩
  | .local _ .vmem, ⟨11, _⟩ => ⟨S1x16x128x256, .f32⟩
  | .local _ .vmem, ⟨12, _⟩ => ⟨S1x128x1024, .f32⟩
  | .local _ .vmem, ⟨13, _⟩ => ⟨S1x128x1024, .f32⟩
  | .local _ .vmem, ⟨14, _⟩ => ⟨S1x1x128x16, .f32⟩
  | .local _ .vmem, ⟨15, _⟩ => ⟨S1x1x128x16, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v3 : Ref sig .tc := ⟨.hbm, 32, rfl⟩
abbrev main_v4 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v5 : Ref sig .tc := ⟨.hbm, 38, rfl⟩
abbrev main_v6 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_cst : Ref sig .tc := ⟨.hbm, 60, rfl⟩
abbrev main_call2_v15 : Ref sig .tc := ⟨.hbm, 61, rfl⟩
abbrev main_v7 : Ref sig .tc := ⟨.hbm, 62, rfl⟩
abbrev main_v8 : Ref sig .tc := ⟨.hbm, 63, rfl⟩
abbrev main_cst_3 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13_0 : Ref sig .tc := ⟨.hbm, 72, rfl⟩
abbrev main_v13_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.muli c2_i32 arg1
  let c0_i32_0 : BitVec 32 := 0#32
  ![arg0.toNat, v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, arg2.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.muli c2_i32 arg1
  let c1_i32_0 : BitVec 32 := 1#32
  let v3 : BitVec 32 := Scalar.addi v2 c1_i32_0
  let c0_i32_1 : BitVec 32 := 0#32
  ![arg0.toNat, v1.toNat, v3.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnRefIdeal.lean ====
abbrev S32768x1024 : Shape := ⟨2, ![32768, 1024]⟩
abbrev S32768x2048 : Shape := ⟨2, ![32768, 2048]⟩
abbrev S32x16 : Shape := ⟨2, ![32, 16]⟩
abbrev S129 : Shape := ⟨1, ![129]⟩
abbrev S16x2048x16x64 : Shape := ⟨4, ![16, 2048, 16, 64]⟩
abbrev S16x2048x2x16x64 : Shape := ⟨5, ![16, 2048, 2, 16, 64]⟩
abbrev S16x2048x1x16x64 : Shape := ⟨5, ![16, 2048, 1, 16, 64]⟩
abbrev S_ : Shape := ⟨0, ![]⟩
abbrev S2048 : Shape := ⟨1, ![2048]⟩
abbrev S2048x1 : Shape := ⟨2, ![2048, 1]⟩
abbrev S1x129 : Shape := ⟨2, ![1, 129]⟩
abbrev S2048x129 : Shape := ⟨2, ![2048, 129]⟩
abbrev S2048x129x1 : Shape := ⟨3, ![2048, 129, 1]⟩
abbrev S16x2048x129x16x64 : Shape := ⟨5, ![16, 2048, 129, 16, 64]⟩
abbrev S129x1 : Shape := ⟨2, ![129, 1]⟩
abbrev S129x16 : Shape := ⟨2, ![129, 16]⟩
abbrev S16x129 : Shape := ⟨2, ![16, 129]⟩
abbrev S16x2048x16x129 : Shape := ⟨4, ![16, 2048, 16, 129]⟩
abbrev S1x1x16x129 : Shape := ⟨4, ![1, 1, 16, 129]⟩
abbrev S1x2048x1x129 : Shape := ⟨4, ![1, 2048, 1, 129]⟩
abbrev S16x2048x16 : Shape := ⟨3, ![16, 2048, 16]⟩
abbrev S16x2048x16x1 : Shape := ⟨4, ![16, 2048, 16, 1]⟩
abbrev S16x2048x1024 : Shape := ⟨3, ![16, 2048, 1024]⟩
abbrev S16x1x2048x16 : Shape := ⟨4, ![16, 1, 2048, 16]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .f32⟩
  | .hbm, ⟨2, _⟩ => ⟨S32x16, .f32⟩
  | .hbm, ⟨3, _⟩ => ⟨S129, .i32⟩
  | .hbm, ⟨4, _⟩ => ⟨S129, .i1⟩
  | .hbm, ⟨5, _⟩ => ⟨S16x2048x16x64, .f32⟩
  | .hbm, ⟨6, _⟩ => ⟨S16x2048x2x16x64, .f32⟩
  | .hbm, ⟨7, _⟩ => ⟨S16x2048x1x16x64, .f32⟩
  | .hbm, ⟨8, _⟩ => ⟨S16x2048x16x64, .f32⟩
  | .hbm, ⟨9, _⟩ => ⟨S16x2048x1x16x64, .f32⟩
  | .hbm, ⟨10, _⟩ => ⟨S16x2048x16x64, .f32⟩
  | .hbm, ⟨11, _⟩ => ⟨S129, .i32⟩
  | .hbm, ⟨12, _⟩ => ⟨S_, .i32⟩
  | .hbm, ⟨13, _⟩ => ⟨S129, .i32⟩
  | .hbm, ⟨14, _⟩ => ⟨S129, .i32⟩
  | .hbm, ⟨15, _⟩ => ⟨S2048, .i32⟩
  | .hbm, ⟨16, _⟩ => ⟨S2048x1, .i32⟩
  | .hbm, ⟨17, _⟩ => ⟨S1x129, .i32⟩
  | .hbm, ⟨18, _⟩ => ⟨S2048x129, .i32⟩
  | .hbm, ⟨19, _⟩ => ⟨S2048x129, .i32⟩
  | .hbm, ⟨20, _⟩ => ⟨S2048x129, .i32⟩
  | .hbm, ⟨21, _⟩ => ⟨S_, .i32⟩
  | .hbm, ⟨22, _⟩ => ⟨S2048x129, .i32⟩
  | .hbm, ⟨23, _⟩ => ⟨S2048x129, .i1⟩
  | .hbm, ⟨24, _⟩ => ⟨S_, .i32⟩
  | .hbm, ⟨25, _⟩ => ⟨S2048x129, .i32⟩
  | .hbm, ⟨26, _⟩ => ⟨S2048x129, .i32⟩
  | .hbm, ⟨27, _⟩ => ⟨S_, .i32⟩
  | .hbm, ⟨28, _⟩ => ⟨S2048x129, .i32⟩
  | .hbm, ⟨29, _⟩ => ⟨S2048x129, .i1⟩
  | .hbm, ⟨30, _⟩ => ⟨S_, .i32⟩
  | .hbm, ⟨31, _⟩ => ⟨S2048x129, .i32⟩
  | .hbm, ⟨32, _⟩ => ⟨S2048x129, .i32⟩
  | .hbm, ⟨33, _⟩ => ⟨S2048x129, .i32⟩
  | .hbm, ⟨34, _⟩ => ⟨S2048x129x1, .i32⟩
  | .hbm, ⟨35, _⟩ => ⟨S16x2048x129x16x64, .f32⟩
  | .hbm, ⟨36, _⟩ => ⟨S_, .i32⟩
  | .hbm, ⟨37, _⟩ => ⟨S2048x129, .i32⟩
  | .hbm, ⟨38, _⟩ => ⟨S2048x129, .i1⟩
  | .hbm, ⟨39, _⟩ => ⟨S_, .i32⟩
  | .hbm, ⟨40, _⟩ => ⟨S2048x129, .i32⟩
  | .hbm, ⟨41, _⟩ => ⟨S2048x129, .i32⟩
  | .hbm, ⟨42, _⟩ => ⟨S2048x129, .i32⟩
  | .hbm, ⟨43, _⟩ => ⟨S2048x129x1, .i32⟩
  | .hbm, ⟨44, _⟩ => ⟨S16x2048x129x16x64, .f32⟩
  | .hbm, ⟨45, _⟩ => ⟨S_, .i32⟩
  | .hbm, ⟨46, _⟩ => ⟨S129, .i32⟩
  | .hbm, ⟨47, _⟩ => ⟨S129, .i32⟩
  | .hbm, ⟨48, _⟩ => ⟨S129, .i32⟩
  | .hbm, ⟨49, _⟩ => ⟨S129x1, .i32⟩
  | .hbm, ⟨50, _⟩ => ⟨S129x16, .f32⟩
  | .hbm, ⟨51, _⟩ => ⟨S16x129, .f32⟩
  | .hbm, ⟨52, _⟩ => ⟨S16x2048x16x129, .f32⟩
  | .hbm, ⟨53, _⟩ => ⟨S_, .f32⟩
  | .hbm, ⟨54, _⟩ => ⟨S16x2048x16x129, .f32⟩
  | .hbm, ⟨55, _⟩ => ⟨S16x2048x16x129, .f32⟩
  | .hbm, ⟨56, _⟩ => ⟨S1x1x16x129, .f32⟩
  | .hbm, ⟨57, _⟩ => ⟨S16x2048x16x129, .f32⟩
  | .hbm, ⟨58, _⟩ => ⟨S16x2048x16x129, .f32⟩
  | .hbm, ⟨59, _⟩ => ⟨S1x2048x1x129, .i1⟩
  | .hbm, ⟨60, _⟩ => ⟨S_, .f32⟩
  | .hbm, ⟨61, _⟩ => ⟨S_, .f32⟩
  | .hbm, ⟨62, _⟩ => ⟨S16x2048x16x129, .i1⟩
  | .hbm, ⟨63, _⟩ => ⟨S16x2048x16x129, .f32⟩
  | .hbm, ⟨64, _⟩ => ⟨S16x2048x16x129, .f32⟩
  | .hbm, ⟨65, _⟩ => ⟨S_, .f32⟩
  | .hbm, ⟨66, _⟩ => ⟨S16x2048x16, .f32⟩
  | .hbm, ⟨67, _⟩ => ⟨S16x2048x16x1, .f32⟩
  | .hbm, ⟨68, _⟩ => ⟨S16x2048x16x129, .f32⟩
  | .hbm, ⟨69, _⟩ => ⟨S16x2048x16x129, .f32⟩
  | .hbm, ⟨70, _⟩ => ⟨S16x2048x16x129, .f32⟩
  | .hbm, ⟨71, _⟩ => ⟨S_, .f32⟩
  | .hbm, ⟨72, _⟩ => ⟨S16x2048x16, .f32⟩
  | .hbm, ⟨73, _⟩ => ⟨S16x2048x16x1, .f32⟩
  | .hbm, ⟨74, _⟩ => ⟨S16x2048x16x129, .f32⟩
  | .hbm, ⟨75, _⟩ => ⟨S16x2048x16x129, .f32⟩
  | .hbm, ⟨76, _⟩ => ⟨S16x2048x16x64, .f32⟩
  | .hbm, ⟨77, _⟩ => ⟨S16x2048x16x1, .f32⟩
  | .hbm, ⟨78, _⟩ => ⟨S16x2048x16x1, .f32⟩
  | .hbm, ⟨79, _⟩ => ⟨S16x2048x1024, .f32⟩
  | .hbm, ⟨80, _⟩ => ⟨S16x1x2048x16, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Proj.lean ====
abbrev S16x2048x1024 : Shape := ⟨3, ![16, 2048, 1024]⟩
abbrev S2x1024 : Shape := ⟨2, ![2, 1024]⟩
abbrev S1x1024x9216 : Shape := ⟨3, ![1, 1024, 9216]⟩
abbrev S32768x1024 : Shape := ⟨2, ![32768, 1024]⟩
abbrev S1x1024 : Shape := ⟨2, ![1, 1024]⟩
abbrev S1024 : Shape := ⟨1, ![1024]⟩
abbrev S1024x9216 : Shape := ⟨2, ![1024, 9216]⟩
abbrev S1024x1024 : Shape := ⟨2, ![1024, 1024]⟩
abbrev S1024x2048 : Shape := ⟨2, ![1024, 2048]⟩
abbrev S32768x2048 : Shape := ⟨2, ![32768, 2048]⟩
abbrev S512x1024 : Shape := ⟨2, ![512, 1024]⟩
abbrev S1024x256 : Shape := ⟨2, ![1024, 256]⟩
abbrev S1024x512 : Shape := ⟨2, ![1024, 512]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x9216, .f32⟩
  | .hbm, ⟨3, _⟩ => ⟨S32768x1024, .f32⟩
  | .hbm, ⟨4, _⟩ => ⟨S1x1024, .f32⟩
  | .hbm, ⟨5, _⟩ => ⟨S1024, .f32⟩
  | .hbm, ⟨6, _⟩ => ⟨S1024x9216, .f32⟩
  | .hbm, ⟨7, _⟩ => ⟨S1024x9216, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x2048, .bf16⟩
  | .hbm, ⟨12, _⟩ => ⟨S1024x2048, .bf16⟩
  | .hbm, ⟨13, _⟩ => ⟨S1024x2048, .bf16⟩
  | .hbm, ⟨14, _⟩ => ⟨S1x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x2048, .f32⟩
  | .hbm, ⟨19, _⟩ => ⟨S32768x2048, .f32⟩
  | .hbm, ⟨20, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v12_2 : Ref sig .tc := ⟨.hbm, 17, rfl⟩
abbrev main_v12_3 : Ref sig .tc := ⟨.hbm, 18, rfl⟩
abbrev main_v12_4 : Ref sig .tc := ⟨.hbm, 19, rfl⟩
abbrev main_v12_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjRefIdeal.lean ====
abbrev S16x2048x1024 : Shape := ⟨3, ![16, 2048, 1024]⟩
abbrev S2x1024 : Shape := ⟨2, ![2, 1024]⟩
abbrev S1x1024x9216 : Shape := ⟨3, ![1, 1024, 9216]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x9216 : Shape := ⟨2, ![1024, 9216]⟩
abbrev S16x2048x9216 : Shape := ⟨3, ![16, 2048, 9216]⟩
abbrev S32768x3x3072 : Shape := ⟨3, ![32768, 3, 3072]⟩
abbrev S32768x1x1024 : Shape := ⟨3, ![32768, 1, 1024]⟩
abbrev S32768x1024 : Shape := ⟨2, ![32768, 1024]⟩
abbrev S32768x1x2048 : Shape := ⟨3, ![32768, 1, 2048]⟩
abbrev S32768x2048 : Shape := ⟨2, ![32768, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x9216, .f32⟩
  | .hbm, ⟨3, _⟩ => ⟨S1x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S1024x9216, .f32⟩
  | .hbm, ⟨22, _⟩ => ⟨S16x2048x9216, .f32⟩
  | .hbm, ⟨23, _⟩ => ⟨S32768x3x3072, .f32⟩
  | .hbm, ⟨24, _⟩ => ⟨S32768x1x1024, .f32⟩
  | .hbm, ⟨25, _⟩ => ⟨S32768x1024, .f32⟩
  | .hbm, ⟨26, _⟩ => ⟨S32768x1x1024, .f32⟩
  | .hbm, ⟨27, _⟩ => ⟨S32768x1024, .f32⟩
  | .hbm, ⟨28, _⟩ => ⟨S32768x1x1024, .f32⟩
  | .hbm, ⟨29, _⟩ => ⟨S32768x1024, .f32⟩
  | .hbm, ⟨30, _⟩ => ⟨S32768x1x2048, .f32⟩
  | .hbm, ⟨31, _⟩ => ⟨S32768x2048, .f32⟩
  | .hbm, ⟨32, _⟩ => ⟨S32768x1x2048, .f32⟩
  | .hbm, ⟨33, _⟩ => ⟨S32768x2048, .f32⟩
  | .hbm, ⟨34, _⟩ => ⟨S32768x1x2048, .f32⟩
  | .hbm, ⟨35, _⟩ => ⟨S32768x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Mlp.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x4096, .f32⟩
  | .hbm, ⟨26, _⟩ => ⟨S32768x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== MlpFinal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpFinalRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x4096, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== ProjB.lean ====
abbrev S32768x1024 : Shape := ⟨2, ![32768, 1024]⟩
abbrev S2x1024 : Shape := ⟨2, ![2, 1024]⟩
abbrev S1x1024x2608 : Shape := ⟨3, ![1, 1024, 2608]⟩
abbrev S1x1024 : Shape := ⟨2, ![1, 1024]⟩
abbrev S1024 : Shape := ⟨1, ![1024]⟩
abbrev S1024x2608 : Shape := ⟨2, ![1024, 2608]⟩
abbrev S1024x48 : Shape := ⟨2, ![1024, 48]⟩
abbrev S1024x4x12 : Shape := ⟨3, ![1024, 4, 12]⟩
abbrev S_ : Shape := ⟨0, ![]⟩
abbrev S1024x4x128 : Shape := ⟨3, ![1024, 4, 128]⟩
abbrev S1024x512 : Shape := ⟨2, ![1024, 512]⟩
abbrev S1024x1024 : Shape := ⟨2, ![1024, 1024]⟩
abbrev S32768x512 : Shape := ⟨2, ![32768, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2608, .f32⟩
  | .hbm, ⟨3, _⟩ => ⟨S1x1024, .f32⟩
  | .hbm, ⟨4, _⟩ => ⟨S1024, .f32⟩
  | .hbm, ⟨5, _⟩ => ⟨S1024x2608, .f32⟩
  | .hbm, ⟨6, _⟩ => ⟨S1024x2608, .bf16⟩
  | .hbm, ⟨7, _⟩ => ⟨S1024x48, .bf16⟩
  | .hbm, ⟨8, _⟩ => ⟨S1024x4x12, .bf16⟩
  | .hbm, ⟨9, _⟩ => ⟨S_, .i32⟩
  | .hbm, ⟨10, _⟩ => ⟨S_, .bf16⟩
  | .hbm, ⟨11, _⟩ => ⟨S1024x4x128, .bf16⟩
  | .hbm, ⟨12, _⟩ => ⟨S1024x512, .bf16⟩
  | .hbm, ⟨13, _⟩ => ⟨S1024x1024, .bf16⟩
  | .hbm, ⟨14, _⟩ => ⟨S1024x1024, .bf16⟩
  | .hbm, ⟨15, _⟩ => ⟨S1024x512, .bf16⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x512, .f32⟩
  | .hbm, ⟨20, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjBRefIdeal.lean ====
abbrev S32768x1024 : Shape := ⟨2, ![32768, 1024]⟩
abbrev S2x1024 : Shape := ⟨2, ![2, 1024]⟩
abbrev S1x1024x2608 : Shape := ⟨3, ![1, 1024, 2608]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2608 : Shape := ⟨2, ![1024, 2608]⟩
abbrev S32768x2608 : Shape := ⟨2, ![32768, 2608]⟩
abbrev S32768x48 : Shape := ⟨2, ![32768, 48]⟩
abbrev S32768x4x12 : Shape := ⟨3, ![32768, 4, 12]⟩
abbrev S32768x4x128 : Shape := ⟨3, ![32768, 4, 128]⟩
abbrev S32768x512 : Shape := ⟨2, ![32768, 512]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2608, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x2608, .f32⟩
  | .hbm, ⟨22, _⟩ => ⟨S32768x2608, .f32⟩
  | .hbm, ⟨23, _⟩ => ⟨S32768x48, .f32⟩
  | .hbm, ⟨24, _⟩ => ⟨S32768x4x12, .f32⟩
  | .hbm, ⟨25, _⟩ => ⟨S_, .i32⟩
  | .hbm, ⟨26, _⟩ => ⟨S_, .f32⟩
  | .hbm, ⟨27, _⟩ => ⟨S32768x4x128, .f32⟩
  | .hbm, ⟨28, _⟩ => ⟨S32768x512, .f32⟩
  | .hbm, ⟨29, _⟩ => ⟨S32768x1024, .f32⟩
  | .hbm, ⟨30, _⟩ => ⟨S32768x1024, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Resid.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024x1024, .bf16⟩
  | .hbm, ⟨4, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidRefIdeal.lean ====
abbrev S32768x1024 : Shape := ⟨2, ![32768, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S32768x1024, .f32⟩
  | .hbm, ⟨4, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ProjBS.lean ====
abbrev S32x1024 : Shape := ⟨2, ![32, 1024]⟩
abbrev S2x1024 : Shape := ⟨2, ![2, 1024]⟩
abbrev S1x1024x2608 : Shape := ⟨3, ![1, 1024, 2608]⟩
abbrev S1x1024 : Shape := ⟨2, ![1, 1024]⟩
abbrev S1024 : Shape := ⟨1, ![1024]⟩
abbrev S1024x2608 : Shape := ⟨2, ![1024, 2608]⟩
abbrev S1024x48 : Shape := ⟨2, ![1024, 48]⟩
abbrev S1024x4x12 : Shape := ⟨3, ![1024, 4, 12]⟩
abbrev S_ : Shape := ⟨0, ![]⟩
abbrev S1024x4x128 : Shape := ⟨3, ![1024, 4, 128]⟩
abbrev S1024x512 : Shape := ⟨2, ![1024, 512]⟩
abbrev S1024x1024 : Shape := ⟨2, ![1024, 1024]⟩
abbrev S32x512 : Shape := ⟨2, ![32, 512]⟩
abbrev S32 : Shape := ⟨1, ![32]⟩
abbrev S32x1 : Shape := ⟨2, ![32, 1]⟩

abbrev nBuf : Space → Nat
  | .hbm => 21
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S2x1024, .f32⟩
  | .hbm, ⟨2, _⟩ => ⟨S1x1024x2608, .f32⟩
  | .hbm, ⟨3, _⟩ => ⟨S1x1024, .f32⟩
  | .hbm, ⟨4, _⟩ => ⟨S1024, .f32⟩
  | .hbm, ⟨5, _⟩ => ⟨S1024x2608, .f32⟩
  | .hbm, ⟨6, _⟩ => ⟨S1024x2608, .bf16⟩
  | .hbm, ⟨7, _⟩ => ⟨S1024x48, .bf16⟩
  | .hbm, ⟨8, _⟩ => ⟨S1024x4x12, .bf16⟩
  | .hbm, ⟨9, _⟩ => ⟨S_, .i32⟩
  | .hbm, ⟨10, _⟩ => ⟨S_, .bf16⟩
  | .hbm, ⟨11, _⟩ => ⟨S1024x4x128, .bf16⟩
  | .hbm, ⟨12, _⟩ => ⟨S1024x512, .bf16⟩
  | .hbm, ⟨13, _⟩ => ⟨S1024x1024, .bf16⟩
  | .hbm, ⟨14, _⟩ => ⟨S1024x1024, .bf16⟩
  | .hbm, ⟨15, _⟩ => ⟨S1024x512, .bf16⟩
  | .hbm, ⟨16, _⟩ => ⟨S1x1024, .f32⟩
  | .hbm, ⟨17, _⟩ => ⟨S32x1024, .f32⟩
  | .hbm, ⟨18, _⟩ => ⟨S32x1024, .f32⟩
  | .hbm, ⟨19, _⟩ => ⟨S32x512, .f32⟩
  | .hbm, ⟨20, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S32x1024, .f32⟩
  | .local _ .vmem, ⟨7, _⟩ => ⟨S32x1024, .f32⟩
  | .local _ .vmem, ⟨8, _⟩ => ⟨S32x512, .f32⟩
  | .local _ .vmem, ⟨9, _⟩ => ⟨S32x512, .f32⟩
  | .local _ .vmem, ⟨10, _⟩ => ⟨S32x1024, .bf16⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== ProjBSRefIdeal.lean ====
abbrev S32x1024 : Shape := ⟨2, ![32, 1024]⟩
abbrev S2x1024 : Shape := ⟨2, ![2, 1024]⟩
abbrev S1x1024x2608 : Shape := ⟨3, ![1, 1024, 2608]⟩
abbrev S1x1024 : Shape := ⟨2, ![1, 1024]⟩
abbrev S1024 : Shape := ⟨1, ![1024]⟩
abbrev S_ : Shape := ⟨0, ![]⟩
abbrev S32 : Shape := ⟨1, ![32]⟩
abbrev S32x1 : Shape := ⟨2, ![32, 1]⟩
abbrev S1024x2608 : Shape := ⟨2, ![1024, 2608]⟩
abbrev S32x2608 : Shape := ⟨2, ![32, 2608]⟩
abbrev S32x48 : Shape := ⟨2, ![32, 48]⟩
abbrev S32x4x12 : Shape := ⟨3, ![32, 4, 12]⟩
abbrev S32x4x128 : Shape := ⟨3, ![32, 4, 128]⟩
abbrev S32x512 : Shape := ⟨2, ![32, 512]⟩

abbrev nBuf : Space → Nat
  | .hbm => 40
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x1024, .f32⟩
  | .hbm, ⟨2, _⟩ => ⟨S1x1024x2608, .f32⟩
  | .hbm, ⟨3, _⟩ => ⟨S1x1024, .f32⟩
  | .hbm, ⟨4, _⟩ => ⟨S1024, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S1024x2608, .f32⟩
  | .hbm, ⟨22, _⟩ => ⟨S32x2608, .f32⟩
  | .hbm, ⟨23, _⟩ => ⟨S32x48, .f32⟩
  | .hbm, ⟨24, _⟩ => ⟨S32x4x12, .f32⟩
  | .hbm, ⟨25, _⟩ => ⟨S_, .i32⟩
  | .hbm, ⟨26, _⟩ => ⟨S_, .f32⟩
  | .hbm, ⟨27, _⟩ => ⟨S32x4x128, .f32⟩
  | .hbm, ⟨28, _⟩ => ⟨S32x512, .f32⟩
  | .hbm, ⟨29, _⟩ => ⟨S32x1024, .f32⟩
  | .hbm, ⟨30, _⟩ => ⟨S32x1024, .f32⟩
  | .hbm, ⟨31, _⟩ => ⟨S32x512, .f32⟩
  | .hbm, ⟨32, _⟩ => ⟨S32x512, .f32⟩
  | .hbm, ⟨33, _⟩ => ⟨S32x512, .f32⟩
  | .hbm, ⟨34, _⟩ => ⟨S_, .f32⟩
  | .hbm, ⟨35, _⟩ => ⟨S32x512, .f32⟩
  | .hbm, ⟨36, _⟩ => ⟨S32x512, .f32⟩
  | .hbm, ⟨37, _⟩ => ⟨S_, .f32⟩
  | .hbm, ⟨38, _⟩ => ⟨S32x512, .f32⟩
  | .hbm, ⟨39, _⟩ => ⟨S32x512, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== MlpSF.lean ====
abbrev S32x1024 : Shape := ⟨2, ![32, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S32 : Shape := ⟨1, ![32]⟩
abbrev S32x1 : Shape := ⟨2, ![32, 1]⟩

abbrev nBuf : Space → Nat
  | .hbm => 10
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S32x1024, .f32⟩
  | .local _ .vmem, ⟨8, _⟩ => ⟨S32x1024, .bf16⟩
  | .local _ .vmem, ⟨9, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== MlpSFRefIdeal.lean ====
abbrev S32x1024 : Shape := ⟨2, ![32, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x4096 : Shape := ⟨2, ![32, 4096]⟩

abbrev nBuf : Space → Nat
  | .hbm => 44
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S32x4096, .f32⟩
  | .hbm, ⟨22, _⟩ => ⟨S_, .f32⟩
  | .hbm, ⟨23, _⟩ => ⟨S32x4096, .f32⟩
  | .hbm, ⟨24, _⟩ => ⟨S32x4096, .f32⟩
  | .hbm, ⟨25, _⟩ => ⟨S32x4096, .f32⟩
  | .hbm, ⟨26, _⟩ => ⟨S32x1024, .f32⟩
  | .hbm, ⟨27, _⟩ => ⟨S32x1024, .f32⟩
  | .hbm, ⟨28, _⟩ => ⟨S32x1024, .f32⟩
  | .hbm, ⟨29, _⟩ => ⟨S_, .f32⟩
  | .hbm, ⟨30, _⟩ => ⟨S32, .f32⟩
  | .hbm, ⟨31, _⟩ => ⟨S32x1, .f32⟩
  | .hbm, ⟨32, _⟩ => ⟨S_, .f32⟩
  | .hbm, ⟨33, _⟩ => ⟨S32x1, .f32⟩
  | .hbm, ⟨34, _⟩ => ⟨S32x1, .f32⟩
  | .hbm, ⟨35, _⟩ => ⟨S_, .f32⟩
  | .hbm, ⟨36, _⟩ => ⟨S32x1, .f32⟩
  | .hbm, ⟨37, _⟩ => ⟨S32x1, .f32⟩
  | .hbm, ⟨38, _⟩ => ⟨S32x1, .f32⟩
  | .hbm, ⟨39, _⟩ => ⟨S32x1024, .f32⟩
  | .hbm, ⟨40, _⟩ => ⟨S32x1024, .f32⟩
  | .hbm, ⟨41, _⟩ => ⟨S1x1024, .f32⟩
  | .hbm, ⟨42, _⟩ => ⟨S32x1024, .f32⟩
  | .hbm, ⟨43, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== ShiftA.lean ====
abbrev S32x128x2048 : Shape := ⟨3, ![32, 128, 2048]⟩
abbrev S32x2048 : Shape := ⟨2, ![32, 2048]⟩
abbrev S32x128x16x128 : Shape := ⟨4, ![32, 128, 16, 128]⟩
abbrev S32x1x16x128 : Shape := ⟨4, ![32, 1, 16, 128]⟩
abbrev S9 : Shape := ⟨1, ![9]⟩
abbrev S1 : Shape := ⟨1, ![1]⟩
abbrev S_ : Shape := ⟨0, ![]⟩
abbrev S4x127x16x128 : Shape := ⟨4, ![4, 127, 16, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x128x2048, .f32⟩
  | .hbm, ⟨1, _⟩ => ⟨S32x2048, .f32⟩
  | .hbm, ⟨2, _⟩ => ⟨S32x128x16x128, .f32⟩
  | .hbm, ⟨3, _⟩ => ⟨S32x1x16x128, .f32⟩
  | .hbm, ⟨4, _⟩ => ⟨S32x128x16x128, .f32⟩
  | _, _ => ⟨S32x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

abbrev grid0 : Pipeline.Grid := .none
-- ==== ShiftAIdeal.lean ====
abbrev S32x128x2048 : Shape := ⟨3, ![32, 128, 2048]⟩
abbrev S32x2048 : Shape := ⟨2, ![32, 2048]⟩
abbrev S32x128x16x128 : Shape := ⟨4, ![32, 128, 16, 128]⟩
abbrev S32x1x16x128 : Shape := ⟨4, ![32, 1, 16, 128]⟩
abbrev S9 : Shape := ⟨1, ![9]⟩
abbrev S1 : Shape := ⟨1, ![1]⟩
abbrev S_ : Shape := ⟨0, ![]⟩
abbrev S4x127x16x128 : Shape := ⟨4, ![4, 127, 16, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x128x2048, .f32⟩
  | .hbm, ⟨1, _⟩ => ⟨S32x2048, .f32⟩
  | .hbm, ⟨2, _⟩ => ⟨S32x128x16x128, .f32⟩
  | .hbm, ⟨3, _⟩ => ⟨S32x1x16x128, .f32⟩
  | .hbm, ⟨4, _⟩ => ⟨S32x128x16x128, .f32⟩
  | _, _ => ⟨S32x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

abbrev grid0 : Pipeline.Grid := .none
-- ==== ShiftARefIdeal.lean ====
abbrev S32x128x2048 : Shape := ⟨3, ![32, 128, 2048]⟩
abbrev S32x2048 : Shape := ⟨2, ![32, 2048]⟩
abbrev S32x127x2048 : Shape := ⟨3, ![32, 127, 2048]⟩
abbrev S32x1x2048 : Shape := ⟨3, ![32, 1, 2048]⟩
abbrev S32x128x16x128 : Shape := ⟨4, ![32, 128, 16, 128]⟩

abbrev nBuf : Space → Nat
  | .hbm => 6
  | .vmem => 0
  | .smem => 0
  | _ => 0

abbrev bufTy : (tb : Table) → Fin (tcTables nBuf tb) → BufTy
  | .hbm, ⟨0, _⟩ => ⟨S32x128x2048, .f32⟩
  | .hbm, ⟨1, _⟩ => ⟨S32x2048, .f32⟩
  | .hbm, ⟨2, _⟩ => ⟨S32x127x2048, .f32⟩
  | .hbm, ⟨3, _⟩ => ⟨S32x1x2048, .f32⟩
  | .hbm, ⟨4, _⟩ => ⟨S32x128x2048, .f32⟩
  | .hbm, ⟨5, _⟩ => ⟨S32x128x16x128, .f32⟩
  | _, _ => ⟨S32x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ShiftB.lean ====
abbrev S32x512x2048 : Shape := ⟨3, ![32, 512, 2048]⟩
abbrev S32x2048 : Shape := ⟨2, ![32, 2048]⟩
abbrev S32x512x16x128 : Shape := ⟨4, ![32, 512, 16, 128]⟩
abbrev S32x1x16x128 : Shape := ⟨4, ![32, 1, 16, 128]⟩
abbrev S9 : Shape := ⟨1, ![9]⟩
abbrev S1 : Shape := ⟨1, ![1]⟩
abbrev S_ : Shape := ⟨0, ![]⟩
abbrev S4x511x16x128 : Shape := ⟨4, ![4, 511, 16, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x512x2048, .f32⟩
  | .hbm, ⟨1, _⟩ => ⟨S32x2048, .f32⟩
  | .hbm, ⟨2, _⟩ => ⟨S32x512x16x128, .f32⟩
  | .hbm, ⟨3, _⟩ => ⟨S32x1x16x128, .f32⟩
  | .hbm, ⟨4, _⟩ => ⟨S32x512x16x128, .f32⟩
  | _, _ => ⟨S32x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

abbrev grid0 : Pipeline.Grid := .none
-- ==== ShiftBIdeal.lean ====
abbrev S32x512x2048 : Shape := ⟨3, ![32, 512, 2048]⟩
abbrev S32x2048 : Shape := ⟨2, ![32, 2048]⟩
abbrev S32x512x16x128 : Shape := ⟨4, ![32, 512, 16, 128]⟩
abbrev S32x1x16x128 : Shape := ⟨4, ![32, 1, 16, 128]⟩
abbrev S9 : Shape := ⟨1, ![9]⟩
abbrev S1 : Shape := ⟨1, ![1]⟩
abbrev S_ : Shape := ⟨0, ![]⟩
abbrev S4x511x16x128 : Shape := ⟨4, ![4, 511, 16, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x512x2048, .f32⟩
  | .hbm, ⟨1, _⟩ => ⟨S32x2048, .f32⟩
  | .hbm, ⟨2, _⟩ => ⟨S32x512x16x128, .f32⟩
  | .hbm, ⟨3, _⟩ => ⟨S32x1x16x128, .f32⟩
  | .hbm, ⟨4, _⟩ => ⟨S32x512x16x128, .f32⟩
  | _, _ => ⟨S32x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

abbrev grid0 : Pipeline.Grid := .none
-- ==== ShiftBRefIdeal.lean ====
abbrev S32x512x2048 : Shape := ⟨3, ![32, 512, 2048]⟩
abbrev S32x2048 : Shape := ⟨2, ![32, 2048]⟩
abbrev S32x511x2048 : Shape := ⟨3, ![32, 511, 2048]⟩
abbrev S32x1x2048 : Shape := ⟨3, ![32, 1, 2048]⟩
abbrev S32x512x16x128 : Shape := ⟨4, ![32, 512, 16, 128]⟩

abbrev nBuf : Space → Nat
  | .hbm => 6
  | .vmem => 0
  | .smem => 0
  | _ => 0

abbrev bufTy : (tb : Table) → Fin (tcTables nBuf tb) → BufTy
  | .hbm, ⟨0, _⟩ => ⟨S32x512x2048, .f32⟩
  | .hbm, ⟨1, _⟩ => ⟨S32x2048, .f32⟩
  | .hbm, ⟨2, _⟩ => ⟨S32x511x2048, .f32⟩
  | .hbm, ⟨3, _⟩ => ⟨S32x1x2048, .f32⟩
  | .hbm, ⟨4, _⟩ => ⟨S32x512x2048, .f32⟩
  | .hbm, ⟨5, _⟩ => ⟨S32x512x16x128, .f32⟩
  | _, _ => ⟨S32x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ShiftC.lean ====
abbrev S32x2048x2048 : Shape := ⟨3, ![32, 2048, 2048]⟩
abbrev S32x2048 : Shape := ⟨2, ![32, 2048]⟩
abbrev S32x2048x16x128 : Shape := ⟨4, ![32, 2048, 16, 128]⟩
abbrev S32x1x16x128 : Shape := ⟨4, ![32, 1, 16, 128]⟩
abbrev S9 : Shape := ⟨1, ![9]⟩
abbrev S1 : Shape := ⟨1, ![1]⟩
abbrev S_ : Shape := ⟨0, ![]⟩
abbrev S4x2047x16x128 : Shape := ⟨4, ![4, 2047, 16, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x2048x2048, .f32⟩
  | .hbm, ⟨1, _⟩ => ⟨S32x2048, .f32⟩
  | .hbm, ⟨2, _⟩ => ⟨S32x2048x16x128, .f32⟩
  | .hbm, ⟨3, _⟩ => ⟨S32x1x16x128, .f32⟩
  | .hbm, ⟨4, _⟩ => ⟨S32x2048x16x128, .f32⟩
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

abbrev grid0 : Pipeline.Grid := .none
-- ==== ShiftCIdeal.lean ====
abbrev S32x2048x2048 : Shape := ⟨3, ![32, 2048, 2048]⟩
abbrev S32x2048 : Shape := ⟨2, ![32, 2048]⟩
abbrev S32x2048x16x128 : Shape := ⟨4, ![32, 2048, 16, 128]⟩
abbrev S32x1x16x128 : Shape := ⟨4, ![32, 1, 16, 128]⟩
abbrev S9 : Shape := ⟨1, ![9]⟩
abbrev S1 : Shape := ⟨1, ![1]⟩
abbrev S_ : Shape := ⟨0, ![]⟩
abbrev S4x2047x16x128 : Shape := ⟨4, ![4, 2047, 16, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x2048x2048, .f32⟩
  | .hbm, ⟨1, _⟩ => ⟨S32x2048, .f32⟩
  | .hbm, ⟨2, _⟩ => ⟨S32x2048x16x128, .f32⟩
  | .hbm, ⟨3, _⟩ => ⟨S32x1x16x128, .f32⟩
  | .hbm, ⟨4, _⟩ => ⟨S32x2048x16x128, .f32⟩
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

abbrev grid0 : Pipeline.Grid := .none
-- ==== ShiftCRefIdeal.lean ====
abbrev S32x2048x2048 : Shape := ⟨3, ![32, 2048, 2048]⟩
abbrev S32x2048 : Shape := ⟨2, ![32, 2048]⟩
abbrev S32x2047x2048 : Shape := ⟨3, ![32, 2047, 2048]⟩
abbrev S32x1x2048 : Shape := ⟨3, ![32, 1, 2048]⟩
abbrev S32x2048x16x128 : Shape := ⟨4, ![32, 2048, 16, 128]⟩

abbrev nBuf : Space → Nat
  | .hbm => 6
  | .vmem => 0
  | .smem => 0
  | _ => 0

abbrev bufTy : (tb : Table) → Fin (tcTables nBuf tb) → BufTy
  | .hbm, ⟨0, _⟩ => ⟨S32x2048x2048, .f32⟩
  | .hbm, ⟨1, _⟩ => ⟨S32x2048, .f32⟩
  | .hbm, ⟨2, _⟩ => ⟨S32x2047x2048, .f32⟩
  | .hbm, ⟨3, _⟩ => ⟨S32x1x2048, .f32⟩
  | .hbm, ⟨4, _⟩ => ⟨S32x2048x2048, .f32⟩
  | .hbm, ⟨5, _⟩ => ⟨S32x2048x16x128, .f32⟩
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ShiftD.lean ====
abbrev S32x512x512 : Shape := ⟨3, ![32, 512, 512]⟩
abbrev S32x512 : Shape := ⟨2, ![32, 512]⟩
abbrev S32x512x4x128 : Shape := ⟨4, ![32, 512, 4, 128]⟩
abbrev S32x1x4x128 : Shape := ⟨4, ![32, 1, 4, 128]⟩
abbrev S9 : Shape := ⟨1, ![9]⟩
abbrev S1 : Shape := ⟨1, ![1]⟩
abbrev S_ : Shape := ⟨0, ![]⟩
abbrev S4x511x4x128 : Shape := ⟨4, ![4, 511, 4, 128]⟩

abbrev nBuf : Space → Nat
  | .hbm => 5
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512, .f32⟩
  | .hbm, ⟨2, _⟩ => ⟨S32x512x4x128, .f32⟩
  | .hbm, ⟨3, _⟩ => ⟨S32x1x4x128, .f32⟩
  | .hbm, ⟨4, _⟩ => ⟨S32x512x4x128, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

abbrev grid0 : Pipeline.Grid := .none
-- ==== ShiftDRefIdeal.lean ====
abbrev S32x512x512 : Shape := ⟨3, ![32, 512, 512]⟩
abbrev S32x512 : Shape := ⟨2, ![32, 512]⟩
abbrev S32x511x512 : Shape := ⟨3, ![32, 511, 512]⟩
abbrev S32x1x512 : Shape := ⟨3, ![32, 1, 512]⟩
abbrev S32x512x4x128 : Shape := ⟨4, ![32, 512, 4, 128]⟩

abbrev nBuf : Space → Nat
  | .hbm => 6
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512, .f32⟩
  | .hbm, ⟨2, _⟩ => ⟨S32x511x512, .f32⟩
  | .hbm, ⟨3, _⟩ => ⟨S32x1x512, .f32⟩
  | .hbm, ⟨4, _⟩ => ⟨S32x512x512, .f32⟩
  | .hbm, ⟨5, _⟩ => ⟨S32x512x4x128, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Common.lean ====
module

public import proofs.«01_k».proof.Defs
public import Idealize.ShloMosaic.Lib.Pointwise

@[expose] public section

noncomputable section

/-! What the projection and the gated layer compute, written over plain rows and matrices of extended reals. -/

namespace Cert.Common

open Idealize.ShloMosaic

/-- Element `k` of the root-mean-square normalised row `x`, scaled by `g`. -/
def rmsAt (x g : Fin 1024 → EReal) (k : Fin 1024) : EReal :=
  x k * Ideal.rsqrt (Ideal.div (∑ j, x j * x j) (Ideal.ofBits .f32 1149239296#32) + Ideal.ofBits .f32 897988541#32) * g k

/-- The normalised row times one column. -/
def projAt (x g w : Fin 1024 → EReal) : EReal := ∑ k, rmsAt x g k * w k

/-- Element `h` of the hidden row: the normalised row times column `h`, cut at zero. -/
def hidAt (x g : Fin 1024 → EReal) (wu : Fin 1024 → Fin 4096 → EReal) (h : Fin 4096) : EReal :=
  max (∑ k, rmsAt x g k * wu k h) 0

/-- Element `q` of the layer's row: the row plus the squared hidden row times column `q`. -/
def mlpAt (x g : Fin 1024 → EReal) (wu : Fin 1024 → Fin 4096 → EReal) (wd : Fin 4096 → Fin 1024 → EReal) (q : Fin 1024) : EReal :=
  x q + ∑ h, hidAt x g wu h * hidAt x g wu h * wd h q

/-- Hidden block `s` of four has its 1024 columns from `1024 * s` on. -/
def col (s : ℕ) (j : Fin 1024) : Fin 4096 := ⟨1024 * (s % 4) + j.val, by have := j.isLt; omega⟩

/-- A sum over 4096 columns is the sum over its four blocks. -/
theorem sum_blocks (f : Fin 4096 → EReal) : ∑ s ∈ Finset.range 4, ∑ j : Fin 1024, f (col s j) = ∑ h, f h := by
  rw [← (finProdFinEquiv : Fin 4 × Fin 1024 ≃ Fin (4 * 1024)).sum_comp, Fintype.sum_prod_type, Finset.sum_range]
  refine Finset.sum_congr rfl fun s _ => Finset.sum_congr rfl fun j _ => congrArg f (Fin.ext ?_)
  have := s.isLt
  simp only [col, finProdFinEquiv_apply_val]
  omega

/-- The part of an element of the layer's row that hidden column `h` gives. -/
def term (x g : Fin 1024 → EReal) (wu : Fin 1024 → Fin 4096 → EReal) (wd : Fin 4096 → Fin 1024 → EReal) (q : Fin 1024) (h : Fin 4096) : EReal :=
  hidAt x g wu h * hidAt x g wu h * wd h q

/-- A walk over row blocks, four hidden blocks each: if the normalised rows are made at the first hidden block and kept, and
    the accumulator starts with the first hidden block's terms and takes the others' in turn, then after every point the
    accumulator is the sum over the hidden blocks met so far, and at the last of the four the sum over all columns. -/
theorem fold_rows {R : Type} {N : ℕ} (x : (n : ℕ) → n < N → R → Fin 1024 → EReal) (g : Fin 1024 → EReal)
    (wu : Fin 1024 → Fin 4096 → EReal) (wd : Fin 4096 → Fin 1024 → EReal) (nrm acc : (n : ℕ) → n < N → R → Fin 1024 → EReal)
    (hx : ∀ n (h : n + 1 < N), (n + 1) % 4 ≠ 0 → x (n + 1) h = x n (Nat.lt_of_succ_lt h))
    (n0 : ∀ n (h : n < N), n % 4 = 0 → ∀ r k, nrm n h r k = rmsAt (x n h r) g k)
    (n1 : ∀ n (h : n + 1 < N), (n + 1) % 4 ≠ 0 → nrm (n + 1) h = nrm n (Nat.lt_of_succ_lt h))
    (a0 : ∀ n (h : n < N), n % 4 = 0 → ∀ r q, acc n h r q = ∑ j, term (x n h r) g wu wd q (col n j))
    (a1 : ∀ n (h : n + 1 < N), (n + 1) % 4 ≠ 0 → (∀ r k, nrm n (Nat.lt_of_succ_lt h) r k = rmsAt (x (n + 1) h r) g k) →
      ∀ r q, acc (n + 1) h r q = acc n (Nat.lt_of_succ_lt h) r q + ∑ j, term (x (n + 1) h r) g wu wd q (col (n + 1) j))
    (n : ℕ) (h : n < N) :
    (∀ r k, nrm n h r k = rmsAt (x n h r) g k) ∧
    ∀ r q, acc n h r q = ∑ s ∈ Finset.range (n % 4 + 1), ∑ j, term (x n h r) g wu wd q (col s j) := by
  have hc : ∀ n j, col n j = col (n % 4) j := fun n j => Fin.ext (by simp [col])
  induction n with
  | zero => exact ⟨n0 0 h rfl, fun r q => by rw [a0 0 h rfl]; simp⟩
  | succ n ih =>
    by_cases hm : (n + 1) % 4 = 0
    · refine ⟨n0 _ h hm, fun r q => ?_⟩
      rw [a0 _ h hm, hm]
      simp only [hc (n + 1), hm, zero_add, Finset.sum_range_one]
    · obtain ⟨i1, i2⟩ := ih (Nat.lt_of_succ_lt h)
      have e := hx n h hm
      have i1' : ∀ r k, nrm n (Nat.lt_of_succ_lt h) r k = rmsAt (x (n + 1) h r) g k := by rw [e]; exact i1
      refine ⟨fun r k => by rw [n1 n h hm]; exact i1' r k, fun r q => ?_⟩
      have hs : (n + 1) % 4 = n % 4 + 1 := by omega
      rw [a1 n h hm i1' r q, i2 r q, e, hs, Finset.sum_range_succ _ (n % 4 + 1)]
      simp only [hc (n + 1), hs]

/-- At the last hidden block the accumulator plus the row is the layer's row. -/
theorem fold_last (x g : Fin 1024 → EReal) (wu : Fin 1024 → Fin 4096 → EReal) (wd : Fin 4096 → Fin 1024 → EReal) (q : Fin 1024) (n : ℕ)
    (h : n % 4 = 3) : x q + ∑ s ∈ Finset.range (n % 4 + 1), ∑ j, term x g wu wd q (col s j) = mlpAt x g wu wd q := by
  rw [h, show (3 + 1 : ℕ) = 4 from rfl, sum_blocks (fun h => term x g wu wd q h)]
  rfl

end Cert.Common

end
-- ==== Proof.MlpValue.lean ====
module

public import proofs.«01_k».proof.Defs
public import proofs.«01_k».proof.Proof.Gen.MlpIdeal.Value
public import proofs.«01_k».proof.Proof.Gen.MlpRefIdeal.Run
public import proofs.«01_k».proof.Proof.Common
public import Idealize.ShloMosaic.Lib.Pipeline.ValueKit
public import Idealize.ShloMosaic.Lib.Pipeline.ReadBack
public import Idealize.ShloMosaic.Lib.Claim
public import Idealize.ShloMosaic.Lib.Pointwise

@[expose] public section

noncomputable section

namespace Cert.MlpIdeal.Closed

open Cert.MlpIdeal Cert.MlpIdeal.Gen Idealize.ShloMosaic Idealize.ShloMosaic.TcCoe Idealize.SL.Sem

variable (m : (ℓ : Loc nD τ sig) → Buf (Elt Ideal) ℓ)

theorem ix_facts : ∀ t : Fin cfg0.N, win0_0.index t = ![t.val / 4, 0] ∧ win0_1.index t = ![0, 0] ∧ win0_2.index t = ![0, t.val % 4]
    ∧ win0_3.index t = ![t.val % 4, 0] := by decide +kernel

/-- At the first hidden block of a row block the first scratch takes the normalised rows. -/
theorem norm_A (c : Dev nD) (t : Fin cfg0.N) (h0 : t.val % 4 = 0) (h1 : ¬t.val % 4 = 3) :
    (outsAt0 m c t.val t.isLt).2.1 = k0_pay1 (iblk m c 0 t) (iblk m c 1 t) := by
  rw [outsAt0_A m c t h0 h1]
  frame_out

/-- At the first hidden block the accumulator takes that block's product over zero. -/
theorem acc_A (c : Dev nD) (t : Fin cfg0.N) (h0 : t.val % 4 = 0) (h1 : ¬t.val % 4 = 3) :
    (outsAt0 m c t.val t.isLt).2.2
      = k0_pay3 (k0_pay1 (iblk m c 0 t) (iblk m c 1 t)) (iblk m c 2 t) (k0_pay2 (F := Ideal)) (iblk m c 3 t) := by
  rw [outsAt0_A m c t h0 h1]
  frame_out

/-- Between, the accumulator takes one more block's product. -/
theorem acc_B (c : Dev nD) (t : Fin cfg0.N) (h0 : ¬t.val % 4 = 0) (h1 : ¬t.val % 4 = 3) :
    (outsAt0 m c t.val t.isLt).2.2
      = k0_pay3 (outsAt0 m c (t.val - 1) (Nat.lt_of_le_of_lt (Nat.sub_le _ _) t.isLt)).2.1 (iblk m c 2 t)
          (outsAt0 m c (t.val - 1) (Nat.lt_of_le_of_lt (Nat.sub_le _ _) t.isLt)).2.2 (iblk m c 3 t) := by
  rw [outsAt0_B m c t h0 h1]
  frame_out
  simp only [read_unread_whole]

/-- And so at the last block. -/
theorem acc_C (c : Dev nD) (t : Fin cfg0.N) (h0 : ¬t.val % 4 = 0) (h1 : t.val % 4 = 3) :
    (outsAt0 m c t.val t.isLt).2.2
      = k0_pay3 (outsAt0 m c (t.val - 1) (Nat.lt_of_le_of_lt (Nat.sub_le _ _) t.isLt)).2.1 (iblk m c 2 t)
          (outsAt0 m c (t.val - 1) (Nat.lt_of_le_of_lt (Nat.sub_le _ _) t.isLt)).2.2 (iblk m c 3 t) := by
  rw [outsAt0_C m c t h0 h1]
  frame_out
  simp only [read_unread_whole]

/-- The last block writes the rows plus the accumulator. -/
theorem out_C (c : Dev nD) (t : Fin cfg0.N) (h0 : ¬t.val % 4 = 0) (h1 : t.val % 4 = 3) :
    (outsAt0 m c t.val t.isLt).1 = k0_pay4 (iblk m c 0 t) (outsAt0 m c t.val t.isLt).2.2 := by
  rw [acc_C m c t h0 h1, outsAt0_C m c t h0 h1]
  frame_out
  simp only [read_unread_whole]

/-! The blocks the windows read, at an index. -/

/-- The argument arrays as rows and matrices. -/
def xRow (c : Dev nD) (r : Fin 32768) (k : Fin 1024) : EReal := m ((c : Thread nD τ).loc main_arg0) (ix2 r k)
def gRow (c : Dev nD) (k : Fin 1024) : EReal := m ((c : Thread nD τ).loc main_arg1) (ix1 k)
def wuMat (c : Dev nD) (k : Fin 1024) (h : Fin 4096) : EReal := m ((c : Thread nD τ).loc main_arg2) (ix2 k h)
def wdMat (c : Dev nD) (h : Fin 4096) (q : Fin 1024) : EReal := m ((c : Thread nD τ).loc main_arg3) (ix2 h q)

/-- The row of the array that row `r` of the block at point `n` is. -/
def rowOf (n : ℕ) (hn : n < 256) (r : Fin 512) : Fin 32768 := ⟨512 * (n / 4) + r.val, by have := r.isLt; omega⟩

theorem lt_256 (t : Fin cfg0.N) : t.val < 256 := lt_of_lt_of_eq t.isLt N_0

theorem blk_x (c : Dev nD) (t : Fin cfg0.N) (r : Fin 512) (k : Fin 1024) :
    iblk m c 0 t (ix2 r k) = xRow m c (rowOf t.val (lt_256 t) r) k := by
  unfold xRow rowOf
  blk_ext! [iblk, V, ix_facts t]

theorem blk_g (c : Dev nD) (t : Fin cfg0.N) (k : Fin 1024) : iblk m c 1 t (ix2 0 k) = gRow m c k := by
  unfold gRow
  blk_ext! [iblk, V, ix_facts t]

theorem blk_wu (c : Dev nD) (t : Fin cfg0.N) (k j : Fin 1024) : iblk m c 2 t (ix2 k j) = wuMat m c k (Common.col t.val j) := by
  unfold wuMat Common.col
  blk_ext! [iblk, V, ix_facts t]

theorem blk_wd (c : Dev nD) (t : Fin cfg0.N) (j q : Fin 1024) : iblk m c 3 t (ix2 j q) = wdMat m c (Common.col t.val j) q := by
  unfold wdMat Common.col
  blk_ext! [iblk, V, ix_facts t]

/-- The body's normalised block holds normalised rows. -/
theorem norm_at (c : Dev nD) (t : Fin cfg0.N) (r : Fin 512) (k : Fin 1024) :
    k0_pay1 (iblk m c 0 t) (iblk m c 1 t) (ix2 r k)
      = Common.rmsAt (xRow m c (rowOf t.val (lt_256 t) r)) (gRow m c) k := by
  pointwise [k0_pay1]
  simp only [blk_x, blk_g]
  rfl

/-- One step of the accumulator, over a block of normalised rows. -/
theorem step_at (c : Dev nD) (t : Fin cfg0.N) (H : Vec Ideal S512x1024 .bf16) (A : Vec Ideal S512x1024 .f32)
    (hH : ∀ r k, H (ix2 r k) = Common.rmsAt (xRow m c (rowOf t.val (lt_256 t) r)) (gRow m c) k) (r : Fin 512) (q : Fin 1024) :
    k0_pay3 H (iblk m c 2 t) A (iblk m c 3 t) (ix2 r q)
      = A (ix2 r q) + ∑ j, Common.term (xRow m c (rowOf t.val (lt_256 t) r)) (gRow m c) (wuMat m c) (wdMat m c) q (Common.col t.val j) := by
  pointwise [k0_pay3]
  simp only [blk_wu, blk_wd, hH]
  rfl

theorem zero_at (r : Fin 512) (q : Fin 1024) : (k0_pay2 (F := Ideal) : Vec Ideal S512x1024 .f32) (ix2 r q) = 0 := by
  pointwise [k0_pay2]

/-- After point `n` the first scratch holds the row block's normalised rows and the accumulator the sum of the hidden
    blocks met so far. -/
theorem state_at (c : Dev nD) (n : ℕ) (hn : n < cfg0.N) :
    (∀ r k, (outsAt0 m c n hn).2.1 (ix2 r k) = Common.rmsAt (xRow m c (rowOf n (lt_256 ⟨n, hn⟩) r)) (gRow m c) k) ∧
    (∀ r q, (outsAt0 m c n hn).2.2 (ix2 r q) = ∑ s ∈ Finset.range (n % 4 + 1), ∑ j,
        Common.term (xRow m c (rowOf n (lt_256 ⟨n, hn⟩) r)) (gRow m c) (wuMat m c) (wdMat m c) q (Common.col s j)) := by
  refine Common.fold_rows (N := cfg0.N) (fun n h r => xRow m c (rowOf n (lt_256 ⟨n, h⟩) r)) (gRow m c) (wuMat m c) (wdMat m c)
    (fun n h r k => (outsAt0 m c n h).2.1 (ix2 r k)) (fun n h r q => (outsAt0 m c n h).2.2 (ix2 r q)) ?_ ?_ ?_ ?_ ?_ n hn
  · intro n h h0
    have hr : ∀ r, rowOf (n + 1) (lt_256 ⟨n + 1, h⟩) r = rowOf n (lt_256 ⟨n, Nat.lt_of_succ_lt h⟩) r := by
      intro r; unfold rowOf; apply Fin.ext; dsimp only; omega
    funext r
    rw [hr]
  · intro n h h0 r k
    rw [norm_A m c ⟨n, h⟩ h0 (by dsimp only; omega)]
    exact norm_at m c ⟨n, h⟩ r k
  · intro n h h0
    by_cases h1 : (n + 1) % 4 = 3
    · rw [congrArg (fun z => z.2.1) (outsAt0_C m c ⟨n + 1, h⟩ h0 h1)]; rfl
    · rw [congrArg (fun z => z.2.1) (outsAt0_B m c ⟨n + 1, h⟩ h0 h1)]; rfl
  · intro n h h0 r q
    rw [acc_A m c ⟨n, h⟩ h0 (by dsimp only; omega), step_at m c ⟨n, h⟩ _ _ (norm_at m c ⟨n, h⟩), zero_at, zero_add]
  · intro n h h0 i1 r q
    by_cases h1 : (n + 1) % 4 = 3
    · rw [acc_C m c ⟨n + 1, h⟩ h0 h1]; exact step_at m c ⟨n + 1, h⟩ _ _ i1 r q
    · rw [acc_B m c ⟨n + 1, h⟩ h0 h1]; exact step_at m c ⟨n + 1, h⟩ _ _ i1 r q

/-- The kernel's result array. -/
theorem result_at (c : Dev nD) (r : Fin 32768) (q : Fin 1024) :
    Value.G5 m c (ix2 r q) = Common.mlpAt (xRow m c r) (gRow m c) (wuMat m c) (wdMat m c) q := by
  have hr := r.isLt
  have hq := q.isLt
  have hN : cfg0.N = 256 := N_0
  have e : Value.pt5Of (ix2 r q) = 4 * (r.val / 512) + 3 := by
    have : q.val / 1024 = 0 := Nat.div_eq_of_lt hq
    show 4 * (1 * (r.val / 512 - 0) + 1 * (q.val / 1024 - 0)) + 3 = _
    omega
  have hlt : Value.pt5Of (ix2 r q) < cfg0.N := by rw [e, hN]; omega
  unfold Value.G5
  rw [dif_pos hlt, ← Value.outsAt0_sweep m c _ hlt]
  have h0 : ¬ Value.pt5Of (ix2 r q) % 4 = 0 := by omega
  have h1 : Value.pt5Of (ix2 r q) % 4 = 3 := by omega
  rw [out_C m c ⟨_, hlt⟩ h0 h1]
  have hloc : Value.loc5Of (ix2 r q) = ix2 ⟨r.val % 512, by omega⟩ q := by
    blk_ext
  rw [hloc]
  have hrow : rowOf (Value.pt5Of (ix2 r q)) (lt_256 ⟨_, hlt⟩) ⟨r.val % 512, by omega⟩ = r := by
    unfold rowOf; apply Fin.ext; dsimp only; rw [e]; omega
  pointwise [k0_pay4]
  rw [blk_x, (state_at m c _ hlt).2]
  simp only [hrow, h1]
  rw [← Common.fold_last _ _ _ _ q 3 rfl]

/-- The kernel and the reference end with the same array. -/
theorem agrees : algebraic_MlpIdeal_MlpRefIdeal (hMlpIdeal := Cert.MlpIdeal.Gen.facts) (hMlpRefIdeal := Cert.MlpRefIdeal.Gen.facts) := by
  pair_intro
  · run_from (Value.run m g)
  · run_from (MlpRefIdeal.Value.run m' g')
    funext j
    obtain ⟨r, q, rfl⟩ : ∃ r q, j = ix2 r q := ⟨j 0, j 1, eq_ix2 j⟩
    rw [result_at m c r q]
    pointwise
    rfl

end Cert.MlpIdeal.Closed

end
-- ==== Proof.ProjValue.lean ====
module

public import proofs.«01_k».proof.Defs
public import proofs.«01_k».proof.Proof.Gen.ProjIdeal.Value
public import proofs.«01_k».proof.Proof.Gen.ProjRefIdeal.Run
public import proofs.«01_k».proof.Proof.Common
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.ProjIdeal.Closed

open Cert.ProjIdeal Cert.ProjIdeal.Gen Idealize.ShloMosaic Idealize.ShloMosaic.TcCoe Idealize.SL.Sem

variable (m : (ℓ : Loc nD τ sig) → Buf (Elt Ideal) ℓ)

theorem ix_facts : ∀ t : Fin cfg0.N, win0_0.index t = ![t.val / 4, 0] ∧ win0_1.index t = ![0, 0] ∧ win0_2.index t = ![0, t.val % 4]
    ∧ win0_3.index t = ![0, t.val % 4] ∧ win0_4.index t = ![0, t.val % 4] ∧ win0_5.index t = ![0, t.val % 4]
    ∧ win0_6.index t = ![0, t.val % 4] ∧ win0_7.index t = ![0, t.val % 4] := by decide +kernel

/-- The scratch after a point, the last part of what the point leaves. -/
def scr (c : Dev nD) (n : ℕ) (hn : n < cfg0.N) : Vec Ideal S512x1024 .bf16 := (outsAt0 m c n hn).2.2.2.2.2.2

/-- At the first column block of a row block the scratch takes the normalised rows. -/
theorem norm_A (c : Dev nD) (t : Fin cfg0.N) (h0 : t.val % 4 = 0) :
    scr m c t.val t.isLt = k0_pay2 (iblk m c 0 t) (iblk m c 1 t) := by
  unfold scr
  rw [outsAt0_A m c t h0]
  frame_out

/-- Every point writes the product of the scratch and its block of each of the six weights. -/
theorem outs_eq (c : Dev nD) (t : Fin cfg0.N) :
    (outsAt0 m c t.val t.isLt).1 = k0_pay3 (scr m c t.val t.isLt) (iblk m c 2 t)
    ∧ (outsAt0 m c t.val t.isLt).2.1 = k0_pay4 (scr m c t.val t.isLt) (iblk m c 3 t)
    ∧ (outsAt0 m c t.val t.isLt).2.2.1 = k0_pay5 (scr m c t.val t.isLt) (iblk m c 4 t)
    ∧ (outsAt0 m c t.val t.isLt).2.2.2.1 = k0_pay6 (scr m c t.val t.isLt) (iblk m c 5 t)
    ∧ (outsAt0 m c t.val t.isLt).2.2.2.2.1 = k0_pay7 (scr m c t.val t.isLt) (iblk m c 6 t)
    ∧ (outsAt0 m c t.val t.isLt).2.2.2.2.2.1 = k0_pay1 (scr m c t.val t.isLt) (iblk m c 7 t) := by
  by_cases h0 : t.val % 4 = 0
  · rw [norm_A m c t h0, outsAt0_A m c t h0]
    and_intros <;> frame_out
  · have e : scr m c t.val t.isLt = scr m c (t.val - 1) (Nat.lt_of_le_of_lt (Nat.sub_le _ _) t.isLt) := by
      unfold scr
      exact congrArg (fun z => z.2.2.2.2.2.2) (outsAt0_B m c t h0)
    rw [e, outsAt0_B m c t h0]
    unfold scr
    and_intros <;> (frame_out; simp only [read_unread_whole])

/-! The blocks the windows read, at an index. -/

/-- The argument arrays as rows and columns. -/
def xRow (c : Dev nD) (r : Fin 32768) (k : Fin 1024) : EReal :=
  m ((c : Thread nD τ).loc main_arg0) (ix3 ⟨r.val / 2048, by have := r.isLt; omega⟩ ⟨r.val % 2048, by omega⟩ k)
def gRow (c : Dev nD) (k : Fin 1024) : EReal := m ((c : Thread nD τ).loc main_arg1) (ix2 0 k)
def wCol (c : Dev nD) (n : Fin 9216) (k : Fin 1024) : EReal := m ((c : Thread nD τ).loc main_arg2) (ix3 0 k n)

/-- The row of the array that row `r` of the block at point `n` is. -/
def rowOf (n : ℕ) (hn : n < 256) (r : Fin 512) : Fin 32768 := ⟨512 * (n / 4) + r.val, by have := r.isLt; omega⟩

theorem lt_256 (t : Fin cfg0.N) : t.val < 256 := lt_of_lt_of_eq t.isLt N_0

theorem blk_x (c : Dev nD) (t : Fin cfg0.N) (r : Fin 512) (k : Fin 1024) :
    iblk m c 0 t (ix2 r k) = xRow m c (rowOf t.val (lt_256 t) r) k := by
  unfold xRow rowOf
  blk_ext! [iblk, V, ix_facts t]

theorem blk_g (c : Dev nD) (t : Fin cfg0.N) (k : Fin 1024) : iblk m c 1 t (ix2 0 k) = gRow m c k := by
  unfold gRow
  blk_ext! [iblk, V, ix_facts t]

theorem blk_w2 (c : Dev nD) (t : Fin cfg0.N) (k : Fin 1024) (j : Fin 256) :
    iblk m c 2 t (ix2 k j) = wCol m c ⟨256 * (t.val % 4) + j.val, by have := j.isLt; omega⟩ k := by
  unfold wCol
  blk_ext! [iblk, V, ix_facts t]

theorem blk_w3 (c : Dev nD) (t : Fin cfg0.N) (k : Fin 1024) (j : Fin 256) :
    iblk m c 3 t (ix2 k j) = wCol m c ⟨3072 + 256 * (t.val % 4) + j.val, by have := j.isLt; omega⟩ k := by
  unfold wCol
  blk_ext! [iblk, V, ix_facts t]

theorem blk_w4 (c : Dev nD) (t : Fin cfg0.N) (k : Fin 1024) (j : Fin 256) :
    iblk m c 4 t (ix2 k j) = wCol m c ⟨6144 + 256 * (t.val % 4) + j.val, by have := j.isLt; omega⟩ k := by
  unfold wCol
  blk_ext! [iblk, V, ix_facts t]

theorem blk_w5 (c : Dev nD) (t : Fin cfg0.N) (k : Fin 1024) (j : Fin 512) :
    iblk m c 5 t (ix2 k j) = wCol m c ⟨1024 + 512 * (t.val % 4) + j.val, by have := j.isLt; omega⟩ k := by
  unfold wCol
  blk_ext! [iblk, V, ix_facts t]

theorem blk_w6 (c : Dev nD) (t : Fin cfg0.N) (k : Fin 1024) (j : Fin 512) :
    iblk m c 6 t (ix2 k j) = wCol m c ⟨4096 + 512 * (t.val % 4) + j.val, by have := j.isLt; omega⟩ k := by
  unfold wCol
  blk_ext! [iblk, V, ix_facts t]

theorem blk_w7 (c : Dev nD) (t : Fin cfg0.N) (k : Fin 1024) (j : Fin 512) :
    iblk m c 7 t (ix2 k j) = wCol m c ⟨7168 + 512 * (t.val % 4) + j.val, by have := j.isLt; omega⟩ k := by
  unfold wCol
  blk_ext! [iblk, V, ix_facts t]

/-- The body's normalised block holds normalised rows. -/
theorem norm_at (c : Dev nD) (t : Fin cfg0.N) (r : Fin 512) (k : Fin 1024) :
    k0_pay2 (iblk m c 0 t) (iblk m c 1 t) (ix2 r k)
      = Common.rmsAt (xRow m c (rowOf t.val (lt_256 t) r)) (gRow m c) k := by
  pointwise [k0_pay2]
  simp only [blk_x, blk_g]
  rfl

/-- After every point the scratch holds the row block's normalised rows. -/
theorem scr_at (c : Dev nD) (n : ℕ) (hn : n < cfg0.N) (r : Fin 512) (k : Fin 1024) :
    scr m c n hn (ix2 r k) = Common.rmsAt (xRow m c (rowOf n (lt_256 ⟨n, hn⟩) r)) (gRow m c) k := by
  induction n with
  | zero =>
    rw [norm_A m c ⟨0, hn⟩ (by norm_num)]
    exact norm_at m c ⟨0, hn⟩ r k
  | succ n ih =>
    by_cases h0 : (n + 1) % 4 = 0
    · rw [norm_A m c ⟨n + 1, hn⟩ h0]
      exact norm_at m c ⟨n + 1, hn⟩ r k
    · have hn' : n < cfg0.N := by omega
      have hr : rowOf n (lt_256 ⟨n, hn'⟩) r = rowOf (n + 1) (lt_256 ⟨n + 1, hn⟩) r := by
        unfold rowOf; apply Fin.ext; dsimp only; omega
      have e : scr m c (n + 1) hn = scr m c n hn' := by
        unfold scr
        exact congrArg (fun z => z.2.2.2.2.2.2) (outsAt0_B m c ⟨n + 1, hn⟩ h0)
      rw [e, ih hn', hr]

/-- A narrow product: entry `(r, j)` at point `t` is the normalised row times the column that column `j` of the block is. -/
theorem narrow_at (c : Dev nD) (n : ℕ) (hn : n < cfg0.N) (W : Vec Ideal S1024x256 .bf16) (r : Fin 512) (j : Fin 256) (col : Fin 9216)
    (row : Fin 32768) (hW : ∀ k, W (ix2 k j) = wCol m c col k) (hrow : rowOf n (lt_256 ⟨n, hn⟩) r = row) :
    k0_pay3 (scr m c n hn) W (ix2 r j) = Common.projAt (xRow m c row) (gRow m c) (wCol m c col) := by
  pointwise [k0_pay3]
  simp only [scr_at, hW, hrow]
  rfl

/-- A wide product, the same. -/
theorem wide_at (c : Dev nD) (n : ℕ) (hn : n < cfg0.N) (W : Vec Ideal S1024x512 .bf16) (r : Fin 512) (j : Fin 512) (col : Fin 9216)
    (row : Fin 32768) (hW : ∀ k, W (ix2 k j) = wCol m c col k) (hrow : rowOf n (lt_256 ⟨n, hn⟩) r = row) :
    k0_pay1 (scr m c n hn) W (ix2 r j) = Common.projAt (xRow m c row) (gRow m c) (wCol m c col) := by
  pointwise [k0_pay1]
  simp only [scr_at, hW, hrow]
  rfl

/-- The point that writes entry `(r, q)` of a narrow result. -/
theorem narrow_pt (r : Fin 32768) (q : Fin 1024) : Value.pt8Of (ix2 r q) = 4 * (r.val / 512) + q.val / 256 := by
  show 4 * (r.val / 512 - 0) + 1 * (q.val / 256 - 0) = _
  omega

/-- The point that writes entry `(r, q)` of a wide result. -/
theorem wide_pt (r : Fin 32768) (q : Fin 2048) : Value.pt11Of (ix2 r q) = 4 * (r.val / 512) + q.val / 512 := by
  show 4 * (r.val / 512 - 0) + 1 * (q.val / 512 - 0) = _
  omega

theorem narrow_lt (r : Fin 32768) (q : Fin 1024) : Value.pt8Of (ix2 r q) < cfg0.N := by
  have hr := r.isLt
  have hq := q.isLt
  rw [narrow_pt, show cfg0.N = 256 from N_0]; omega

theorem wide_lt (r : Fin 32768) (q : Fin 2048) : Value.pt11Of (ix2 r q) < cfg0.N := by
  have hr := r.isLt
  have hq := q.isLt
  rw [wide_pt, show cfg0.N = 256 from N_0]; omega

theorem narrow_loc (r : Fin 32768) (q : Fin 1024) :
    Value.loc8Of (ix2 r q) = ix2 ⟨r.val % 512, by omega⟩ ⟨q.val % 256, by omega⟩ := by
  blk_ext

theorem wide_loc (r : Fin 32768) (q : Fin 2048) :
    Value.loc11Of (ix2 r q) = ix2 ⟨r.val % 512, by omega⟩ ⟨q.val % 512, by omega⟩ := by
  blk_ext

theorem narrow_row (r : Fin 32768) (q : Fin 1024) :
    rowOf (Value.pt8Of (ix2 r q)) (lt_256 ⟨_, narrow_lt r q⟩) ⟨r.val % 512, by omega⟩ = r := by
  have hq := q.isLt
  unfold rowOf; apply Fin.ext; dsimp only; rw [narrow_pt]; omega

theorem wide_row (r : Fin 32768) (q : Fin 2048) :
    rowOf (Value.pt11Of (ix2 r q)) (lt_256 ⟨_, wide_lt r q⟩) ⟨r.val % 512, by omega⟩ = r := by
  have hq := q.isLt
  unfold rowOf; apply Fin.ext; dsimp only; rw [wide_pt]; omega

/-- Equal column numbers give equal columns. -/
theorem col_congr (c : Dev nD) (k : Fin 1024) (a b : ℕ) (ha : a < 9216) (hb : b < 9216) (h : a = b) :
    wCol m c ⟨a, ha⟩ k = wCol m c ⟨b, hb⟩ k := by subst h; rfl

theorem result8 (c : Dev nD) (r : Fin 32768) (q : Fin 1024) :
    Value.G8 m c (ix2 r q) = Common.projAt (xRow m c r) (gRow m c) (wCol m c ⟨q.val, by omega⟩) := by
  have hlt := narrow_lt r q
  have hp := narrow_pt r q
  unfold Value.G8
  rw [dif_pos hlt, ← Value.outsAt0_sweep m c _ hlt, (outs_eq m c ⟨_, hlt⟩).1]
  refine (congrArg _ (narrow_loc r q)).trans (narrow_at m c _ hlt _ _ _ _ r (fun k => ?_) (narrow_row r q))
  exact (blk_w2 m c ⟨_, hlt⟩ k _).trans (col_congr m c k _ _ _ _ (by dsimp only; rw [hp]; omega))

theorem result9 (c : Dev nD) (r : Fin 32768) (q : Fin 1024) :
    Value.G9 m c (ix2 r q) = Common.projAt (xRow m c r) (gRow m c) (wCol m c ⟨3072 + q.val, by omega⟩) := by
  have hlt := narrow_lt r q
  have hp := narrow_pt r q
  unfold Value.G9
  rw [dif_pos hlt, ← Value.outsAt0_sweep m c _ hlt, (outs_eq m c ⟨_, hlt⟩).2.1]
  refine (congrArg _ (narrow_loc r q)).trans (narrow_at m c _ hlt _ _ _ _ r (fun k => ?_) (narrow_row r q))
  exact (blk_w3 m c ⟨_, hlt⟩ k _).trans (col_congr m c k _ _ _ _ (by dsimp only; rw [hp]; omega))

theorem result10 (c : Dev nD) (r : Fin 32768) (q : Fin 1024) :
    Value.G10 m c (ix2 r q) = Common.projAt (xRow m c r) (gRow m c) (wCol m c ⟨6144 + q.val, by omega⟩) := by
  have hlt := narrow_lt r q
  have hp := narrow_pt r q
  unfold Value.G10
  rw [dif_pos hlt, ← Value.outsAt0_sweep m c _ hlt, (outs_eq m c ⟨_, hlt⟩).2.2.1]
  refine (congrArg _ (narrow_loc r q)).trans (narrow_at m c _ hlt _ _ _ _ r (fun k => ?_) (narrow_row r q))
  exact (blk_w4 m c ⟨_, hlt⟩ k _).trans (col_congr m c k _ _ _ _ (by dsimp only; rw [hp]; omega))

theorem result11 (c : Dev nD) (r : Fin 32768) (q : Fin 2048) :
    Value.G11 m c (ix2 r q) = Common.projAt (xRow m c r) (gRow m c) (wCol m c ⟨1024 + q.val, by omega⟩) := by
  have hlt := wide_lt r q
  have hp := wide_pt r q
  unfold Value.G11
  rw [dif_pos hlt, ← Value.outsAt0_sweep m c _ hlt, (outs_eq m c ⟨_, hlt⟩).2.2.2.1]
  refine (congrArg _ (wide_loc r q)).trans (wide_at m c _ hlt _ _ _ _ r (fun k => ?_) (wide_row r q))
  exact (blk_w5 m c ⟨_, hlt⟩ k _).trans (col_congr m c k _ _ _ _ (by dsimp only; rw [hp]; omega))

theorem result12 (c : Dev nD) (r : Fin 32768) (q : Fin 2048) :
    Value.G12 m c (ix2 r q) = Common.projAt (xRow m c r) (gRow m c) (wCol m c ⟨4096 + q.val, by omega⟩) := by
  have hlt := wide_lt r q
  have hp := wide_pt r q
  unfold Value.G12
  rw [dif_pos hlt, ← Value.outsAt0_sweep m c _ hlt, (outs_eq m c ⟨_, hlt⟩).2.2.2.2.1]
  refine (congrArg _ (wide_loc r q)).trans (wide_at m c _ hlt _ _ _ _ r (fun k => ?_) (wide_row r q))
  exact (blk_w6 m c ⟨_, hlt⟩ k _).trans (col_congr m c k _ _ _ _ (by dsimp only; rw [hp]; omega))

theorem result13 (c : Dev nD) (r : Fin 32768) (q : Fin 2048) :
    Value.G13 m c (ix2 r q) = Common.projAt (xRow m c r) (gRow m c) (wCol m c ⟨7168 + q.val, by omega⟩) := by
  have hlt := wide_lt r q
  have hp := wide_pt r q
  unfold Value.G13
  rw [dif_pos hlt, ← Value.outsAt0_sweep m c _ hlt, (outs_eq m c ⟨_, hlt⟩).2.2.2.2.2]
  refine (congrArg _ (wide_loc r q)).trans (wide_at m c _ hlt _ _ _ _ r (fun k => ?_) (wide_row r q))
  exact (blk_w7 m c ⟨_, hlt⟩ k _).trans (col_congr m c k _ _ _ _ (by dsimp only; rw [hp]; omega))

/-- The reference's product before it is cut into its six results. -/
def refAll (x : FVec Ideal S16x2048x1024 .f32) (g : FVec Ideal S2x1024 .f32) (w : FVec Ideal S1x1024x9216 .f32) : FVec Ideal ProjRefIdeal.S16x2048x9216 .f32 :=
  Host.dotGeneral (φ₁ := .f32) (φ₂ := .f32) ProjRefIdeal.dot_S16x2048x1024_S1024x9216_S16x2048x9216_2_0_01_1_n_n none
    (mulf
      (mulf x
        (broadcastInDim ProjRefIdeal.S16x2048x1024 ![0, 1, 2] ProjRefIdeal.Gen.bcast_S16x2048x1_S16x2048x1024_0_1_2
          (Host.rsqrt
            (addf
              (Host.divf
                (broadcastInDim ProjRefIdeal.S16x2048x1 ![0, 1] ProjRefIdeal.Gen.bcast_S16x2048_S16x2048x1_0_1
                  (Host.reduceAdd (mulf x x) (constant ProjRefIdeal.S_ FTy.f32 0#32)
                    ProjRefIdeal.Gen.reducesTo_S16x2048x1024_S16x2048_d2 ProjRefIdeal.Gen.h_S_))
                (broadcastInDim ProjRefIdeal.S16x2048x1 ![] ProjRefIdeal.Gen.bcast_S_S16x2048x1
                  (constant ProjRefIdeal.S_ FTy.f32 1149239296#32)))
              (broadcastInDim ProjRefIdeal.S16x2048x1 ![] ProjRefIdeal.Gen.bcast_S_S16x2048x1
                (constant ProjRefIdeal.S_ FTy.f32 897988541#32))))))
      (broadcastInDim ProjRefIdeal.S16x2048x1024 ![0, 1, 2] ProjRefIdeal.Gen.bcast_S1x1x1024_S16x2048x1024_0_1_2
        (broadcastInDim ProjRefIdeal.S1x1x1024 ![2] ProjRefIdeal.Gen.bcast_S1024_S1x1x1024_2
          (shapeCast ProjRefIdeal.S1024
            (extractStridedSlice ProjRefIdeal.S1x1024 ![0, 0] g ProjRefIdeal.Gen.slices_S2x1024_S1x1024_0_0)
            ProjRefIdeal.Gen.shapeCasts_S1x1024_S1024))))
    (shapeCast ProjRefIdeal.S1024x9216 w ProjRefIdeal.Gen.shapeCasts_S1x1024x9216_S1024x9216)

set_option maxRecDepth 16384 in
theorem refAll_at (x : FVec Ideal S16x2048x1024 .f32) (g : FVec Ideal S2x1024 .f32) (w : FVec Ideal S1x1024x9216 .f32)
    (b : Fin 16) (s : Fin 2048) (n : Fin 9216) :
    refAll x g w (ix3 b s n) = Common.projAt (fun k => x (ix3 b s k)) (fun k => g (ix2 0 k)) (fun k => w (ix3 0 k n)) := by
  unfold Common.projAt Common.rmsAt
  pointwise [refAll]

/-! The six results, cut out of that product: part `p` of three, its first 1024 columns or the 2048 after them. -/

theorem cut_q0 (y : FVec Ideal ProjRefIdeal.S16x2048x9216 .f32) (r : Fin 32768) (q : Fin 1024) :
    shapeCast ProjRefIdeal.S32768x1024
      (extractStridedSlice ProjRefIdeal.S32768x1x1024 ![0, 0, 0]
        (shapeCast ProjRefIdeal.S32768x3x3072 y ProjRefIdeal.Gen.shapeCasts_S16x2048x9216_S32768x3x3072)
        ProjRefIdeal.Gen.slices_S32768x3x3072_S32768x1x1024_0_0_0)
      ProjRefIdeal.Gen.shapeCasts_S32768x1x1024_S32768x1024 (ix2 r q)
      = y (ix3 ⟨r.val / 2048, by omega⟩ ⟨r.val % 2048, by omega⟩ ⟨q.val, by omega⟩) := by
  pointwise

theorem cut_kv0 (y : FVec Ideal ProjRefIdeal.S16x2048x9216 .f32) (r : Fin 32768) (q : Fin 2048) :
    shapeCast ProjRefIdeal.S32768x2048
      (extractStridedSlice ProjRefIdeal.S32768x1x2048 ![0, 0, 1024]
        (shapeCast ProjRefIdeal.S32768x3x3072 y ProjRefIdeal.Gen.shapeCasts_S16x2048x9216_S32768x3x3072)
        ProjRefIdeal.Gen.slices_S32768x3x3072_S32768x1x2048_0_0_1024)
      ProjRefIdeal.Gen.shapeCasts_S32768x1x2048_S32768x2048 (ix2 r q)
      = y (ix3 ⟨r.val / 2048, by omega⟩ ⟨r.val % 2048, by omega⟩ ⟨1024 + q.val, by omega⟩) := by
  pointwise

theorem cut_q1 (y : FVec Ideal ProjRefIdeal.S16x2048x9216 .f32) (r : Fin 32768) (q : Fin 1024) :
    shapeCast ProjRefIdeal.S32768x1024
      (extractStridedSlice ProjRefIdeal.S32768x1x1024 ![0, 1, 0]
        (shapeCast ProjRefIdeal.S32768x3x3072 y ProjRefIdeal.Gen.shapeCasts_S16x2048x9216_S32768x3x3072)
        ProjRefIdeal.Gen.slices_S32768x3x3072_S32768x1x1024_0_1_0)
      ProjRefIdeal.Gen.shapeCasts_S32768x1x1024_S32768x1024 (ix2 r q)
      = y (ix3 ⟨r.val / 2048, by omega⟩ ⟨r.val % 2048, by omega⟩ ⟨3072 + q.val, by omega⟩) := by
  pointwise

theorem cut_kv1 (y : FVec Ideal ProjRefIdeal.S16x2048x9216 .f32) (r : Fin 32768) (q : Fin 2048) :
    shapeCast ProjRefIdeal.S32768x2048
      (extractStridedSlice ProjRefIdeal.S32768x1x2048 ![0, 1, 1024]
        (shapeCast ProjRefIdeal.S32768x3x3072 y ProjRefIdeal.Gen.shapeCasts_S16x2048x9216_S32768x3x3072)
        ProjRefIdeal.Gen.slices_S32768x3x3072_S32768x1x2048_0_1_1024)
      ProjRefIdeal.Gen.shapeCasts_S32768x1x2048_S32768x2048 (ix2 r q)
      = y (ix3 ⟨r.val / 2048, by omega⟩ ⟨r.val % 2048, by omega⟩ ⟨4096 + q.val, by omega⟩) := by
  pointwise
  exact congrArg (fun n => y (ix3 _ _ n)) (Fin.ext (by dsimp only; omega))

theorem cut_q2 (y : FVec Ideal ProjRefIdeal.S16x2048x9216 .f32) (r : Fin 32768) (q : Fin 1024) :
    shapeCast ProjRefIdeal.S32768x1024
      (extractStridedSlice ProjRefIdeal.S32768x1x1024 ![0, 2, 0]
        (shapeCast ProjRefIdeal.S32768x3x3072 y ProjRefIdeal.Gen.shapeCasts_S16x2048x9216_S32768x3x3072)
        ProjRefIdeal.Gen.slices_S32768x3x3072_S32768x1x1024_0_2_0)
      ProjRefIdeal.Gen.shapeCasts_S32768x1x1024_S32768x1024 (ix2 r q)
      = y (ix3 ⟨r.val / 2048, by omega⟩ ⟨r.val % 2048, by omega⟩ ⟨6144 + q.val, by omega⟩) := by
  pointwise

theorem cut_kv2 (y : FVec Ideal ProjRefIdeal.S16x2048x9216 .f32) (r : Fin 32768) (q : Fin 2048) :
    shapeCast ProjRefIdeal.S32768x2048
      (extractStridedSlice ProjRefIdeal.S32768x1x2048 ![0, 2, 1024]
        (shapeCast ProjRefIdeal.S32768x3x3072 y ProjRefIdeal.Gen.shapeCasts_S16x2048x9216_S32768x3x3072)
        ProjRefIdeal.Gen.slices_S32768x3x3072_S32768x1x2048_0_2_1024)
      ProjRefIdeal.Gen.shapeCasts_S32768x1x2048_S32768x2048 (ix2 r q)
      = y (ix3 ⟨r.val / 2048, by omega⟩ ⟨r.val % 2048, by omega⟩ ⟨7168 + q.val, by omega⟩) := by
  pointwise
  exact congrArg (fun n => y (ix3 _ _ n)) (Fin.ext (by dsimp only; omega))

/-- The kernel and the reference end with the same arrays. -/
theorem agrees : algebraic_ProjIdeal_ProjRefIdeal (hProjIdeal := Cert.ProjIdeal.Gen.facts) (hProjRefIdeal := Cert.ProjRefIdeal.Gen.facts) := by
  pair_intro
  · run_from (Value.run m g)
  · run_from (ProjRefIdeal.Value.run m' g')
    · funext j
      obtain ⟨r, q, rfl⟩ : ∃ r q, j = ix2 r q := ⟨j 0, j 1, eq_ix2 j⟩
      exact (cut_q0 (refAll _ _ _) r q).trans ((refAll_at _ _ _ _ _ _).trans (result8 m c r q).symm)
    · funext j
      obtain ⟨r, q, rfl⟩ : ∃ r q, j = ix2 r q := ⟨j 0, j 1, eq_ix2 j⟩
      exact (cut_q1 (refAll _ _ _) r q).trans ((refAll_at _ _ _ _ _ _).trans (result9 m c r q).symm)
    · funext j
      obtain ⟨r, q, rfl⟩ : ∃ r q, j = ix2 r q := ⟨j 0, j 1, eq_ix2 j⟩
      exact (cut_q2 (refAll _ _ _) r q).trans ((refAll_at _ _ _ _ _ _).trans (result10 m c r q).symm)
    · funext j
      obtain ⟨r, q, rfl⟩ : ∃ r q, j = ix2 r q := ⟨j 0, j 1, eq_ix2 j⟩
      exact (cut_kv0 (refAll _ _ _) r q).trans ((refAll_at _ _ _ _ _ _).trans (result11 m c r q).symm)
    · funext j
      obtain ⟨r, q, rfl⟩ : ∃ r q, j = ix2 r q := ⟨j 0, j 1, eq_ix2 j⟩
      exact (cut_kv1 (refAll _ _ _) r q).trans ((refAll_at _ _ _ _ _ _).trans (result12 m c r q).symm)
    · funext j
      obtain ⟨r, q, rfl⟩ : ∃ r q, j = ix2 r q := ⟨j 0, j 1, eq_ix2 j⟩
      exact (cut_kv2 (refAll _ _ _) r q).trans ((refAll_at _ _ _ _ _ _).trans (result13 m c r q).symm)

end Cert.ProjIdeal.Closed

end
-- ==== Proof.MlpFinalValue.lean ====
module

public import proofs.«01_k».proof.Defs
public import proofs.«01_k».proof.Proof.Gen.MlpFinalIdeal.Value
public import proofs.«01_k».proof.Proof.Gen.MlpFinalRefIdeal.Run
public import proofs.«01_k».proof.Proof.Common
public import Idealize.ShloMosaic.Lib.Pipeline.ValueKit
public import Idealize.ShloMosaic.Lib.Pipeline.ReadBack
public import Idealize.ShloMosaic.Lib.Claim
public import Idealize.ShloMosaic.Lib.Pointwise

@[expose] public section

noncomputable section

namespace Cert.MlpFinalIdeal.Closed

open Cert.MlpFinalIdeal Cert.MlpFinalIdeal.Gen Idealize.ShloMosaic Idealize.ShloMosaic.TcCoe Idealize.SL.Sem

variable (m : (ℓ : Loc nD τ sig) → Buf (Elt Ideal) ℓ)

theorem ix_facts : ∀ t : Fin cfg0.N, win0_0.index t = ![t.val / 4, 0] ∧ win0_1.index t = ![0, 0] ∧ win0_2.index t = ![0, t.val % 4]
    ∧ win0_3.index t = ![t.val % 4, 0] ∧ win0_4.index t = ![0, 0] := by decide +kernel

/-- At the first hidden block of a row block the first scratch takes the normalised rows. -/
theorem norm_A (c : Dev nD) (t : Fin cfg0.N) (h0 : t.val % 4 = 0) (h1 : ¬t.val % 4 = 3) :
    (outsAt0 m c t.val t.isLt).2.1 = k0_pay1 (iblk m c 0 t) (iblk m c 1 t) := by
  rw [outsAt0_A m c t h0 h1]
  frame_out

/-- At the first hidden block the accumulator takes that block's product over zero. -/
theorem acc_A (c : Dev nD) (t : Fin cfg0.N) (h0 : t.val % 4 = 0) (h1 : ¬t.val % 4 = 3) :
    (outsAt0 m c t.val t.isLt).2.2
      = k0_pay3 (k0_pay1 (iblk m c 0 t) (iblk m c 1 t)) (iblk m c 2 t) (k0_pay2 (F := Ideal)) (iblk m c 3 t) := by
  rw [outsAt0_A m c t h0 h1]
  frame_out

/-- Between, the accumulator takes one more block's product. -/
theorem acc_B (c : Dev nD) (t : Fin cfg0.N) (h0 : ¬t.val % 4 = 0) (h1 : ¬t.val % 4 = 3) :
    (outsAt0 m c t.val t.isLt).2.2
      = k0_pay3 (outsAt0 m c (t.val - 1) (Nat.lt_of_le_of_lt (Nat.sub_le _ _) t.isLt)).2.1 (iblk m c 2 t)
          (outsAt0 m c (t.val - 1) (Nat.lt_of_le_of_lt (Nat.sub_le _ _) t.isLt)).2.2 (iblk m c 3 t) := by
  rw [outsAt0_B m c t h0 h1]
  frame_out
  simp only [read_unread_whole]

/-- And so at the last block. -/
theorem acc_C (c : Dev nD) (t : Fin cfg0.N) (h0 : ¬t.val % 4 = 0) (h1 : t.val % 4 = 3) :
    (outsAt0 m c t.val t.isLt).2.2
      = k0_pay3 (outsAt0 m c (t.val - 1) (Nat.lt_of_le_of_lt (Nat.sub_le _ _) t.isLt)).2.1 (iblk m c 2 t)
          (outsAt0 m c (t.val - 1) (Nat.lt_of_le_of_lt (Nat.sub_le _ _) t.isLt)).2.2 (iblk m c 3 t) := by
  rw [outsAt0_C m c t h0 h1]
  frame_out
  simp only [read_unread_whole]

/-- The last block writes the normalised sum of the rows and the accumulator. -/
theorem out_C (c : Dev nD) (t : Fin cfg0.N) (h0 : ¬t.val % 4 = 0) (h1 : t.val % 4 = 3) :
    (outsAt0 m c t.val t.isLt).1 = k0_pay4 (iblk m c 0 t) (outsAt0 m c t.val t.isLt).2.2 (iblk m c 4 t) := by
  rw [acc_C m c t h0 h1, outsAt0_C m c t h0 h1]
  frame_out
  simp only [read_unread_whole]

/-! The blocks the windows read, at an index. -/

/-- The argument arrays as rows and matrices. -/
def xRow (c : Dev nD) (r : Fin 32768) (k : Fin 1024) : EReal := m ((c : Thread nD τ).loc main_arg0) (ix2 r k)
def gRow (c : Dev nD) (k : Fin 1024) : EReal := m ((c : Thread nD τ).loc main_arg1) (ix1 k)
def gfRow (c : Dev nD) (k : Fin 1024) : EReal := m ((c : Thread nD τ).loc main_arg4) (ix1 k)
def wuMat (c : Dev nD) (k : Fin 1024) (h : Fin 4096) : EReal := m ((c : Thread nD τ).loc main_arg2) (ix2 k h)
def wdMat (c : Dev nD) (h : Fin 4096) (q : Fin 1024) : EReal := m ((c : Thread nD τ).loc main_arg3) (ix2 h q)

/-- The row of the array that row `r` of the block at point `n` is. -/
def rowOf (n : ℕ) (hn : n < 256) (r : Fin 512) : Fin 32768 := ⟨512 * (n / 4) + r.val, by have := r.isLt; omega⟩

theorem lt_256 (t : Fin cfg0.N) : t.val < 256 := lt_of_lt_of_eq t.isLt N_0

theorem blk_x (c : Dev nD) (t : Fin cfg0.N) (r : Fin 512) (k : Fin 1024) :
    iblk m c 0 t (ix2 r k) = xRow m c (rowOf t.val (lt_256 t) r) k := by
  unfold xRow rowOf
  blk_ext! [iblk, V, ix_facts t]

theorem blk_g (c : Dev nD) (t : Fin cfg0.N) (k : Fin 1024) : iblk m c 1 t (ix2 0 k) = gRow m c k := by
  unfold gRow
  blk_ext! [iblk, V, ix_facts t]

theorem blk_gf (c : Dev nD) (t : Fin cfg0.N) (k : Fin 1024) : iblk m c 4 t (ix2 0 k) = gfRow m c k := by
  unfold gfRow
  blk_ext! [iblk, V, ix_facts t]

theorem blk_wu (c : Dev nD) (t : Fin cfg0.N) (k j : Fin 1024) : iblk m c 2 t (ix2 k j) = wuMat m c k (Common.col t.val j) := by
  unfold wuMat Common.col
  blk_ext! [iblk, V, ix_facts t]

theorem blk_wd (c : Dev nD) (t : Fin cfg0.N) (j q : Fin 1024) : iblk m c 3 t (ix2 j q) = wdMat m c (Common.col t.val j) q := by
  unfold wdMat Common.col
  blk_ext! [iblk, V, ix_facts t]

/-- The body's normalised block holds normalised rows. -/
theorem norm_at (c : Dev nD) (t : Fin cfg0.N) (r : Fin 512) (k : Fin 1024) :
    k0_pay1 (iblk m c 0 t) (iblk m c 1 t) (ix2 r k)
      = Common.rmsAt (xRow m c (rowOf t.val (lt_256 t) r)) (gRow m c) k := by
  pointwise [k0_pay1]
  simp only [blk_x, blk_g]
  rfl

/-- One step of the accumulator, over a block of normalised rows. -/
theorem step_at (c : Dev nD) (t : Fin cfg0.N) (H : Vec Ideal S512x1024 .bf16) (A : Vec Ideal S512x1024 .f32)
    (hH : ∀ r k, H (ix2 r k) = Common.rmsAt (xRow m c (rowOf t.val (lt_256 t) r)) (gRow m c) k) (r : Fin 512) (q : Fin 1024) :
    k0_pay3 H (iblk m c 2 t) A (iblk m c 3 t) (ix2 r q)
      = A (ix2 r q) + ∑ j, Common.term (xRow m c (rowOf t.val (lt_256 t) r)) (gRow m c) (wuMat m c) (wdMat m c) q (Common.col t.val j) := by
  pointwise [k0_pay3]
  simp only [blk_wu, blk_wd, hH]
  rfl

theorem zero_at (r : Fin 512) (q : Fin 1024) : (k0_pay2 (F := Ideal) : Vec Ideal S512x1024 .f32) (ix2 r q) = 0 := by
  pointwise [k0_pay2]

/-- After point `n` the first scratch holds the row block's normalised rows and the accumulator the sum of the hidden
    blocks met so far. -/
theorem state_at (c : Dev nD) (n : ℕ) (hn : n < cfg0.N) :
    (∀ r k, (outsAt0 m c n hn).2.1 (ix2 r k) = Common.rmsAt (xRow m c (rowOf n (lt_256 ⟨n, hn⟩) r)) (gRow m c) k) ∧
    (∀ r q, (outsAt0 m c n hn).2.2 (ix2 r q) = ∑ s ∈ Finset.range (n % 4 + 1), ∑ j,
        Common.term (xRow m c (rowOf n (lt_256 ⟨n, hn⟩) r)) (gRow m c) (wuMat m c) (wdMat m c) q (Common.col s j)) := by
  refine Common.fold_rows (N := cfg0.N) (fun n h r => xRow m c (rowOf n (lt_256 ⟨n, h⟩) r)) (gRow m c) (wuMat m c) (wdMat m c)
    (fun n h r k => (outsAt0 m c n h).2.1 (ix2 r k)) (fun n h r q => (outsAt0 m c n h).2.2 (ix2 r q)) ?_ ?_ ?_ ?_ ?_ n hn
  · intro n h h0
    have hr : ∀ r, rowOf (n + 1) (lt_256 ⟨n + 1, h⟩) r = rowOf n (lt_256 ⟨n, Nat.lt_of_succ_lt h⟩) r := by
      intro r; unfold rowOf; apply Fin.ext; dsimp only; omega
    funext r
    rw [hr]
  · intro n h h0 r k
    rw [norm_A m c ⟨n, h⟩ h0 (by dsimp only; omega)]
    exact norm_at m c ⟨n, h⟩ r k
  · intro n h h0
    by_cases h1 : (n + 1) % 4 = 3
    · rw [congrArg (fun z => z.2.1) (outsAt0_C m c ⟨n + 1, h⟩ h0 h1)]; rfl
    · rw [congrArg (fun z => z.2.1) (outsAt0_B m c ⟨n + 1, h⟩ h0 h1)]; rfl
  · intro n h h0 r q
    rw [acc_A m c ⟨n, h⟩ h0 (by dsimp only; omega), step_at m c ⟨n, h⟩ _ _ (norm_at m c ⟨n, h⟩), zero_at, zero_add]
  · intro n h h0 i1 r q
    by_cases h1 : (n + 1) % 4 = 3
    · rw [acc_C m c ⟨n + 1, h⟩ h0 h1]; exact step_at m c ⟨n + 1, h⟩ _ _ i1 r q
    · rw [acc_B m c ⟨n + 1, h⟩ h0 h1]; exact step_at m c ⟨n + 1, h⟩ _ _ i1 r q

/-- The kernel's result array. -/
theorem result_at (c : Dev nD) (r : Fin 32768) (q : Fin 1024) :
    Value.G5 m c (ix2 r q) = Common.rmsAt (fun k => Common.mlpAt (xRow m c r) (gRow m c) (wuMat m c) (wdMat m c) k) (gfRow m c) q := by
  have hr := r.isLt
  have hq := q.isLt
  have hN : cfg0.N = 256 := N_0
  have e : Value.pt5Of (ix2 r q) = 4 * (r.val / 512) + 3 := by
    have : q.val / 1024 = 0 := Nat.div_eq_of_lt hq
    show 4 * (1 * (r.val / 512 - 0) + 1 * (q.val / 1024 - 0)) + 3 = _
    omega
  have hlt : Value.pt5Of (ix2 r q) < cfg0.N := by rw [e, hN]; omega
  unfold Value.G5
  rw [dif_pos hlt, ← Value.outsAt0_sweep m c _ hlt]
  have h0 : ¬ Value.pt5Of (ix2 r q) % 4 = 0 := by omega
  have h1 : Value.pt5Of (ix2 r q) % 4 = 3 := by omega
  rw [out_C m c ⟨_, hlt⟩ h0 h1]
  have hloc : Value.loc5Of (ix2 r q) = ix2 ⟨r.val % 512, by omega⟩ q := by
    blk_ext
  rw [hloc]
  have hrow : rowOf (Value.pt5Of (ix2 r q)) (lt_256 ⟨_, hlt⟩) ⟨r.val % 512, by omega⟩ = r := by
    unfold rowOf; apply Fin.ext; dsimp only; rw [e]; omega
  pointwise [k0_pay4]
  simp only [blk_x, blk_gf, (state_at m c _ hlt).2, hrow, Common.fold_last _ _ _ _ _ _ h1]
  rfl

/-- The kernel and the reference end with the same array. -/
theorem agrees : algebraic_MlpFinalIdeal_MlpFinalRefIdeal (hMlpFinalIdeal := Cert.MlpFinalIdeal.Gen.facts) (hMlpFinalRefIdeal := Cert.MlpFinalRefIdeal.Gen.facts) := by
  pair_intro
  · run_from (Value.run m g)
  · run_from (MlpFinalRefIdeal.Value.run m' g')
    funext j
    obtain ⟨r, q, rfl⟩ : ∃ r q, j = ix2 r q := ⟨j 0, j 1, eq_ix2 j⟩
    rw [result_at m c r q]
    obtain ⟨a0, a1, a2, a3, a4⟩ := hagree c
    pointwise [MlpFinalRefIdeal.Value.res_main_v30]
    simp only [a0, a1, a2, a3, a4]
    rfl

end Cert.MlpFinalIdeal.Closed

end
-- ==== Proof.ProjBValue.lean ====
module

public import proofs.«01_k».proof.Defs
public import proofs.«01_k».proof.Proof.Gen.ProjBIdeal.Value
public import proofs.«01_k».proof.Proof.Gen.ProjBRefIdeal.Run
public import proofs.«01_k».proof.Proof.Common
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.KernelVsHost
public import Idealize.ShloMosaic.Lib.StableHlo.ReadAt

@[expose] public section

noncomputable section

namespace Cert.ProjBIdeal.Closed

open Cert.ProjBIdeal Cert.ProjBIdeal.Gen Idealize.ShloMosaic Idealize.ShloMosaic.TcCoe Idealize.SL.Sem

variable (m : (ℓ : Loc nD τ sig) → Buf (Elt Ideal) ℓ)

theorem ix_facts : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] := by decide +kernel

/-- A point writes the products of its normalised rows and the four weights, the last one through the logistic function. -/
theorem outs_eq (c : Dev nD) (t : Fin cfg0.N) :
    (outsAt0 m c t).1 = k0_pay2 (k0_pay1 (iblk m c 0 t) (iblk m c 1 t)) (iblk m c 2 t)
    ∧ (outsAt0 m c t).2.1 = k0_pay3 (k0_pay1 (iblk m c 0 t) (iblk m c 1 t)) (iblk m c 3 t)
    ∧ (outsAt0 m c t).2.2.1 = k0_pay4 (k0_pay1 (iblk m c 0 t) (iblk m c 1 t)) (iblk m c 4 t)
    ∧ (outsAt0 m c t).2.2.2 = k0_pay5 (k0_pay1 (iblk m c 0 t) (iblk m c 1 t)) (iblk m c 5 t) := by
  unfold outsAt0
  and_intros <;> frame_out

/-! The blocks the windows read, at an index. -/

/-- The argument arrays as rows and columns. -/
def xRow (c : Dev nD) (r : Fin 32768) (k : Fin 1024) : EReal := m ((c : Thread nD τ).loc main_arg0) (ix2 r k)
def gRow (c : Dev nD) (k : Fin 1024) : EReal := m ((c : Thread nD τ).loc main_arg1) (ix2 1 k)
def wCol (c : Dev nD) (n : Fin 2608) (k : Fin 1024) : EReal := m ((c : Thread nD τ).loc main_arg2) (ix3 0 k n)

/-- Row `r` of the result at column `n` of the whole weight. -/
def projRow (c : Dev nD) (r : Fin 32768) (n : Fin 2608) : EReal := Common.projAt (xRow m c r) (gRow m c) (wCol m c n)

/-- The four results at an index: query columns, compressed and selected keys and values, window keys and values, and the
    gate — the logistic function of a gate column's product, of zero where the column is padding. -/
def queryAt (c : Dev nD) (r : Fin 32768) (q : Fin 1024) : EReal := projRow m c r ⟨q.val, by have := q.isLt; omega⟩
def kvAt (c : Dev nD) (r : Fin 32768) (q : Fin 1024) : EReal := projRow m c r ⟨1024 + q.val, by have := q.isLt; omega⟩
def winAt (c : Dev nD) (r : Fin 32768) (q : Fin 512) : EReal := projRow m c r ⟨2048 + q.val, by have := q.isLt; omega⟩
def gateAt (c : Dev nD) (r : Fin 32768) (q : Fin 512) : EReal :=
  Ideal.logistic (if h : q.val % 128 < 12 then projRow m c r ⟨2560 + 12 * (q.val / 128) + q.val % 128, by have := q.isLt; omega⟩ else 0)

theorem lt_N (t : Fin cfg0.N) : t.val < 64 := lt_of_lt_of_eq t.isLt N_0

/-- The row of the array that row `r` of the block at point `n` is. -/
def rowOf (n : ℕ) (hn : n < 64) (r : Fin 512) : Fin 32768 := ⟨512 * n + r.val, by have := r.isLt; omega⟩

theorem blk_x (c : Dev nD) (t : Fin cfg0.N) (r : Fin 512) (k : Fin 1024) : iblk m c 0 t (ix2 r k) = xRow m c (rowOf t.val (lt_N t) r) k := by
  unfold xRow rowOf
  blk_ext! [iblk, V, ix_facts t]

theorem blk_g (c : Dev nD) (t : Fin cfg0.N) (k : Fin 1024) : iblk m c 1 t (ix2 0 k) = gRow m c k := by
  unfold gRow
  blk_simp [iblk, V]
  rw [show (win0_1.blk t).view.emb (ix2 0 k) = ix2 0 k from by blk_ext! [ix_facts t]]
  after_reads_at

theorem blk_w2 (c : Dev nD) (t : Fin cfg0.N) (k q : Fin 1024) : iblk m c 2 t (ix2 k q) = wCol m c ⟨q.val, by have := q.isLt; omega⟩ k := by
  unfold wCol
  blk_simp [iblk, V]
  rw [show (win0_2.blk t).view.emb (ix2 k q) = ix2 k q from by blk_ext! [ix_facts t]]
  after_reads_at

theorem blk_w3 (c : Dev nD) (t : Fin cfg0.N) (k q : Fin 1024) : iblk m c 3 t (ix2 k q) = wCol m c ⟨1024 + q.val, by have := q.isLt; omega⟩ k := by
  unfold wCol
  blk_simp [iblk, V]
  rw [show (win0_3.blk t).view.emb (ix2 k q) = ix2 k q from by blk_ext! [ix_facts t]]
  after_reads_at

theorem blk_w4 (c : Dev nD) (t : Fin cfg0.N) (k : Fin 1024) (q : Fin 512) :
    iblk m c 4 t (ix2 k q) = wCol m c ⟨2048 + q.val, by have := q.isLt; omega⟩ k := by
  unfold wCol
  blk_simp [iblk, V]
  rw [show (win0_4.blk t).view.emb (ix2 k q) = ix2 k q from by blk_ext! [ix_facts t]]
  after_reads_at

/-- Column `q` of the padded gate weight: of each 128 columns the first 12 are gate columns, the others zero. -/
theorem blk_w5 (c : Dev nD) (t : Fin cfg0.N) (k : Fin 1024) (q : Fin 512) :
    iblk m c 5 t (ix2 k q) = if h : q.val % 128 < 12 then wCol m c ⟨2560 + 12 * (q.val / 128) + q.val % 128, by have := q.isLt; omega⟩ k else 0 := by
  unfold wCol
  blk_simp [iblk, V]
  rw [show (win0_5.blk t).view.emb (ix2 k q) = ix2 k q from by blk_ext! [ix_facts t]]
  after_reads_at
  have hq : q.val / 128 < 4 := by have := q.isLt; omega
  have h0 : (FloatOps.sitofp .bf16 0#32 : Ideal .bf16) = 0 := sitofp_zero
  simp only [hq, true_and, h0]
  by_cases h : q.val % 128 < 12
  · simp only [h, dite_true]
    exact congrArg (fun n => m ((c : Thread nD τ).loc main_arg2) (ix3 0 k n)) (Fin.ext (by dsimp only; omega))
  · simp only [h, dite_false]

/-- The body's normalised block holds normalised rows. -/
theorem norm_at (c : Dev nD) (t : Fin cfg0.N) (r : Fin 512) (k : Fin 1024) :
    k0_pay1 (iblk m c 0 t) (iblk m c 1 t) (ix2 r k) = Common.rmsAt (xRow m c (rowOf t.val (lt_N t) r)) (gRow m c) k := by
  pointwise [k0_pay1]
  simp only [blk_x, blk_g]
  rfl

theorem result6 (c : Dev nD) : (dats m 0 c).arrAt 6 cfg0.N = fun i => queryAt m c (i 0) (i 1) := by
  refine (dats m 0 c).arrAt_eq_of_covers 6 _ (by decide +kernel) fun t hf y => ?_
  blk_simp
  obtain ⟨r, q, rfl⟩ : ∃ r q, y = ix2 r q := ⟨y 0, y 1, eq_ix2 y⟩
  rw [after0_6, (outs_eq m c t).1, show (win0_6.blk t).view.emb (ix2 r q) = ix2 (rowOf t.val (lt_N t) r) q from by unfold rowOf; blk_ext! [ix_facts t]]
  pointwise [k0_pay2]
  simp only [norm_at, blk_w2]
  rfl

theorem result7 (c : Dev nD) : (dats m 0 c).arrAt 7 cfg0.N = fun i => kvAt m c (i 0) (i 1) := by
  refine (dats m 0 c).arrAt_eq_of_covers 7 _ (by decide +kernel) fun t hf y => ?_
  blk_simp
  obtain ⟨r, q, rfl⟩ : ∃ r q, y = ix2 r q := ⟨y 0, y 1, eq_ix2 y⟩
  rw [after0_7, (outs_eq m c t).2.1, show (win0_7.blk t).view.emb (ix2 r q) = ix2 (rowOf t.val (lt_N t) r) q from by unfold rowOf; blk_ext! [ix_facts t]]
  pointwise [k0_pay3]
  simp only [norm_at, blk_w3]
  rfl

theorem result8 (c : Dev nD) : (dats m 0 c).arrAt 8 cfg0.N = fun i => winAt m c (i 0) (i 1) := by
  refine (dats m 0 c).arrAt_eq_of_covers 8 _ (by decide +kernel) fun t hf y => ?_
  blk_simp
  obtain ⟨r, q, rfl⟩ : ∃ r q, y = ix2 r q := ⟨y 0, y 1, eq_ix2 y⟩
  rw [after0_8, (outs_eq m c t).2.2.1, show (win0_8.blk t).view.emb (ix2 r q) = ix2 (rowOf t.val (lt_N t) r) q from by unfold rowOf; blk_ext! [ix_facts t]]
  pointwise [k0_pay4]
  simp only [norm_at, blk_w4]
  rfl

theorem result9 (c : Dev nD) : (dats m 0 c).arrAt 9 cfg0.N = fun i => gateAt m c (i 0) (i 1) := by
  refine (dats m 0 c).arrAt_eq_of_covers 9 _ (by decide +kernel) fun t hf y => ?_
  blk_simp
  obtain ⟨r, q, rfl⟩ : ∃ r q, y = ix2 r q := ⟨y 0, y 1, eq_ix2 y⟩
  rw [after0_9, (outs_eq m c t).2.2.2, show (win0_9.blk t).view.emb (ix2 r q) = ix2 (rowOf t.val (lt_N t) r) q from by unfold rowOf; blk_ext! [ix_facts t]]
  pointwise [k0_pay5]
  simp only [norm_at, blk_w5]
  show _ = gateAt m c (rowOf t.val (lt_N t) r) q
  unfold gateAt projRow Common.projAt
  by_cases h : q.val % 128 < 12
  · simp only [h, dite_true]
  · simp only [h, dite_false, mul_zero, Finset.sum_const_zero]

/-! The reference's product before it is cut into its four results. -/

def refAll (x : FVec Ideal S32768x1024 .f32) (g : FVec Ideal S2x1024 .f32) (w : FVec Ideal S1x1024x2608 .f32) : FVec Ideal ProjBRefIdeal.S32768x2608 .f32 :=
  Host.dotGeneral ProjBRefIdeal.dot_S32768x1024_S1024x2608_S32768x2608_1_0_0_1_n_n none (mulf (mulf x (broadcastInDim ProjBRefIdeal.S32768x1024 ![0, 1] ProjBRefIdeal.Gen.bcast_S32768x1_S32768x1024_0_1 (Host.rsqrt (addf (Host.divf (broadcastInDim ProjBRefIdeal.S32768x1 ![0] ProjBRefIdeal.Gen.bcast_S32768_S32768x1_0 (Host.reduceAdd (mulf x x) (constant ProjBRefIdeal.S_ .f32 0x00000000#32) ProjBRefIdeal.Gen.reducesTo_S32768x1024_S32768_d1 ProjBRefIdeal.Gen.h_S_)) (broadcastInDim ProjBRefIdeal.S32768x1 ![] ProjBRefIdeal.Gen.bcast_S_S32768x1 (constant ProjBRefIdeal.S_ .f32 0x44800000#32))) (broadcastInDim ProjBRefIdeal.S32768x1 ![] ProjBRefIdeal.Gen.bcast_S_S32768x1 (constant ProjBRefIdeal.S_ .f32 0x358637BD#32)))))) (broadcastInDim ProjBRefIdeal.S32768x1024 ![0, 1] ProjBRefIdeal.Gen.bcast_S1x1024_S32768x1024_0_1 (broadcastInDim ProjBRefIdeal.S1x1024 ![1] ProjBRefIdeal.Gen.bcast_S1024_S1x1024_1 (shapeCast _ (extractStridedSlice ProjBRefIdeal.S1x1024 ![1, 0] g ProjBRefIdeal.Gen.slices_S2x1024_S1x1024_1_0) ProjBRefIdeal.Gen.shapeCasts_S1x1024_S1024)))) (shapeCast _ w ProjBRefIdeal.Gen.shapeCasts_S1x1024x2608_S1024x2608)

set_option maxRecDepth 16384 in
theorem refAll_at (x : FVec Ideal S32768x1024 .f32) (g : FVec Ideal S2x1024 .f32) (w : FVec Ideal S1x1024x2608 .f32)
    (r : Fin 32768) (n : Fin 2608) :
    refAll x g w (ix2 r n) = Common.projAt (fun k => x (ix2 r k)) (fun k => g (ix2 1 k)) (fun k => w (ix3 0 k n)) := by
  unfold Common.projAt Common.rmsAt
  pointwise [refAll]

theorem cut0 (y : FVec Ideal ProjBRefIdeal.S32768x2608 .f32) (r : Fin 32768) (q : Fin 1024) :
    extractStridedSlice ProjBRefIdeal.S32768x1024 ![0, 0] y ProjBRefIdeal.Gen.slices_S32768x2608_S32768x1024_0_0 (ix2 r q)
      = y (ix2 r ⟨q.val, by have := q.isLt; omega⟩) := by
  pointwise

theorem cut1 (y : FVec Ideal ProjBRefIdeal.S32768x2608 .f32) (r : Fin 32768) (q : Fin 1024) :
    extractStridedSlice ProjBRefIdeal.S32768x1024 ![0, 1024] y ProjBRefIdeal.Gen.slices_S32768x2608_S32768x1024_0_1024 (ix2 r q)
      = y (ix2 r ⟨1024 + q.val, by have := q.isLt; omega⟩) := by
  pointwise

theorem cut2 (y : FVec Ideal ProjBRefIdeal.S32768x2608 .f32) (r : Fin 32768) (q : Fin 512) :
    extractStridedSlice ProjBRefIdeal.S32768x512 ![0, 2048] y ProjBRefIdeal.Gen.slices_S32768x2608_S32768x512_0_2048 (ix2 r q)
      = y (ix2 r ⟨2048 + q.val, by have := q.isLt; omega⟩) := by
  pointwise

/-- The reference's gate, from its product. -/
def refGate (y : FVec Ideal ProjBRefIdeal.S32768x2608 .f32) : FVec Ideal ProjBRefIdeal.S32768x512 .f32 :=
  Host.divf (broadcastInDim ProjBRefIdeal.S32768x512 ![] ProjBRefIdeal.Gen.bcast_S_S32768x512 (constant ProjBRefIdeal.S_ .f32 0x3F800000#32)) (addf (broadcastInDim ProjBRefIdeal.S32768x512 ![] ProjBRefIdeal.Gen.bcast_S_S32768x512 (constant ProjBRefIdeal.S_ .f32 0x3F800000#32)) (Host.exp (Host.negf (shapeCast _ (pad ProjBRefIdeal.S32768x4x128 ![0, 0, 0] ![0, 0, 116] ![0, 0, 0] (shapeCast _ (extractStridedSlice ProjBRefIdeal.S32768x48 ![0, 2560] y ProjBRefIdeal.Gen.slices_S32768x2608_S32768x48_0_2560) ProjBRefIdeal.Gen.shapeCasts_S32768x48_S32768x4x12) (sitofp .f32 (constantI ProjBRefIdeal.S_ 32 0#32)) ProjBRefIdeal.Gen.pads_S32768x4x12_S32768x4x128_000_000_01160 ProjBRefIdeal.Gen.h_S_) ProjBRefIdeal.Gen.shapeCasts_S32768x4x128_S32768x512))))

theorem cut3 (y : FVec Ideal ProjBRefIdeal.S32768x2608 .f32) (r : Fin 32768) (q : Fin 512) :
    refGate y (ix2 r q)
      = Ideal.logistic (if h : q.val % 128 < 12 then y (ix2 r ⟨2560 + 12 * (q.val / 128) + q.val % 128, by have := q.isLt; omega⟩) else 0) := by
  pointwise [refGate]
  have hq : q.val / 128 < 4 := by have := q.isLt; omega
  have h0 : (FloatOps.sitofp .f32 0#32 : Ideal .f32) = 0 := sitofp_zero
  simp only [hq, true_and, h0, Ideal.logistic]
  by_cases h : q.val % 128 < 12
  · simp only [h, dite_true]
    rw [show (⟨2560 + (q.val / 128 * 12 + q.val % 128), by omega⟩ : Fin 2608) = ⟨2560 + 12 * (q.val / 128) + q.val % 128, by omega⟩ from
      Fin.ext (by dsimp only; omega)]
  · simp only [h, dite_false]

/-- The kernel and the reference end with the same four arrays. -/
theorem agrees : algebraic_ProjBIdeal_ProjBRefIdeal (hProjBIdeal := Cert.ProjBIdeal.Gen.facts) (hProjBRefIdeal := Cert.ProjBRefIdeal.Gen.facts) := by
  pair_intro
  · run_from (Value.run_blocks m g)
  · run_from (ProjBRefIdeal.Value.run m' g')
    · funext j
      obtain ⟨r, q, rfl⟩ : ∃ r q, j = ix2 r q := ⟨j 0, j 1, eq_ix2 j⟩
      rw [result6]
      exact (cut0 (refAll _ _ _) r q).trans (refAll_at _ _ _ _ _)
    · funext j
      obtain ⟨r, q, rfl⟩ : ∃ r q, j = ix2 r q := ⟨j 0, j 1, eq_ix2 j⟩
      rw [result7]
      exact (cut1 (refAll _ _ _) r q).trans (refAll_at _ _ _ _ _)
    · funext j
      obtain ⟨r, q, rfl⟩ : ∃ r q, j = ix2 r q := ⟨j 0, j 1, eq_ix2 j⟩
      rw [result8]
      exact (cut2 (refAll _ _ _) r q).trans (refAll_at _ _ _ _ _)
    · funext j
      obtain ⟨r, q, rfl⟩ : ∃ r q, j = ix2 r q := ⟨j 0, j 1, eq_ix2 j⟩
      rw [result9]
      refine (cut3 (refAll _ _ _) r q).trans ?_
      simp only [refAll_at]
      rfl

end Cert.ProjBIdeal.Closed

end
-- ==== Proof.ResidValue.lean ====
module

public import proofs.«01_k».proof.Defs
public import proofs.«01_k».proof.Proof.Gen.ResidIdeal.Value
public import proofs.«01_k».proof.Proof.Gen.ResidRefIdeal.Run
public import proofs.«01_k».proof.Proof.Common
public import Idealize.ShloMosaic.Lib.Pipeline.ValueKit
public import Idealize.ShloMosaic.Lib.Pipeline.ReadBack
public import Idealize.ShloMosaic.Lib.Claim
public import Idealize.ShloMosaic.Lib.Pointwise

@[expose] public section

noncomputable section

namespace Cert.ResidIdeal.Closed

open Cert.ResidIdeal Cert.ResidIdeal.Gen Idealize.ShloMosaic Idealize.ShloMosaic.TcCoe Idealize.SL.Sem

variable (m : (ℓ : Loc nD τ sig) → Buf (Elt Ideal) ℓ)

theorem ix_facts : ∀ t : Fin cfg0.N, win0_0.index t = ![t.val, 0] ∧ win0_1.index t = ![t.val, 0] ∧ win0_2.index t = ![0, 0]
    ∧ win0_3.index t = ![t.val, 0] := by decide +kernel

/-- The argument arrays as matrices. -/
def aMat (c : Dev nD) (r : Fin 32768) (k : Fin 1024) : EReal := m ((c : Thread nD τ).loc main_arg0) (ix2 r k)
def xMat (c : Dev nD) (r : Fin 32768) (k : Fin 1024) : EReal := m ((c : Thread nD τ).loc main_arg1) (ix2 r k)
def wMat (c : Dev nD) (k q : Fin 1024) : EReal := m ((c : Thread nD τ).loc main_arg2) (ix2 k q)

theorem lt_64 (t : Fin cfg0.N) : t.val < 64 := lt_of_lt_of_eq t.isLt N_0

/-- The row of the array that row `r` of the block at point `n` is. -/
def rowOf (n : ℕ) (hn : n < 64) (r : Fin 512) : Fin 32768 := ⟨512 * n + r.val, by have := r.isLt; omega⟩

theorem blk_a (c : Dev nD) (t : Fin cfg0.N) (r : Fin 512) (k : Fin 1024) : iblk m c 0 t (ix2 r k) = aMat m c (rowOf t.val (lt_64 t) r) k := by
  unfold aMat rowOf
  blk_ext! [iblk, V, ix_facts t]

theorem blk_x (c : Dev nD) (t : Fin cfg0.N) (r : Fin 512) (k : Fin 1024) : iblk m c 1 t (ix2 r k) = xMat m c (rowOf t.val (lt_64 t) r) k := by
  unfold xMat rowOf
  blk_ext! [iblk, V, ix_facts t]

theorem blk_w (c : Dev nD) (t : Fin cfg0.N) (k q : Fin 1024) : iblk m c 2 t (ix2 k q) = wMat m c k q := by
  unfold wMat
  blk_ext! [iblk, V, ix_facts t]

/-- The rows with the product added. -/
def resAt (c : Dev nD) (r : Fin 32768) (q : Fin 1024) : EReal := xMat m c r q + ∑ k, aMat m c r k * wMat m c k q

/-- What a point writes, at an index. -/
theorem out_at (c : Dev nD) (t : Fin cfg0.N) (r : Fin 512) (q : Fin 1024) :
    out0_3 (iblk m c 0 t) (iblk m c 1 t) (iblk m c 2 t) (ix2 r q) = resAt m c (rowOf t.val (lt_64 t) r) q := by
  frame_out
  pointwise [k0_pay1]
  simp only [blk_a, blk_x, blk_w]
  rfl

/-- The kernel's result array. -/
theorem result_eq (c : Dev nD) : (dats m 0 c).arrAt 3 cfg0.N = fun i => resAt m c (i 0) (i 1) := by
  refine (dats m 0 c).arrAt_eq_of_covers 3 _ (by decide +kernel) fun t hf y => ?_
  blk_simp
  rw [after0_3]
  obtain ⟨r, q, rfl⟩ : ∃ r q, y = ix2 r q := ⟨y 0, y 1, eq_ix2 y⟩
  rw [out_at, show (win0_3.blk t).view.emb (ix2 r q) = ix2 (rowOf t.val (lt_64 t) r) q from by unfold rowOf; blk_ext! [ix_facts t]]
  rfl

/-- The kernel and the reference end with the same array. -/
theorem agrees : algebraic_ResidIdeal_ResidRefIdeal (hResidIdeal := Cert.ResidIdeal.Gen.facts) (hResidRefIdeal := Cert.ResidRefIdeal.Gen.facts) := by
  pair_intro
  · run_from (Value.run_blocks m g)
  · run_from (ResidRefIdeal.Value.run m' g')
    funext j
    obtain ⟨r, q, rfl⟩ : ∃ r q, j = ix2 r q := ⟨j 0, j 1, eq_ix2 j⟩
    rw [result_eq m c]
    pointwise
    rfl

end Cert.ResidIdeal.Closed

end
-- ==== Proof.ProjBSValue.lean ====
module

public import proofs.«01_k».proof.Defs
public import proofs.«01_k».proof.Proof.Gen.ProjBSIdeal.Value
public import proofs.«01_k».proof.Proof.Gen.ProjBSRefIdeal.Run
public import proofs.«01_k».proof.Proof.Common
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.KernelVsHost
public import Idealize.ShloMosaic.Lib.StableHlo.ReadAt

@[expose] public section

noncomputable section

namespace Cert.ProjBSIdeal.Closed

open Cert.ProjBSIdeal Cert.ProjBSIdeal.Gen Idealize.ShloMosaic Idealize.ShloMosaic.TcCoe Idealize.SL.Sem

variable (m : (ℓ : Loc nD τ sig) → Buf (Elt Ideal) ℓ)

theorem ix_facts : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] := by decide +kernel

/-- A point writes the products of its normalised rows and the four weights, the last one through the logistic function. -/
theorem outs_eq (c : Dev nD) (t : Fin cfg0.N) :
    (outsAt0 m c t).1 = k0_pay2 (k0_pay1 (iblk m c 0 t) (iblk m c 1 t)) (iblk m c 2 t)
    ∧ (outsAt0 m c t).2.1 = k0_pay3 (k0_pay1 (iblk m c 0 t) (iblk m c 1 t)) (iblk m c 3 t)
    ∧ (outsAt0 m c t).2.2.1 = k0_pay4 (k0_pay1 (iblk m c 0 t) (iblk m c 1 t)) (iblk m c 4 t)
    ∧ (outsAt0 m c t).2.2.2 = k0_pay5 (k0_pay1 (iblk m c 0 t) (iblk m c 1 t)) (iblk m c 5 t) := by
  unfold outsAt0
  and_intros <;> frame_out

/-! The blocks the windows read, at an index. -/

/-- The argument arrays as rows and columns. -/
def xRow (c : Dev nD) (r : Fin 32) (k : Fin 1024) : EReal := m ((c : Thread nD τ).loc main_arg0) (ix2 r k)
def gRow (c : Dev nD) (k : Fin 1024) : EReal := m ((c : Thread nD τ).loc main_arg1) (ix2 1 k)
def wCol (c : Dev nD) (n : Fin 2608) (k : Fin 1024) : EReal := m ((c : Thread nD τ).loc main_arg2) (ix3 0 k n)

/-- Row `r` of the result at column `n` of the whole weight. -/
def projRow (c : Dev nD) (r : Fin 32) (n : Fin 2608) : EReal := Common.projAt (xRow m c r) (gRow m c) (wCol m c n)

/-- The four results at an index: query columns, compressed and selected keys and values, window keys and values, and the
    gate — the logistic function of a gate column's product, of zero where the column is padding. -/
def queryAt (c : Dev nD) (r : Fin 32) (q : Fin 1024) : EReal := projRow m c r ⟨q.val, by have := q.isLt; omega⟩
def kvAt (c : Dev nD) (r : Fin 32) (q : Fin 1024) : EReal := projRow m c r ⟨1024 + q.val, by have := q.isLt; omega⟩
def winAt (c : Dev nD) (r : Fin 32) (q : Fin 512) : EReal := projRow m c r ⟨2048 + q.val, by have := q.isLt; omega⟩
def gateAt (c : Dev nD) (r : Fin 32) (q : Fin 512) : EReal :=
  Ideal.logistic (if h : q.val % 128 < 12 then projRow m c r ⟨2560 + 12 * (q.val / 128) + q.val % 128, by have := q.isLt; omega⟩ else 0)

theorem blk_x (c : Dev nD) (t : Fin cfg0.N) (r : Fin 32) (k : Fin 1024) : iblk m c 0 t (ix2 r k) = xRow m c r k := by
  unfold xRow
  blk_ext! [iblk, V, ix_facts t]

theorem blk_g (c : Dev nD) (t : Fin cfg0.N) (k : Fin 1024) : iblk m c 1 t (ix2 0 k) = gRow m c k := by
  unfold gRow
  blk_simp [iblk, V]
  rw [show (win0_1.blk t).view.emb (ix2 0 k) = ix2 0 k from by blk_ext! [ix_facts t]]
  after_reads_at

theorem blk_w2 (c : Dev nD) (t : Fin cfg0.N) (k q : Fin 1024) : iblk m c 2 t (ix2 k q) = wCol m c ⟨q.val, by have := q.isLt; omega⟩ k := by
  unfold wCol
  blk_simp [iblk, V]
  rw [show (win0_2.blk t).view.emb (ix2 k q) = ix2 k q from by blk_ext! [ix_facts t]]
  after_reads_at

theorem blk_w3 (c : Dev nD) (t : Fin cfg0.N) (k q : Fin 1024) : iblk m c 3 t (ix2 k q) = wCol m c ⟨1024 + q.val, by have := q.isLt; omega⟩ k := by
  unfold wCol
  blk_simp [iblk, V]
  rw [show (win0_3.blk t).view.emb (ix2 k q) = ix2 k q from by blk_ext! [ix_facts t]]
  after_reads_at

theorem blk_w4 (c : Dev nD) (t : Fin cfg0.N) (k : Fin 1024) (q : Fin 512) :
    iblk m c 4 t (ix2 k q) = wCol m c ⟨2048 + q.val, by have := q.isLt; omega⟩ k := by
  unfold wCol
  blk_simp [iblk, V]
  rw [show (win0_4.blk t).view.emb (ix2 k q) = ix2 k q from by blk_ext! [ix_facts t]]
  after_reads_at

/-- Column `q` of the padded gate weight: of each 128 columns the first 12 are gate columns, the others zero. -/
theorem blk_w5 (c : Dev nD) (t : Fin cfg0.N) (k : Fin 1024) (q : Fin 512) :
    iblk m c 5 t (ix2 k q) = if h : q.val % 128 < 12 then wCol m c ⟨2560 + 12 * (q.val / 128) + q.val % 128, by have := q.isLt; omega⟩ k else 0 := by
  unfold wCol
  blk_simp [iblk, V]
  rw [show (win0_5.blk t).view.emb (ix2 k q) = ix2 k q from by blk_ext! [ix_facts t]]
  after_reads_at
  have hq : q.val / 128 < 4 := by have := q.isLt; omega
  have h0 : (FloatOps.sitofp .bf16 0#32 : Ideal .bf16) = 0 := sitofp_zero
  simp only [hq, true_and, h0]
  by_cases h : q.val % 128 < 12
  · simp only [h, dite_true]
    exact congrArg (fun n => m ((c : Thread nD τ).loc main_arg2) (ix3 0 k n)) (Fin.ext (by dsimp only; omega))
  · simp only [h, dite_false]

/-- The body's normalised block holds normalised rows. -/
theorem norm_at (c : Dev nD) (t : Fin cfg0.N) (r : Fin 32) (k : Fin 1024) :
    k0_pay1 (iblk m c 0 t) (iblk m c 1 t) (ix2 r k) = Common.rmsAt (xRow m c r) (gRow m c) k := by
  pointwise [k0_pay1]
  simp only [blk_x, blk_g]
  rfl

theorem result6 (c : Dev nD) : (dats m 0 c).arrAt 6 cfg0.N = fun i => queryAt m c (i 0) (i 1) := by
  refine (dats m 0 c).arrAt_eq_of_covers 6 _ (by decide +kernel) fun t hf y => ?_
  blk_simp
  obtain ⟨r, q, rfl⟩ : ∃ r q, y = ix2 r q := ⟨y 0, y 1, eq_ix2 y⟩
  rw [after0_6, (outs_eq m c t).1, show (win0_6.blk t).view.emb (ix2 r q) = ix2 r q from by blk_ext! [ix_facts t]]
  pointwise [k0_pay2]
  simp only [norm_at, blk_w2]
  rfl

theorem result7 (c : Dev nD) : (dats m 0 c).arrAt 7 cfg0.N = fun i => kvAt m c (i 0) (i 1) := by
  refine (dats m 0 c).arrAt_eq_of_covers 7 _ (by decide +kernel) fun t hf y => ?_
  blk_simp
  obtain ⟨r, q, rfl⟩ : ∃ r q, y = ix2 r q := ⟨y 0, y 1, eq_ix2 y⟩
  rw [after0_7, (outs_eq m c t).2.1, show (win0_7.blk t).view.emb (ix2 r q) = ix2 r q from by blk_ext! [ix_facts t]]
  pointwise [k0_pay3]
  simp only [norm_at, blk_w3]
  rfl

theorem result8 (c : Dev nD) : (dats m 0 c).arrAt 8 cfg0.N = fun i => winAt m c (i 0) (i 1) := by
  refine (dats m 0 c).arrAt_eq_of_covers 8 _ (by decide +kernel) fun t hf y => ?_
  blk_simp
  obtain ⟨r, q, rfl⟩ : ∃ r q, y = ix2 r q := ⟨y 0, y 1, eq_ix2 y⟩
  rw [after0_8, (outs_eq m c t).2.2.1, show (win0_8.blk t).view.emb (ix2 r q) = ix2 r q from by blk_ext! [ix_facts t]]
  pointwise [k0_pay4]
  simp only [norm_at, blk_w4]
  rfl

theorem result9 (c : Dev nD) : (dats m 0 c).arrAt 9 cfg0.N = fun i => gateAt m c (i 0) (i 1) := by
  refine (dats m 0 c).arrAt_eq_of_covers 9 _ (by decide +kernel) fun t hf y => ?_
  blk_simp
  obtain ⟨r, q, rfl⟩ : ∃ r q, y = ix2 r q := ⟨y 0, y 1, eq_ix2 y⟩
  rw [after0_9, (outs_eq m c t).2.2.2, show (win0_9.blk t).view.emb (ix2 r q) = ix2 r q from by blk_ext! [ix_facts t]]
  pointwise [k0_pay5]
  simp only [norm_at, blk_w5]
  show _ = gateAt m c r q
  unfold gateAt projRow Common.projAt
  by_cases h : q.val % 128 < 12
  · simp only [h, dite_true]
  · simp only [h, dite_false, mul_zero, Finset.sum_const_zero]

/-! The reference's product before it is cut into its four results. -/

def refAll (x : FVec Ideal S32x1024 .f32) (g : FVec Ideal S2x1024 .f32) (w : FVec Ideal S1x1024x2608 .f32) : FVec Ideal ProjBSRefIdeal.S32x2608 .f32 :=
  Host.dotGeneral ProjBSRefIdeal.dot_S32x1024_S1024x2608_S32x2608_1_0_0_1_n_n none (mulf (mulf x (broadcastInDim ProjBSRefIdeal.S32x1024 ![0, 1] ProjBSRefIdeal.Gen.bcast_S32x1_S32x1024_0_1 (Host.rsqrt (addf (Host.divf (broadcastInDim ProjBSRefIdeal.S32x1 ![0] ProjBSRefIdeal.Gen.bcast_S32_S32x1_0 (Host.reduceAdd (mulf x x) (constant ProjBSRefIdeal.S_ .f32 0x00000000#32) ProjBSRefIdeal.Gen.reducesTo_S32x1024_S32_d1 ProjBSRefIdeal.Gen.h_S_)) (broadcastInDim ProjBSRefIdeal.S32x1 ![] ProjBSRefIdeal.Gen.bcast_S_S32x1 (constant ProjBSRefIdeal.S_ .f32 0x44800000#32))) (broadcastInDim ProjBSRefIdeal.S32x1 ![] ProjBSRefIdeal.Gen.bcast_S_S32x1 (constant ProjBSRefIdeal.S_ .f32 0x358637BD#32)))))) (broadcastInDim ProjBSRefIdeal.S32x1024 ![0, 1] ProjBSRefIdeal.Gen.bcast_S1x1024_S32x1024_0_1 (broadcastInDim ProjBSRefIdeal.S1x1024 ![1] ProjBSRefIdeal.Gen.bcast_S1024_S1x1024_1 (shapeCast _ (extractStridedSlice ProjBSRefIdeal.S1x1024 ![1, 0] g ProjBSRefIdeal.Gen.slices_S2x1024_S1x1024_1_0) ProjBSRefIdeal.Gen.shapeCasts_S1x1024_S1024)))) (shapeCast _ w ProjBSRefIdeal.Gen.shapeCasts_S1x1024x2608_S1024x2608)

set_option maxRecDepth 16384 in
theorem refAll_at (x : FVec Ideal S32x1024 .f32) (g : FVec Ideal S2x1024 .f32) (w : FVec Ideal S1x1024x2608 .f32)
    (r : Fin 32) (n : Fin 2608) :
    refAll x g w (ix2 r n) = Common.projAt (fun k => x (ix2 r k)) (fun k => g (ix2 1 k)) (fun k => w (ix3 0 k n)) := by
  unfold Common.projAt Common.rmsAt
  pointwise [refAll]

theorem cut0 (y : FVec Ideal ProjBSRefIdeal.S32x2608 .f32) (r : Fin 32) (q : Fin 1024) :
    extractStridedSlice ProjBSRefIdeal.S32x1024 ![0, 0] y ProjBSRefIdeal.Gen.slices_S32x2608_S32x1024_0_0 (ix2 r q)
      = y (ix2 r ⟨q.val, by have := q.isLt; omega⟩) := by
  pointwise

theorem cut1 (y : FVec Ideal ProjBSRefIdeal.S32x2608 .f32) (r : Fin 32) (q : Fin 1024) :
    extractStridedSlice ProjBSRefIdeal.S32x1024 ![0, 1024] y ProjBSRefIdeal.Gen.slices_S32x2608_S32x1024_0_1024 (ix2 r q)
      = y (ix2 r ⟨1024 + q.val, by have := q.isLt; omega⟩) := by
  pointwise

theorem cut2 (y : FVec Ideal ProjBSRefIdeal.S32x2608 .f32) (r : Fin 32) (q : Fin 512) :
    extractStridedSlice ProjBSRefIdeal.S32x512 ![0, 2048] y ProjBSRefIdeal.Gen.slices_S32x2608_S32x512_0_2048 (ix2 r q)
      = y (ix2 r ⟨2048 + q.val, by have := q.isLt; omega⟩) := by
  pointwise

/-- The reference's gate, from its product. -/
def refGate (y : FVec Ideal ProjBSRefIdeal.S32x2608 .f32) : FVec Ideal ProjBSRefIdeal.S32x512 .f32 :=
  Host.divf (broadcastInDim ProjBSRefIdeal.S32x512 ![] ProjBSRefIdeal.Gen.bcast_S_S32x512 (constant ProjBSRefIdeal.S_ .f32 0x3F800000#32)) (addf (broadcastInDim ProjBSRefIdeal.S32x512 ![] ProjBSRefIdeal.Gen.bcast_S_S32x512 (constant ProjBSRefIdeal.S_ .f32 0x3F800000#32)) (Host.exp (Host.negf (shapeCast _ (pad ProjBSRefIdeal.S32x4x128 ![0, 0, 0] ![0, 0, 116] ![0, 0, 0] (shapeCast _ (extractStridedSlice ProjBSRefIdeal.S32x48 ![0, 2560] y ProjBSRefIdeal.Gen.slices_S32x2608_S32x48_0_2560) ProjBSRefIdeal.Gen.shapeCasts_S32x48_S32x4x12) (sitofp .f32 (constantI ProjBSRefIdeal.S_ 32 0#32)) ProjBSRefIdeal.Gen.pads_S32x4x12_S32x4x128_000_000_01160 ProjBSRefIdeal.Gen.h_S_) ProjBSRefIdeal.Gen.shapeCasts_S32x4x128_S32x512))))

theorem cut3 (y : FVec Ideal ProjBSRefIdeal.S32x2608 .f32) (r : Fin 32) (q : Fin 512) :
    refGate y (ix2 r q)
      = Ideal.logistic (if h : q.val % 128 < 12 then y (ix2 r ⟨2560 + 12 * (q.val / 128) + q.val % 128, by have := q.isLt; omega⟩) else 0) := by
  pointwise [refGate]
  have hq : q.val / 128 < 4 := by have := q.isLt; omega
  have h0 : (FloatOps.sitofp .f32 0#32 : Ideal .f32) = 0 := sitofp_zero
  simp only [hq, true_and, h0, Ideal.logistic]
  by_cases h : q.val % 128 < 12
  · simp only [h, dite_true]
    rw [show (⟨2560 + (q.val / 128 * 12 + q.val % 128), by omega⟩ : Fin 2608) = ⟨2560 + 12 * (q.val / 128) + q.val % 128, by omega⟩ from
      Fin.ext (by dsimp only; omega)]
  · simp only [h, dite_false]

/-- The kernel and the reference end with the same four arrays. -/
theorem agrees : algebraic_ProjBSIdeal_ProjBSRefIdeal (hProjBSIdeal := Cert.ProjBSIdeal.Gen.facts) (hProjBSRefIdeal := Cert.ProjBSRefIdeal.Gen.facts) := by
  pair_intro
  · run_from (Value.run_blocks m g)
  · run_from (ProjBSRefIdeal.Value.run m' g')
    · funext j
      obtain ⟨r, q, rfl⟩ : ∃ r q, j = ix2 r q := ⟨j 0, j 1, eq_ix2 j⟩
      rw [result6]
      exact (cut0 (refAll _ _ _) r q).trans (refAll_at _ _ _ _ _)
    · funext j
      obtain ⟨r, q, rfl⟩ : ∃ r q, j = ix2 r q := ⟨j 0, j 1, eq_ix2 j⟩
      rw [result7]
      exact (cut1 (refAll _ _ _) r q).trans (refAll_at _ _ _ _ _)
    · funext j
      obtain ⟨r, q, rfl⟩ : ∃ r q, j = ix2 r q := ⟨j 0, j 1, eq_ix2 j⟩
      rw [result8]
      exact (cut2 (refAll _ _ _) r q).trans (refAll_at _ _ _ _ _)
    · funext j
      obtain ⟨r, q, rfl⟩ : ∃ r q, j = ix2 r q := ⟨j 0, j 1, eq_ix2 j⟩
      rw [result9]
      refine (cut3 (refAll _ _ _) r q).trans ?_
      simp only [refAll_at]
      rfl

end Cert.ProjBSIdeal.Closed

end
-- ==== Proof.MlpSFValue.lean ====
module

public import proofs.«01_k».proof.Defs
public import proofs.«01_k».proof.Proof.Gen.MlpSFIdeal.Value
public import proofs.«01_k».proof.Proof.Gen.MlpSFRefIdeal.Run
public import proofs.«01_k».proof.Proof.Common
public import Idealize.ShloMosaic.Lib.Pipeline.ValueKit
public import Idealize.ShloMosaic.Lib.Pipeline.ReadBack
public import Idealize.ShloMosaic.Lib.Claim
public import Idealize.ShloMosaic.Lib.Pointwise

@[expose] public section

noncomputable section

namespace Cert.MlpSFIdeal.Closed

open Cert.MlpSFIdeal Cert.MlpSFIdeal.Gen Idealize.ShloMosaic Idealize.ShloMosaic.TcCoe Idealize.SL.Sem

variable (m : (ℓ : Loc nD τ sig) → Buf (Elt Ideal) ℓ)

theorem ix_facts : ∀ t : Fin cfg0.N, win0_0.index t = ![t.val / 4, 0] ∧ win0_1.index t = ![0, 0] ∧ win0_2.index t = ![0, t.val % 4]
    ∧ win0_3.index t = ![t.val % 4, 0] ∧ win0_4.index t = ![0, 0] := by decide +kernel

/-- At the first hidden block of a row block the first scratch takes the normalised rows. -/
theorem norm_A (c : Dev nD) (t : Fin cfg0.N) (h0 : t.val % 4 = 0) (h1 : ¬t.val % 4 = 3) :
    (outsAt0 m c t.val t.isLt).2.1 = k0_pay1 (iblk m c 0 t) (iblk m c 1 t) := by
  rw [outsAt0_A m c t h0 h1]
  frame_out

/-- At the first hidden block the accumulator takes that block's product over zero. -/
theorem acc_A (c : Dev nD) (t : Fin cfg0.N) (h0 : t.val % 4 = 0) (h1 : ¬t.val % 4 = 3) :
    (outsAt0 m c t.val t.isLt).2.2
      = k0_pay3 (k0_pay1 (iblk m c 0 t) (iblk m c 1 t)) (iblk m c 2 t) (k0_pay2 (F := Ideal)) (iblk m c 3 t) := by
  rw [outsAt0_A m c t h0 h1]
  frame_out

/-- Between, the accumulator takes one more block's product. -/
theorem acc_B (c : Dev nD) (t : Fin cfg0.N) (h0 : ¬t.val % 4 = 0) (h1 : ¬t.val % 4 = 3) :
    (outsAt0 m c t.val t.isLt).2.2
      = k0_pay3 (outsAt0 m c (t.val - 1) (Nat.lt_of_le_of_lt (Nat.sub_le _ _) t.isLt)).2.1 (iblk m c 2 t)
          (outsAt0 m c (t.val - 1) (Nat.lt_of_le_of_lt (Nat.sub_le _ _) t.isLt)).2.2 (iblk m c 3 t) := by
  rw [outsAt0_B m c t h0 h1]
  frame_out
  simp only [read_unread_whole]

/-- And so at the last block. -/
theorem acc_C (c : Dev nD) (t : Fin cfg0.N) (h0 : ¬t.val % 4 = 0) (h1 : t.val % 4 = 3) :
    (outsAt0 m c t.val t.isLt).2.2
      = k0_pay3 (outsAt0 m c (t.val - 1) (Nat.lt_of_le_of_lt (Nat.sub_le _ _) t.isLt)).2.1 (iblk m c 2 t)
          (outsAt0 m c (t.val - 1) (Nat.lt_of_le_of_lt (Nat.sub_le _ _) t.isLt)).2.2 (iblk m c 3 t) := by
  rw [outsAt0_C m c t h0 h1]
  frame_out
  simp only [read_unread_whole]

/-- The last block writes the normalised sum of the rows and the accumulator. -/
theorem out_C (c : Dev nD) (t : Fin cfg0.N) (h0 : ¬t.val % 4 = 0) (h1 : t.val % 4 = 3) :
    (outsAt0 m c t.val t.isLt).1 = k0_pay4 (iblk m c 0 t) (outsAt0 m c t.val t.isLt).2.2 (iblk m c 4 t) := by
  rw [acc_C m c t h0 h1, outsAt0_C m c t h0 h1]
  frame_out
  simp only [read_unread_whole]

/-! The blocks the windows read, at an index. -/

/-- The argument arrays as rows and matrices. -/
def xRow (c : Dev nD) (r : Fin 32) (k : Fin 1024) : EReal := m ((c : Thread nD τ).loc main_arg0) (ix2 r k)
def gRow (c : Dev nD) (k : Fin 1024) : EReal := m ((c : Thread nD τ).loc main_arg1) (ix1 k)
def gfRow (c : Dev nD) (k : Fin 1024) : EReal := m ((c : Thread nD τ).loc main_arg4) (ix1 k)
def wuMat (c : Dev nD) (k : Fin 1024) (h : Fin 4096) : EReal := m ((c : Thread nD τ).loc main_arg2) (ix2 k h)
def wdMat (c : Dev nD) (h : Fin 4096) (q : Fin 1024) : EReal := m ((c : Thread nD τ).loc main_arg3) (ix2 h q)

/-- The row of the array that row `r` of the block at point `n` is. -/
def rowOf (n : ℕ) (hn : n < 4) (r : Fin 32) : Fin 32 := ⟨32 * (n / 4) + r.val, by have := r.isLt; omega⟩

theorem lt_4 (t : Fin cfg0.N) : t.val < 4 := lt_of_lt_of_eq t.isLt N_0

theorem blk_x (c : Dev nD) (t : Fin cfg0.N) (r : Fin 32) (k : Fin 1024) :
    iblk m c 0 t (ix2 r k) = xRow m c (rowOf t.val (lt_4 t) r) k := by
  unfold xRow rowOf
  blk_ext! [iblk, V, ix_facts t]

theorem blk_g (c : Dev nD) (t : Fin cfg0.N) (k : Fin 1024) : iblk m c 1 t (ix2 0 k) = gRow m c k := by
  unfold gRow
  blk_ext! [iblk, V, ix_facts t]

theorem blk_gf (c : Dev nD) (t : Fin cfg0.N) (k : Fin 1024) : iblk m c 4 t (ix2 0 k) = gfRow m c k := by
  unfold gfRow
  blk_ext! [iblk, V, ix_facts t]

theorem blk_wu (c : Dev nD) (t : Fin cfg0.N) (k j : Fin 1024) : iblk m c 2 t (ix2 k j) = wuMat m c k (Common.col t.val j) := by
  unfold wuMat Common.col
  blk_ext! [iblk, V, ix_facts t]

theorem blk_wd (c : Dev nD) (t : Fin cfg0.N) (j q : Fin 1024) : iblk m c 3 t (ix2 j q) = wdMat m c (Common.col t.val j) q := by
  unfold wdMat Common.col
  blk_ext! [iblk, V, ix_facts t]

/-- The body's normalised block holds normalised rows. -/
theorem norm_at (c : Dev nD) (t : Fin cfg0.N) (r : Fin 32) (k : Fin 1024) :
    k0_pay1 (iblk m c 0 t) (iblk m c 1 t) (ix2 r k)
      = Common.rmsAt (xRow m c (rowOf t.val (lt_4 t) r)) (gRow m c) k := by
  pointwise [k0_pay1]
  simp only [blk_x, blk_g]
  rfl

/-- One step of the accumulator, over a block of normalised rows. -/
theorem step_at (c : Dev nD) (t : Fin cfg0.N) (H : Vec Ideal S32x1024 .bf16) (A : Vec Ideal S32x1024 .f32)
    (hH : ∀ r k, H (ix2 r k) = Common.rmsAt (xRow m c (rowOf t.val (lt_4 t) r)) (gRow m c) k) (r : Fin 32) (q : Fin 1024) :
    k0_pay3 H (iblk m c 2 t) A (iblk m c 3 t) (ix2 r q)
      = A (ix2 r q) + ∑ j, Common.term (xRow m c (rowOf t.val (lt_4 t) r)) (gRow m c) (wuMat m c) (wdMat m c) q (Common.col t.val j) := by
  pointwise [k0_pay3]
  simp only [blk_wu, blk_wd, hH]
  rfl

theorem zero_at (r : Fin 32) (q : Fin 1024) : (k0_pay2 (F := Ideal) : Vec Ideal S32x1024 .f32) (ix2 r q) = 0 := by
  pointwise [k0_pay2]

/-- After point `n` the first scratch holds the row block's normalised rows and the accumulator the sum of the hidden
    blocks met so far. -/
theorem state_at (c : Dev nD) (n : ℕ) (hn : n < cfg0.N) :
    (∀ r k, (outsAt0 m c n hn).2.1 (ix2 r k) = Common.rmsAt (xRow m c (rowOf n (lt_4 ⟨n, hn⟩) r)) (gRow m c) k) ∧
    (∀ r q, (outsAt0 m c n hn).2.2 (ix2 r q) = ∑ s ∈ Finset.range (n % 4 + 1), ∑ j,
        Common.term (xRow m c (rowOf n (lt_4 ⟨n, hn⟩) r)) (gRow m c) (wuMat m c) (wdMat m c) q (Common.col s j)) := by
  refine Common.fold_rows (N := cfg0.N) (fun n h r => xRow m c (rowOf n (lt_4 ⟨n, h⟩) r)) (gRow m c) (wuMat m c) (wdMat m c)
    (fun n h r k => (outsAt0 m c n h).2.1 (ix2 r k)) (fun n h r q => (outsAt0 m c n h).2.2 (ix2 r q)) ?_ ?_ ?_ ?_ ?_ n hn
  · intro n h h0
    have hr : ∀ r, rowOf (n + 1) (lt_4 ⟨n + 1, h⟩) r = rowOf n (lt_4 ⟨n, Nat.lt_of_succ_lt h⟩) r := by
      intro r; unfold rowOf; apply Fin.ext; dsimp only; omega
    funext r
    rw [hr]
  · intro n h h0 r k
    rw [norm_A m c ⟨n, h⟩ h0 (by dsimp only; omega)]
    exact norm_at m c ⟨n, h⟩ r k
  · intro n h h0
    by_cases h1 : (n + 1) % 4 = 3
    · rw [congrArg (fun z => z.2.1) (outsAt0_C m c ⟨n + 1, h⟩ h0 h1)]; rfl
    · rw [congrArg (fun z => z.2.1) (outsAt0_B m c ⟨n + 1, h⟩ h0 h1)]; rfl
  · intro n h h0 r q
    rw [acc_A m c ⟨n, h⟩ h0 (by dsimp only; omega), step_at m c ⟨n, h⟩ _ _ (norm_at m c ⟨n, h⟩), zero_at, zero_add]
  · intro n h h0 i1 r q
    by_cases h1 : (n + 1) % 4 = 3
    · rw [acc_C m c ⟨n + 1, h⟩ h0 h1]; exact step_at m c ⟨n + 1, h⟩ _ _ i1 r q
    · rw [acc_B m c ⟨n + 1, h⟩ h0 h1]; exact step_at m c ⟨n + 1, h⟩ _ _ i1 r q

/-- The kernel's result array. -/
theorem result_at (c : Dev nD) (r : Fin 32) (q : Fin 1024) :
    Value.G5 m c (ix2 r q) = Common.rmsAt (fun k => Common.mlpAt (xRow m c r) (gRow m c) (wuMat m c) (wdMat m c) k) (gfRow m c) q := by
  have hr := r.isLt
  have hq := q.isLt
  have hN : cfg0.N = 4 := N_0
  have e : Value.pt5Of (ix2 r q) = 4 * (r.val / 32) + 3 := by
    have : q.val / 1024 = 0 := Nat.div_eq_of_lt hq
    show 4 * (1 * (r.val / 32 - 0) + 1 * (q.val / 1024 - 0)) + 3 = _
    omega
  have hlt : Value.pt5Of (ix2 r q) < cfg0.N := by rw [e, hN]; omega
  unfold Value.G5
  rw [dif_pos hlt, ← Value.outsAt0_sweep m c _ hlt]
  have h0 : ¬ Value.pt5Of (ix2 r q) % 4 = 0 := by omega
  have h1 : Value.pt5Of (ix2 r q) % 4 = 3 := by omega
  rw [out_C m c ⟨_, hlt⟩ h0 h1]
  have hloc : Value.loc5Of (ix2 r q) = ix2 ⟨r.val % 32, by omega⟩ q := by
    blk_ext
  rw [hloc]
  have hrow : rowOf (Value.pt5Of (ix2 r q)) (lt_4 ⟨_, hlt⟩) ⟨r.val % 32, by omega⟩ = r := by
    unfold rowOf; apply Fin.ext; dsimp only; rw [e]; omega
  pointwise [k0_pay4]
  simp only [blk_x, blk_gf, (state_at m c _ hlt).2, hrow, Common.fold_last _ _ _ _ _ _ h1]
  rfl

/-- The kernel and the reference end with the same array. -/
theorem agrees : algebraic_MlpSFIdeal_MlpSFRefIdeal (hMlpSFIdeal := Cert.MlpSFIdeal.Gen.facts) (hMlpSFRefIdeal := Cert.MlpSFRefIdeal.Gen.facts) := by
  pair_intro
  · run_from (Value.run m g)
  · run_from (MlpSFRefIdeal.Value.run m' g')
    funext j
    obtain ⟨r, q, rfl⟩ : ∃ r q, j = ix2 r q := ⟨j 0, j 1, eq_ix2 j⟩
    rw [result_at m c r q]
    obtain ⟨a0, a1, a2, a3, a4⟩ := hagree c
    pointwise [MlpSFRefIdeal.Value.res_main_v30]
    simp only [a0, a1, a2, a3, a4]
    rfl

end Cert.MlpSFIdeal.Closed

end
-- ==== Proof.AttnMath.lean ====
module

public import proofs.«01_k».proof.Defs
public import Idealize.ShloMosaic.Lib.Pointwise
public import Idealize.ShloMosaic.Lib.IdealHost

@[expose] public section

noncomputable section

/-! One row of attention over a window, as the reference has it (129 distances) and as a tile has it (256 columns, those
    outside the window masked), and that the two agree. -/

namespace Cert.Common

open Idealize.ShloMosaic

/-- The logits' scale, one eighth. -/
def eighth : EReal := (((1 : ℝ) / 8 : ℝ) : EReal)

theorem eighth_f32 : Ideal.ofBits .f32 0x3E000000#32 = eighth := by
  simp [eighth, Ideal.ofBits, Ideal.ieee, -EReal.coe_mul]; norm_num

theorem eighth_bf16 : Ideal.ofBits .bf16 0x3E00#16 = eighth := by
  simp [eighth, Ideal.ofBits, Ideal.ieee, -EReal.coe_mul]; norm_num

theorem bot_f32 : Ideal.ofBits .f32 0xFF800000#32 = ⊥ := by simp [Ideal.ofBits, Ideal.ieee]

theorem top_f32 : Ideal.ofBits .f32 0x7F800000#32 = ⊤ := by simp [Ideal.ofBits, Ideal.ieee]

theorem eighth_nonneg : 0 ≤ eighth := by unfold eighth; exact_mod_cast (by norm_num : (0 : ℝ) ≤ 1 / 8)

/-- The greatest element of a row. -/
def rowMax {n : ℕ} (S : Fin n → EReal) : EReal := Finset.fold max ⊥ S Finset.univ

/-- The sum of a row's exponentials. -/
def rowSum {n : ℕ} (S : Fin n → EReal) : EReal := ∑ c, Ideal.exp (S c - rowMax S)

/-- Weights first, then the sum over the values. -/
def weighFirst {n : ℕ} (S v : Fin n → EReal) : EReal := ∑ c, Ideal.div (Ideal.exp (S c - rowMax S)) (rowSum S) * v c

/-- The sum over the values first, then the division. -/
def sumFirst {n : ℕ} (S v : Fin n → EReal) : EReal := Ideal.div (∑ c, Ideal.exp (S c - rowMax S) * v c) (rowSum S)

/-- The logarithm of the sum of exponentials. -/
def rowLse {n : ℕ} (S : Fin n → EReal) : EReal := rowMax S + Ideal.log (rowSum S)

theorem rowMax_eq_sup {n : ℕ} (S : Fin n → EReal) : rowMax S = Finset.univ.sup S := rfl

theorem le_rowMax {n : ℕ} (S : Fin n → EReal) (c : Fin n) : S c ≤ rowMax S := by
  rw [rowMax_eq_sup]; exact Finset.le_sup (Finset.mem_univ c)

theorem rowMax_le {n : ℕ} (S : Fin n → EReal) (a : EReal) (h : ∀ c, S c ≤ a) : rowMax S ≤ a := by
  rw [rowMax_eq_sup]; exact Finset.sup_le fun c _ => h c

theorem exp_bot : Ideal.exp ⊥ = 0 := rfl

theorem exp_nonneg (x : EReal) : 0 ≤ Ideal.exp x := by
  induction x with
  | bot => exact le_refl _
  | top => exact le_top
  | coe r => exact EReal.coe_nonneg.2 (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem exp_pos {x : EReal} (h : x ≠ ⊥) : 0 < Ideal.exp x := by
  induction x with
  | bot => exact absurd rfl h
  | top => exact EReal.zero_lt_top
  | coe r => exact EReal.coe_pos.2 (Real.exp_pos r)

theorem sum_ne_top {n : ℕ} (f : Fin n → EReal) (h : ∀ c, f c ≠ ⊤) : ∑ c, f c ≠ ⊤ := by
  refine Finset.sum_induction f (· ≠ ⊤) (fun a b ha hb => ?_) EReal.zero_ne_top fun c _ => h c
  exact (EReal.add_lt_top ha hb).ne

theorem sum_mul_of_nonneg {n : ℕ} (f : Fin n → EReal) (a : EReal) (h : 0 ≤ a) (h' : a ≠ ⊤) : ∑ c, f c * a = (∑ c, f c) * a := by
  have : ∀ s : Finset (Fin n), ∑ c ∈ s, f c * a = (∑ c ∈ s, f c) * a := fun s => by
    induction s using Finset.cons_induction with
    | empty => simp
    | cons c s hc ih => rw [Finset.sum_cons, Finset.sum_cons, ih, EReal.right_distrib_of_nonneg_of_ne_top h h']
  exact this _

/-- A sum of reals is a real. -/
theorem sum_real {n : ℕ} (f : Fin n → EReal) (h : ∀ c, ∃ r : ℝ, f c = r) : ∃ r : ℝ, ∑ c, f c = r := by
  refine Finset.sum_induction f (fun x => ∃ r : ℝ, x = r) ?_ ⟨0, rfl⟩ fun c _ => h c
  rintro a b ⟨x, rfl⟩ ⟨y, rfl⟩
  exact ⟨x + y, (EReal.coe_add x y).symm⟩

/-- A row with an element above `⊥` and none at `⊤` has a positive, finite sum of exponentials. -/
theorem rowSum_facts {n : ℕ} (S : Fin n → EReal) (h : ∀ c, S c ≠ ⊤) (c0 : Fin n) (h0 : S c0 ≠ ⊥) : 0 < rowSum S ∧ rowSum S ≠ ⊤ := by
  have hb : rowMax S ≠ ⊥ := fun e => h0 (le_bot_iff.1 (e ▸ le_rowMax S c0))
  have ht : rowMax S ≠ ⊤ := by
    rw [rowMax_eq_sup]
    exact ((Finset.sup_lt_iff (bot_lt_top)).2 fun c _ => lt_top_iff_ne_top.2 (h c)).ne
  obtain ⟨M, hM⟩ : ∃ M : ℝ, rowMax S = M := ⟨(rowMax S).toReal, (EReal.coe_toReal ht hb).symm⟩
  have sub_top : ∀ x : EReal, x ≠ ⊤ → x - (M : EReal) ≠ ⊤ := fun x hx => by
    induction x with
    | bot => rw [EReal.bot_sub]; exact bot_ne_top
    | top => exact absurd rfl hx
    | coe r => rw [← EReal.coe_sub]; exact EReal.coe_ne_top _
  have sub_bot : ∀ x : EReal, x ≠ ⊥ → x ≠ ⊤ → x - (M : EReal) ≠ ⊥ := fun x hx hx' => by
    induction x with
    | bot => exact absurd rfl hx
    | top => exact absurd rfl hx'
    | coe r => rw [← EReal.coe_sub]; exact EReal.coe_ne_bot _
  unfold rowSum
  rw [hM]
  exact ⟨(exp_pos (sub_bot _ h0 (h c0))).trans_le (Finset.single_le_sum (f := fun c => Ideal.exp (S c - (M : EReal))) (fun c _ => exp_nonneg _) (Finset.mem_univ c0)),
    sum_ne_top _ fun c => exp_ne_top (sub_top _ (h c))⟩

/-- Dividing before or after the sum over the values is the same. -/
theorem weighFirst_eq {n : ℕ} (S v : Fin n → EReal) (h : ∀ c, S c ≠ ⊤) (c0 : Fin n) (h0 : S c0 ≠ ⊥) : weighFirst S v = sumFirst S v := by
  obtain ⟨hp, ht⟩ := rowSum_facts S h c0 h0
  have hi : 0 ≤ (rowSum S)⁻¹ := EReal.inv_nonneg_of_nonneg hp.le
  have hi' : (rowSum S)⁻¹ ≠ ⊤ := by
    obtain ⟨L, hL⟩ : ∃ L : ℝ, rowSum S = L := ⟨(rowSum S).toReal, (EReal.coe_toReal ht (ne_of_gt (lt_trans EReal.bot_lt_zero hp))).symm⟩
    rw [hL, ← EReal.coe_inv]; exact EReal.coe_ne_top _
  unfold weighFirst sumFirst Ideal.div
  simp only [if_neg hp.ne']
  rw [← sum_mul_of_nonneg _ _ hi hi']
  exact Finset.sum_congr rfl fun c _ => mul_right_comm _ _ _

/-- A tile's row: column `φ j` holds distance `j`'s logit, and every other column is masked. -/
structure Window {n k : ℕ} (φ : Fin k → Fin n) (S : Fin n → EReal) (S' : Fin k → EReal) : Prop where
  inj : Function.Injective φ
  on : ∀ j, S (φ j) = S' j
  off : ∀ c, c ∉ Set.range φ → S c = ⊥

theorem Window.max {n k : ℕ} {φ : Fin k → Fin n} {S : Fin n → EReal} {S' : Fin k → EReal} (w : Window φ S S') : rowMax S = rowMax S' := by
  refine le_antisymm (rowMax_le _ _ fun c => ?_) (rowMax_le _ _ fun j => ?_)
  · by_cases hc : c ∈ Set.range φ
    · obtain ⟨j, rfl⟩ := hc
      rw [w.on]; exact le_rowMax S' j
    · rw [w.off c hc]; exact bot_le
  · rw [← w.on]; exact le_rowMax S _

theorem Window.sum {n k : ℕ} {φ : Fin k → Fin n} {S : Fin n → EReal} {S' : Fin k → EReal} (w : Window φ S S') : rowSum S = rowSum S' := by
  unfold rowSum
  rw [w.max]
  refine (Fintype.sum_of_injective φ w.inj _ _ (fun c hc => ?_) fun j => ?_).symm
  · rw [w.off c hc, EReal.bot_sub, exp_bot]
  · rw [w.on]

theorem Window.lse {n k : ℕ} {φ : Fin k → Fin n} {S : Fin n → EReal} {S' : Fin k → EReal} (w : Window φ S S') : rowLse S = rowLse S' := by
  unfold rowLse; rw [w.max, w.sum]

/-- The tile's row gives the reference's. -/
theorem Window.out {n k : ℕ} {φ : Fin k → Fin n} {S : Fin n → EReal} {S' : Fin k → EReal} (w : Window φ S S') (v : Fin n → EReal) (v' : Fin k → EReal)
    (hv : ∀ j, S' j ≠ ⊥ → v (φ j) = v' j) (h : ∀ j, S' j ≠ ⊤) (j0 : Fin k) (h0 : S' j0 ≠ ⊥) : sumFirst S v = weighFirst S' v' := by
  rw [weighFirst_eq S' v' h j0 h0]
  unfold sumFirst
  rw [w.max, w.sum]
  refine congrArg (fun x => Ideal.div x (rowSum S')) (Fintype.sum_of_injective φ w.inj _ _ (fun c hc => ?_) fun j => ?_).symm
  · rw [w.off c hc, EReal.bot_sub, exp_bot, zero_mul]
  · rw [w.on]
    by_cases hj : S' j = ⊥
    · rw [hj, EReal.bot_sub, exp_bot, zero_mul, zero_mul]
    · rw [hv j hj]

/-- Position `s` less distance `j`. -/
def back (s : Fin 2048) (j : Fin 129) : Fin 2048 := ⟨s.val - j.val, by have := s.isLt; omega⟩

/-- The reference's logit at distance `j`. -/
def refLogit (Q : Fin 64 → EReal) (K : Fin 2048 → Fin 64 → EReal) (β : Fin 129 → EReal) (s : Fin 2048) (j : Fin 129) : EReal :=
  if j.val ≤ s.val then (∑ d, Q d * K (back s j) d) * eighth + β j else ⊥

/-- With real queries, keys and biases a logit is a real inside the sequence. -/
theorem refLogit_real (Q : Fin 64 → EReal) (K : Fin 2048 → Fin 64 → EReal) (β : Fin 129 → EReal) (s : Fin 2048) (hQ : ∀ d, ∃ r : ℝ, Q d = r)
    (hK : ∀ p d, ∃ r : ℝ, K p d = r) (hβ : ∀ j, ∃ r : ℝ, β j = r) (j : Fin 129) (h : j.val ≤ s.val) : ∃ r : ℝ, refLogit Q K β s j = r := by
  obtain ⟨x, hx⟩ := sum_real (fun d => Q d * K (back s j) d) fun d => by
    obtain ⟨a, ha⟩ := hQ d
    obtain ⟨b, hb⟩ := hK (back s j) d
    exact ⟨a * b, by rw [ha, hb, EReal.coe_mul]⟩
  obtain ⟨y, hy⟩ := hβ j
  exact ⟨x * (1 / 8) + y, by rw [refLogit, if_pos h, hx, hy, eighth, EReal.coe_add, EReal.coe_mul]⟩

theorem refLogit_ne_top (Q : Fin 64 → EReal) (K : Fin 2048 → Fin 64 → EReal) (β : Fin 129 → EReal) (s : Fin 2048) (hQ : ∀ d, ∃ r : ℝ, Q d = r)
    (hK : ∀ p d, ∃ r : ℝ, K p d = r) (hβ : ∀ j, ∃ r : ℝ, β j = r) (j : Fin 129) : refLogit Q K β s j ≠ ⊤ := by
  by_cases h : j.val ≤ s.val
  · obtain ⟨r, hr⟩ := refLogit_real Q K β s hQ hK hβ j h
    rw [hr]; exact EReal.coe_ne_top _
  · rw [refLogit, if_neg h]; exact bot_ne_top

/-- The scale may be put on the query instead. -/
theorem scale_query (Q K : Fin 64 → EReal) : ∑ d, Q d * eighth * K d = (∑ d, Q d * K d) * eighth := by
  rw [← sum_mul_of_nonneg _ _ eighth_nonneg (EReal.coe_ne_top _)]
  exact Finset.sum_congr rfl fun d _ => mul_right_comm _ _ _

/-- Lane `d` of head `a` of a pair. -/
def lane (a : Fin 2) (d : Fin 64) : Fin 128 := ⟨64 * a.val + d.val, by omega⟩

/-- A sum over the lanes of two heads with the other head's lanes at zero is the sum over one head's lanes. -/
theorem sum_lanes (a : Fin 2) (f : Fin 128 → EReal) (h : ∀ l, l.val / 64 ≠ a.val → f l = 0) : ∑ l, f l = ∑ d, f (lane a d) := by
  refine (Fintype.sum_of_injective (lane a) (fun x y e => ?_) _ _ (fun l hl => h l fun e => hl ⟨⟨l.val % 64, Nat.mod_lt _ (by norm_num)⟩, ?_⟩) fun _ => rfl).symm
  · have := congrArg Fin.val e
    simp only [lane] at this
    exact Fin.ext (by omega)
  · refine Fin.ext ?_
    simp only [lane]
    omega

end Cert.Common

end
-- ==== Proof.AttnTile.lean ====
module

public import proofs.«01_k».proof.Defs
public import proofs.«01_k».proof.Proof.Gen.AttnIdeal.Value
public import proofs.«01_k».proof.Proof.AttnMath
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.UnfoldOut

@[expose] public section

noncomputable section

/-! One tile of the windowed attention: what the body leaves in its two output blocks, from the blocks it reads. -/

namespace Cert.AttnIdeal.Closed

open Cert.AttnIdeal Cert.AttnIdeal.Gen Idealize.ShloMosaic Idealize.ShloMosaic.TcCoe Idealize.SL.Sem Cert.Common

/-- The lanes of a pair's first head, and of its second. -/
def low : IVec S128x128 1 := k0_pay2
def high : IVec S128x128 1 := xori k0_pay2 (constantI S128x128 1 1#1)

/-- A head's logits: the scaled queries of its lanes times the window's keys, plus its bias. -/
def headLogits (msk : IVec S128x128 1) (q kp kc : FVec Ideal S1x128x128 .f32) (b : FVec Ideal S1x1x128x256 .f32) : FVec Ideal S128x256 .f32 :=
  addf (matmul dot_S128x128_S256x128_S128x256_1_1_0_0_n_n none (select msk (k0_pay4 q) (broadcast S128x128 (Scalar.ofBits .bf16 0x0000#16))) (k0_pay5 kp kc)
    (constant S128x256 .f32 0x00000000#32)) (shapeCast S128x256 b shapeCasts_S1x1x128x256_S128x256)

/-- The greatest logit of each row, the exponentials, and their sums. -/
def headMax (s : FVec Ideal S128x256 .f32) : FVec Ideal S128x1 .f32 :=
  shapeCast S128x1 (multiReduction .maximumf [1] S128 s 0xFF800000#32 reduces_S128x256_S128 (.inl rfl) rfl) shapeCasts_S128_S128x1

def headExp (s : FVec Ideal S128x256 .f32) : FVec Ideal S128x256 .f32 :=
  exp (subf s (broadcastTo S128x256 (headMax s) broadcasts_S128x1_S128x256))

def headSum (s : FVec Ideal S128x256 .f32) : FVec Ideal S128x1 .f32 :=
  shapeCast S128x1 (multiReduction .add [1] S128 (headExp s) 0x00000000#32 reduces_S128x256_S128 (.inl rfl) rfl) shapeCasts_S128_S128x1

/-- The exponentials times the window's values, over the sums. -/
def headOut (s : FVec Ideal S128x256 .f32) (v : FVec Ideal S256x128 .bf16) : FVec Ideal S128x128 .f32 :=
  divf (matmul dot_S128x256_S256x128_S128x128_1_0_0_1_n_n none (truncf .bf16 (headExp s) bitsLt_bf16_f32) v (constant S128x128 .f32 0x00000000#32))
    (broadcastTo S128x128 (headSum s) broadcasts_S128x1_S128x128)

/-- A pair's output: the first head's lanes and the second's. -/
def pairOut (q kp kc vp vc : FVec Ideal S1x128x128 .f32) (b b' : FVec Ideal S1x1x128x256 .f32) : FVec Ideal S1x128x128 .f32 :=
  shapeCast S1x128x128 (select low (headOut (headLogits low q kp kc b) (k0_pay6 vp vc)) (headOut (headLogits high q kp kc b') (k0_pay6 vp vc)))
    shapeCasts_S128x128_S1x128x128

/-- Column `n` of the second output set to a head's logarithms of sums. -/
def lseStep (n : BitVec 32) (s : FVec Ideal S128x256 .f32) (acc : FVec Ideal S128x16 .f32) : FVec Ideal S128x16 .f32 :=
  select (cmpi .eq (iota .tc S128x16 32 [1] iota_S128x16_d1_w32) (broadcast S128x16 n))
    (broadcastTo S128x16 (shapeCast S128x1 (addf (headMax s) (log (headSum s))) shapeCasts_S128x1_S128x1) broadcasts_S128x1_S128x16) acc

variable (x0 x1 x2 x3 x4 : FVec Ideal S1x128x1024 .f32) (x5 : FVec Ideal S1x16x128x256 .f32)

theorem out6_eq : out0_6 (F := Ideal) x0 x1 x2 x3 x4 x5 = View.canon (Val := Elt Ideal) [
    ⟨r0_21, pairOut (View.ld (Val := Elt Ideal) (e' := .f32) x0 r0_21) (View.ld (Val := Elt Ideal) (e' := .f32) x2 r0_21) (View.ld (Val := Elt Ideal) (e' := .f32) x1 r0_21) (View.ld (Val := Elt Ideal) (e' := .f32) x4 r0_21) (View.ld (Val := Elt Ideal) (e' := .f32) x3 r0_21) (View.ld (Val := Elt Ideal) (e' := .f32) x5 r0_22) (View.ld (Val := Elt Ideal) (e' := .f32) x5 r0_23)⟩,
    ⟨r0_18, pairOut (View.ld (Val := Elt Ideal) (e' := .f32) x0 r0_18) (View.ld (Val := Elt Ideal) (e' := .f32) x2 r0_18) (View.ld (Val := Elt Ideal) (e' := .f32) x1 r0_18) (View.ld (Val := Elt Ideal) (e' := .f32) x4 r0_18) (View.ld (Val := Elt Ideal) (e' := .f32) x3 r0_18) (View.ld (Val := Elt Ideal) (e' := .f32) x5 r0_19) (View.ld (Val := Elt Ideal) (e' := .f32) x5 r0_20)⟩,
    ⟨r0_15, pairOut (View.ld (Val := Elt Ideal) (e' := .f32) x0 r0_15) (View.ld (Val := Elt Ideal) (e' := .f32) x2 r0_15) (View.ld (Val := Elt Ideal) (e' := .f32) x1 r0_15) (View.ld (Val := Elt Ideal) (e' := .f32) x4 r0_15) (View.ld (Val := Elt Ideal) (e' := .f32) x3 r0_15) (View.ld (Val := Elt Ideal) (e' := .f32) x5 r0_16) (View.ld (Val := Elt Ideal) (e' := .f32) x5 r0_17)⟩,
    ⟨r0_12, pairOut (View.ld (Val := Elt Ideal) (e' := .f32) x0 r0_12) (View.ld (Val := Elt Ideal) (e' := .f32) x2 r0_12) (View.ld (Val := Elt Ideal) (e' := .f32) x1 r0_12) (View.ld (Val := Elt Ideal) (e' := .f32) x4 r0_12) (View.ld (Val := Elt Ideal) (e' := .f32) x3 r0_12) (View.ld (Val := Elt Ideal) (e' := .f32) x5 r0_13) (View.ld (Val := Elt Ideal) (e' := .f32) x5 r0_14)⟩,
    ⟨r0_9, pairOut (View.ld (Val := Elt Ideal) (e' := .f32) x0 r0_9) (View.ld (Val := Elt Ideal) (e' := .f32) x2 r0_9) (View.ld (Val := Elt Ideal) (e' := .f32) x1 r0_9) (View.ld (Val := Elt Ideal) (e' := .f32) x4 r0_9) (View.ld (Val := Elt Ideal) (e' := .f32) x3 r0_9) (View.ld (Val := Elt Ideal) (e' := .f32) x5 r0_10) (View.ld (Val := Elt Ideal) (e' := .f32) x5 r0_11)⟩,
    ⟨r0_6, pairOut (View.ld (Val := Elt Ideal) (e' := .f32) x0 r0_6) (View.ld (Val := Elt Ideal) (e' := .f32) x2 r0_6) (View.ld (Val := Elt Ideal) (e' := .f32) x1 r0_6) (View.ld (Val := Elt Ideal) (e' := .f32) x4 r0_6) (View.ld (Val := Elt Ideal) (e' := .f32) x3 r0_6) (View.ld (Val := Elt Ideal) (e' := .f32) x5 r0_7) (View.ld (Val := Elt Ideal) (e' := .f32) x5 r0_8)⟩,
    ⟨r0_3, pairOut (View.ld (Val := Elt Ideal) (e' := .f32) x0 r0_3) (View.ld (Val := Elt Ideal) (e' := .f32) x2 r0_3) (View.ld (Val := Elt Ideal) (e' := .f32) x1 r0_3) (View.ld (Val := Elt Ideal) (e' := .f32) x4 r0_3) (View.ld (Val := Elt Ideal) (e' := .f32) x3 r0_3) (View.ld (Val := Elt Ideal) (e' := .f32) x5 r0_4) (View.ld (Val := Elt Ideal) (e' := .f32) x5 r0_5)⟩,
    ⟨r0_0, pairOut (View.ld (Val := Elt Ideal) (e' := .f32) x0 r0_0) (View.ld (Val := Elt Ideal) (e' := .f32) x2 r0_0) (View.ld (Val := Elt Ideal) (e' := .f32) x1 r0_0) (View.ld (Val := Elt Ideal) (e' := .f32) x4 r0_0) (View.ld (Val := Elt Ideal) (e' := .f32) x3 r0_0) (View.ld (Val := Elt Ideal) (e' := .f32) x5 r0_1) (View.ld (Val := Elt Ideal) (e' := .f32) x5 r0_2)⟩] := by
  unfold_out out0_6
  rfl

theorem out7_eq : out0_7 (F := Ideal) x0 x1 x2 x3 x4 x5 = View.canon (Val := Elt Ideal) [⟨r0_24, k0_pay1
    (lseStep 15#32 (headLogits high (View.ld (Val := Elt Ideal) (e' := .f32) x0 r0_21) (View.ld (Val := Elt Ideal) (e' := .f32) x2 r0_21) (View.ld (Val := Elt Ideal) (e' := .f32) x1 r0_21) (View.ld (Val := Elt Ideal) (e' := .f32) x5 r0_23))
    (lseStep 14#32 (headLogits low (View.ld (Val := Elt Ideal) (e' := .f32) x0 r0_21) (View.ld (Val := Elt Ideal) (e' := .f32) x2 r0_21) (View.ld (Val := Elt Ideal) (e' := .f32) x1 r0_21) (View.ld (Val := Elt Ideal) (e' := .f32) x5 r0_22))
    (lseStep 13#32 (headLogits high (View.ld (Val := Elt Ideal) (e' := .f32) x0 r0_18) (View.ld (Val := Elt Ideal) (e' := .f32) x2 r0_18) (View.ld (Val := Elt Ideal) (e' := .f32) x1 r0_18) (View.ld (Val := Elt Ideal) (e' := .f32) x5 r0_20))
    (lseStep 12#32 (headLogits low (View.ld (Val := Elt Ideal) (e' := .f32) x0 r0_18) (View.ld (Val := Elt Ideal) (e' := .f32) x2 r0_18) (View.ld (Val := Elt Ideal) (e' := .f32) x1 r0_18) (View.ld (Val := Elt Ideal) (e' := .f32) x5 r0_19))
    (lseStep 11#32 (headLogits high (View.ld (Val := Elt Ideal) (e' := .f32) x0 r0_15) (View.ld (Val := Elt Ideal) (e' := .f32) x2 r0_15) (View.ld (Val := Elt Ideal) (e' := .f32) x1 r0_15) (View.ld (Val := Elt Ideal) (e' := .f32) x5 r0_17))
    (lseStep 10#32 (headLogits low (View.ld (Val := Elt Ideal) (e' := .f32) x0 r0_15) (View.ld (Val := Elt Ideal) (e' := .f32) x2 r0_15) (View.ld (Val := Elt Ideal) (e' := .f32) x1 r0_15) (View.ld (Val := Elt Ideal) (e' := .f32) x5 r0_16))
    (lseStep 9#32 (headLogits high (View.ld (Val := Elt Ideal) (e' := .f32) x0 r0_12) (View.ld (Val := Elt Ideal) (e' := .f32) x2 r0_12) (View.ld (Val := Elt Ideal) (e' := .f32) x1 r0_12) (View.ld (Val := Elt Ideal) (e' := .f32) x5 r0_14))
    (lseStep 8#32 (headLogits low (View.ld (Val := Elt Ideal) (e' := .f32) x0 r0_12) (View.ld (Val := Elt Ideal) (e' := .f32) x2 r0_12) (View.ld (Val := Elt Ideal) (e' := .f32) x1 r0_12) (View.ld (Val := Elt Ideal) (e' := .f32) x5 r0_13))
    (lseStep 7#32 (headLogits high (View.ld (Val := Elt Ideal) (e' := .f32) x0 r0_9) (View.ld (Val := Elt Ideal) (e' := .f32) x2 r0_9) (View.ld (Val := Elt Ideal) (e' := .f32) x1 r0_9) (View.ld (Val := Elt Ideal) (e' := .f32) x5 r0_11))
    (lseStep 6#32 (headLogits low (View.ld (Val := Elt Ideal) (e' := .f32) x0 r0_9) (View.ld (Val := Elt Ideal) (e' := .f32) x2 r0_9) (View.ld (Val := Elt Ideal) (e' := .f32) x1 r0_9) (View.ld (Val := Elt Ideal) (e' := .f32) x5 r0_10))
    (lseStep 5#32 (headLogits high (View.ld (Val := Elt Ideal) (e' := .f32) x0 r0_6) (View.ld (Val := Elt Ideal) (e' := .f32) x2 r0_6) (View.ld (Val := Elt Ideal) (e' := .f32) x1 r0_6) (View.ld (Val := Elt Ideal) (e' := .f32) x5 r0_8))
    (lseStep 4#32 (headLogits low (View.ld (Val := Elt Ideal) (e' := .f32) x0 r0_6) (View.ld (Val := Elt Ideal) (e' := .f32) x2 r0_6) (View.ld (Val := Elt Ideal) (e' := .f32) x1 r0_6) (View.ld (Val := Elt Ideal) (e' := .f32) x5 r0_7))
    (lseStep 3#32 (headLogits high (View.ld (Val := Elt Ideal) (e' := .f32) x0 r0_3) (View.ld (Val := Elt Ideal) (e' := .f32) x2 r0_3) (View.ld (Val := Elt Ideal) (e' := .f32) x1 r0_3) (View.ld (Val := Elt Ideal) (e' := .f32) x5 r0_5))
    (lseStep 2#32 (headLogits low (View.ld (Val := Elt Ideal) (e' := .f32) x0 r0_3) (View.ld (Val := Elt Ideal) (e' := .f32) x2 r0_3) (View.ld (Val := Elt Ideal) (e' := .f32) x1 r0_3) (View.ld (Val := Elt Ideal) (e' := .f32) x5 r0_4))
    (lseStep 1#32 (headLogits high (View.ld (Val := Elt Ideal) (e' := .f32) x0 r0_0) (View.ld (Val := Elt Ideal) (e' := .f32) x2 r0_0) (View.ld (Val := Elt Ideal) (e' := .f32) x1 r0_0) (View.ld (Val := Elt Ideal) (e' := .f32) x5 r0_2))
    (lseStep 0#32 (headLogits low (View.ld (Val := Elt Ideal) (e' := .f32) x0 r0_0) (View.ld (Val := Elt Ideal) (e' := .f32) x2 r0_0) (View.ld (Val := Elt Ideal) (e' := .f32) x1 r0_0) (View.ld (Val := Elt Ideal) (e' := .f32) x5 r0_1)) k0_pay3))))))))))))))))⟩] := by
  unfold_out out0_7
  rfl

/-- Rows of the previous block, then of this one. -/
def both (a b : Fin 128 → EReal) (c : Fin 256) : EReal := if h : c.val < 128 then a ⟨c.val, h⟩ else b ⟨c.val - 128, by omega⟩

theorem keys_at (kp kc : FVec Ideal S1x128x128 .f32) (c : Fin 256) (l : Fin 128) :
    (k0_pay5 (F := Ideal) kp kc (ix2 c l) : EReal) = both (fun j => kp (ix3 0 j l)) (fun j => kc (ix3 0 j l)) c := by
  pointwise [k0_pay5]
  rfl

theorem vals_at (vp vc : FVec Ideal S1x128x128 .f32) (c : Fin 256) (l : Fin 128) :
    (k0_pay6 (F := Ideal) vp vc (ix2 c l) : EReal) = both (fun j => vp (ix3 0 j l)) (fun j => vc (ix3 0 j l)) c := by
  pointwise [k0_pay6]
  rfl

theorem low_word : ∀ l : Fin 128, IntOp.cmpi CmpIPredicate.slt (BitVec.ofNat 32 l.val) 64#32 = if l.val / 64 = 0 then 1#1 else 0#1 := by
  decide +kernel

/-- The lanes of the pair's head `a`. -/
def mask : Fin 2 → IVec S128x128 1
  | 0 => low
  | 1 => high

theorem mask_at (a : Fin 2) (r l : Fin 128) : mask a (ix2 r l) = if l.val / 64 = a.val then 1#1 else 0#1 := by
  have hl : l.val / 64 = 0 ∨ l.val / 64 = 1 := by omega
  obtain rfl | rfl : a = 0 ∨ a = 1 := by revert a; decide
  · unfold mask low
    pointwise [k0_pay2]
    exact low_word l
  · unfold mask high
    pointwise [k0_pay2]
    rw [low_word]
    rcases hl with h | h <;> rw [h] <;> rfl

theorem headLogits_at (a : Fin 2) (q kp kc : FVec Ideal S1x128x128 .f32) (b : FVec Ideal S1x1x128x256 .f32) (r : Fin 128) (c : Fin 256) :
    headLogits (mask a) q kp kc b (ix2 r c)
      = (∑ d, q (ix3 0 r (lane a d)) * both (fun j => kp (ix3 0 j (lane a d))) (fun j => kc (ix3 0 j (lane a d))) c) * eighth + b (ix4 0 0 r c) := by
  pointwise [headLogits, k0_pay4]
  simp only [mask_at, keys_at, eighth_f32]
  rw [sum_lanes a _ fun l hl => by rw [if_neg hl]; rfl, ← scale_query]
  refine congrArg (· + _) (Finset.sum_congr rfl fun d _ => ?_)
  have hd : (lane a d).val / 64 = a.val := by simp only [lane]; omega
  rw [if_pos hd]
  rfl

theorem headOut_at (s : FVec Ideal S128x256 .f32) (v : FVec Ideal S256x128 .bf16) (r : Fin 128) (l : Fin 128) :
    headOut s v (ix2 r l) = sumFirst (fun c => s (ix2 r c)) (fun c => v (ix2 c l)) := by
  pointwise [headOut, headSum, headExp, headMax]
  simp only [bot_f32]
  rfl

theorem pairOut_at (a : Fin 2) (q kp kc vp vc : FVec Ideal S1x128x128 .f32) (b : Fin 2 → FVec Ideal S1x1x128x256 .f32) (r : Fin 128) (d : Fin 64) :
    pairOut q kp kc vp vc (b 0) (b 1) (ix3 0 r (lane a d))
      = headOut (headLogits (mask a) q kp kc (b a)) (k0_pay6 vp vc) (ix2 r (lane a d)) := by
  have hm : low = mask 0 := rfl
  have hm' : high = mask 1 := rfl
  unfold pairOut
  rw [hm, hm']
  pointwise []
  rw [mask_at]
  have hd : (lane a d).val / 64 = 0 ↔ a.val = 0 := by simp only [lane]; omega
  have ha : a = 0 ∨ a = 1 := by clear hd hm hm'; revert a; decide
  rcases ha with rfl | rfl
  · rw [if_pos (show (lane 0 d).val / 64 = (0 : Fin 2).val from hd.2 rfl)]; rfl
  · rw [if_neg (show ¬ (lane 1 d).val / 64 = (0 : Fin 2).val from fun e => absurd (hd.1 e) (by decide))]; rfl

theorem lseStep_at (n : Fin 16) (s : FVec Ideal S128x256 .f32) (acc : FVec Ideal S128x16 .f32) (r : Fin 128) (h : Fin 16) :
    lseStep (BitVec.ofNat 32 n.val) s acc (ix2 r h) = if h = n then rowLse (fun c => s (ix2 r c)) else acc (ix2 r h) := by
  have hw : ∀ h n : Fin 16, IntOp.cmpi CmpIPredicate.eq (BitVec.ofNat 32 h.val) (BitVec.ofNat 32 n.val) = if h = n then 1#1 else 0#1 := by decide +kernel
  pointwise [lseStep, headSum, headExp, headMax]
  rw [hw]
  simp only [bot_f32]
  by_cases e : h = n
  · rw [if_pos e, if_pos e]; rfl
  · rw [if_neg e, if_neg e]; rfl

/-- Lane `d` of head `h`; column `l` of pair `p`; head `a` of pair `p`. -/
def headCol (h : Fin 16) (d : Fin 64) : Fin 1024 := ⟨h.val * 64 + d.val, by omega⟩
def pairCol (p : Fin 8) (l : Fin 128) : Fin 1024 := ⟨128 * p.val + l.val, by omega⟩
def pairHead (p : Fin 8) (a : Fin 2) : Fin 16 := ⟨2 * p.val + a.val, by omega⟩

theorem pairCol_lane (p : Fin 8) (a : Fin 2) (d : Fin 64) : pairCol p (lane a d) = headCol (pairHead p a) d :=
  Fin.ext (by simp only [pairCol, lane, headCol, pairHead]; omega)

/-- The logits of head `h` over the tile's window. -/
def tileLogits (h : Fin 16) (r : Fin 128) (c : Fin 256) : EReal :=
  (∑ d, x0 (ix3 0 r (headCol h d)) * both (fun j => x2 (ix3 0 j (headCol h d))) (fun j => x1 (ix3 0 j (headCol h d))) c) * eighth + x5 (ix4 0 h r c)

/-- Element `(r, l)` of the first output block. -/
def tileOut (h : Fin 16) (r : Fin 128) (d : Fin 64) : EReal :=
  sumFirst (tileLogits x0 x1 x2 x5 h r) (both (fun j => x4 (ix3 0 j (headCol h d))) (fun j => x3 (ix3 0 j (headCol h d))))

/-- A load of one pair's columns, and of one head's bias. -/
theorem ld_cols (x : FVec Ideal S1x128x1024 .f32) (p : Fin 8) (inb) (r l : Fin 128) :
    View.ld (Val := Elt Ideal) (e' := .f32) x (Rect.unit (s := S1x128x1024) ![0, 0, 128 * p.val] S1x128x128.size inb) (ix3 0 r l) = x (ix3 0 r (pairCol p l)) := by
  refine congrArg x (funext fun a => Fin.ext ?_)
  match a with
  | ⟨0, _⟩ => rfl
  | ⟨1, _⟩ => show 0 + 1 * r.val = r.val; omega
  | ⟨2, _⟩ => show 128 * p.val + 1 * l.val = 128 * p.val + l.val; omega

theorem ld_bias (x : FVec Ideal S1x16x128x256 .f32) (h : Fin 16) (inb) (r : Fin 128) (c : Fin 256) :
    View.ld (Val := Elt Ideal) (e' := .f32) x (Rect.unit (s := S1x16x128x256) ![0, h.val, 0, 0] S1x1x128x256.size inb) (ix4 0 0 r c) = x (ix4 0 h r c) := by
  refine congrArg x (funext fun a => Fin.ext ?_)
  match a with
  | ⟨0, _⟩ => rfl
  | ⟨1, _⟩ => show h.val + 1 * 0 = h.val; omega
  | ⟨2, _⟩ => show 0 + 1 * r.val = r.val; omega
  | ⟨3, _⟩ => show 0 + 1 * c.val = c.val; omega

/-- The logits of a pair's head `a`, from the loads of the pair's columns. -/
theorem logits_of_loads (p : Fin 8) (a : Fin 2) (q kp kc : FVec Ideal S1x128x128 .f32) (b : FVec Ideal S1x1x128x256 .f32)
    (hq : ∀ r l, q (ix3 0 r l) = x0 (ix3 0 r (pairCol p l))) (hkp : ∀ r l, kp (ix3 0 r l) = x2 (ix3 0 r (pairCol p l)))
    (hkc : ∀ r l, kc (ix3 0 r l) = x1 (ix3 0 r (pairCol p l))) (hb : ∀ r c, b (ix4 0 0 r c) = x5 (ix4 0 (pairHead p a) r c)) (r : Fin 128) :
    (fun c => headLogits (mask a) q kp kc b (ix2 r c)) = tileLogits x0 x1 x2 x5 (pairHead p a) r := by
  funext c
  rw [headLogits_at]
  simp only [hq, hkp, hkc, hb, pairCol_lane]
  rfl

/-- A pair's output, from the loads of the pair's columns. -/
theorem pair_of_loads (p : Fin 8) (q kp kc vp vc : FVec Ideal S1x128x128 .f32) (b : Fin 2 → FVec Ideal S1x1x128x256 .f32)
    (hq : ∀ r l, q (ix3 0 r l) = x0 (ix3 0 r (pairCol p l))) (hkp : ∀ r l, kp (ix3 0 r l) = x2 (ix3 0 r (pairCol p l)))
    (hkc : ∀ r l, kc (ix3 0 r l) = x1 (ix3 0 r (pairCol p l))) (hvp : ∀ r l, vp (ix3 0 r l) = x4 (ix3 0 r (pairCol p l)))
    (hvc : ∀ r l, vc (ix3 0 r l) = x3 (ix3 0 r (pairCol p l))) (hb : ∀ a r c, b a (ix4 0 0 r c) = x5 (ix4 0 (pairHead p a) r c))
    (a : Fin 2) (r : Fin 128) (d : Fin 64) :
    pairOut q kp kc vp vc (b 0) (b 1) (ix3 0 r (lane a d)) = tileOut x0 x1 x2 x3 x4 x5 (pairHead p a) r d := by
  rw [pairOut_at, headOut_at, logits_of_loads x0 x1 x2 x5 p a q kp kc (b a) hq hkp hkc (hb a)]
  simp only [vals_at, hvp, hvc, pairCol_lane]
  rfl

/-- The head and the lane of a column. -/
def headOf (l : Fin 1024) : Fin 16 := ⟨l.val / 64, by omega⟩
def laneOf (l : Fin 1024) : Fin 64 := ⟨l.val % 64, by omega⟩

/-- The first output block as one function. -/
def blockOut (y : S1x128x1024.Idx) : EReal := tileOut x0 x1 x2 x3 x4 x5 (headOf (y 2)) (y 1) (laneOf (y 2))

theorem blockOut_emb (p : Fin 8) (inb) (P : FVec Ideal S1x128x128 .f32)
    (h : ∀ a r d, P (ix3 0 r (lane a d)) = tileOut x0 x1 x2 x3 x4 x5 (pairHead p a) r d) (x : S1x128x128.Idx) :
    P x = blockOut x0 x1 x2 x3 x4 x5 ((Rect.unit (s := S1x128x1024) ![0, 0, 128 * p.val] S1x128x128.size inb).emb x) := by
  obtain ⟨o, r, l, rfl⟩ : ∃ o r l, x = ix3 o r l := ⟨x 0, x 1, x 2, eq_ix3 x⟩
  obtain rfl : o = 0 := Subsingleton.elim _ _
  obtain ⟨a, d, rfl⟩ : ∃ a d, l = lane a d := ⟨⟨l.val / 64, by omega⟩, ⟨l.val % 64, by omega⟩, Fin.ext (by simp only [lane]; omega)⟩
  rw [h]
  unfold blockOut
  congr 1
  · refine Fin.ext ?_
    show _ = (128 * p.val + 1 * (lane a d).val) / 64
    simp only [pairHead, lane]; omega
  · refine Fin.ext ?_
    show _ = 0 + 1 * r.val
    omega
  · refine Fin.ext ?_
    show _ = (128 * p.val + 1 * (lane a d).val) % 64
    simp only [lane]; omega

/-- The pair of biases `b` and `b'`. -/
def two (b b' : FVec Ideal S1x1x128x256 .f32) : Fin 2 → FVec Ideal S1x1x128x256 .f32
  | 0 => b
  | 1 => b'

/-- The second output block as one function. -/
def blockLse (y : S1x1x128x16.Idx) : EReal := rowLse (tileLogits x0 x1 x2 x5 (y 3) (y 2))

/-- One more column of the second output block. -/
theorem lse_of_loads (p : Fin 8) (a : Fin 2) (inb inb') (r : Fin 128) (h : Fin 16) (acc : FVec Ideal S128x16 .f32) (n : Fin 16) (hn : n = pairHead p a)
    (ha : h < n → acc (ix2 r h) = rowLse (tileLogits x0 x1 x2 x5 h r)) :
    h ≤ n → lseStep (BitVec.ofNat 32 n.val) (headLogits (mask a) (View.ld (Val := Elt Ideal) (e' := .f32) x0 (Rect.unit (s := S1x128x1024) ![0, 0, 128 * p.val] S1x128x128.size inb))
        (View.ld (Val := Elt Ideal) (e' := .f32) x2 (Rect.unit (s := S1x128x1024) ![0, 0, 128 * p.val] S1x128x128.size inb))
        (View.ld (Val := Elt Ideal) (e' := .f32) x1 (Rect.unit (s := S1x128x1024) ![0, 0, 128 * p.val] S1x128x128.size inb))
        (View.ld (Val := Elt Ideal) (e' := .f32) x5 (Rect.unit (s := S1x16x128x256) ![0, (pairHead p a).val, 0, 0] S1x1x128x256.size inb'))) acc (ix2 r h)
      = rowLse (tileLogits x0 x1 x2 x5 h r) := by
  intro hle
  rw [lseStep_at]
  by_cases e : h = n
  · rw [if_pos e, e, hn, logits_of_loads x0 x1 x2 x5 p a _ _ _ _ (ld_cols x0 p inb) (ld_cols x2 p inb) (ld_cols x1 p inb) (ld_bias x5 _ inb')]
  · rw [if_neg e]
    exact ha (lt_of_le_of_ne hle e)

/-- The second output block. -/
theorem out7_at (y : S1x1x128x16.Idx) : out0_7 (F := Ideal) x0 x1 x2 x3 x4 x5 y = blockLse x0 x1 x2 x5 y := by
  rw [out7_eq]
  refine View.canon_apply_of_pieces _ _ ?_ y (cover0_7 _ y)
  intro pc hpc
  obtain rfl := List.mem_singleton.1 hpc
  intro x
  obtain ⟨o, o', r, h, rfl⟩ : ∃ o o' r h, x = ix4 o o' r h := ⟨x 0, x 1, x 2, x 3, eq_ix4 x⟩
  obtain rfl : o = 0 := Subsingleton.elim _ _
  obtain rfl : o' = 0 := Subsingleton.elim _ _
  rw [show r0_24.emb (ix4 0 0 r h) = ix4 0 0 r h from funext fun a => Fin.ext (by
    match a with
    | ⟨0, _⟩ => rfl
    | ⟨1, _⟩ => rfl
    | ⟨2, _⟩ => show 0 + 1 * r.val = r.val; omega
    | ⟨3, _⟩ => show 0 + 1 * h.val = h.val; omega)]
  pointwise [k0_pay1]
  show _ = rowLse (tileLogits x0 x1 x2 x5 h r)
  refine lse_of_loads x0 x1 x2 x5 7 1 _ _ r h _ 15 rfl (fun h15 => ?_) (Nat.le_of_lt_succ h.isLt)
  refine lse_of_loads x0 x1 x2 x5 7 0 _ _ r h _ 14 rfl (fun h14 => ?_) (Nat.le_of_lt_succ h15)
  refine lse_of_loads x0 x1 x2 x5 6 1 _ _ r h _ 13 rfl (fun h13 => ?_) (Nat.le_of_lt_succ h14)
  refine lse_of_loads x0 x1 x2 x5 6 0 _ _ r h _ 12 rfl (fun h12 => ?_) (Nat.le_of_lt_succ h13)
  refine lse_of_loads x0 x1 x2 x5 5 1 _ _ r h _ 11 rfl (fun h11 => ?_) (Nat.le_of_lt_succ h12)
  refine lse_of_loads x0 x1 x2 x5 5 0 _ _ r h _ 10 rfl (fun h10 => ?_) (Nat.le_of_lt_succ h11)
  refine lse_of_loads x0 x1 x2 x5 4 1 _ _ r h _ 9 rfl (fun h9 => ?_) (Nat.le_of_lt_succ h10)
  refine lse_of_loads x0 x1 x2 x5 4 0 _ _ r h _ 8 rfl (fun h8 => ?_) (Nat.le_of_lt_succ h9)
  refine lse_of_loads x0 x1 x2 x5 3 1 _ _ r h _ 7 rfl (fun h7 => ?_) (Nat.le_of_lt_succ h8)
  refine lse_of_loads x0 x1 x2 x5 3 0 _ _ r h _ 6 rfl (fun h6 => ?_) (Nat.le_of_lt_succ h7)
  refine lse_of_loads x0 x1 x2 x5 2 1 _ _ r h _ 5 rfl (fun h5 => ?_) (Nat.le_of_lt_succ h6)
  refine lse_of_loads x0 x1 x2 x5 2 0 _ _ r h _ 4 rfl (fun h4 => ?_) (Nat.le_of_lt_succ h5)
  refine lse_of_loads x0 x1 x2 x5 1 1 _ _ r h _ 3 rfl (fun h3 => ?_) (Nat.le_of_lt_succ h4)
  refine lse_of_loads x0 x1 x2 x5 1 0 _ _ r h _ 2 rfl (fun h2 => ?_) (Nat.le_of_lt_succ h3)
  refine lse_of_loads x0 x1 x2 x5 0 1 _ _ r h _ 1 rfl (fun h1 => ?_) (Nat.le_of_lt_succ h2)
  refine lse_of_loads x0 x1 x2 x5 0 0 _ _ r h _ 0 rfl (fun h0 => ?_) (Nat.le_of_lt_succ h1)
  exact absurd h0 (Nat.not_lt_zero _)

/-- The first output block. -/
theorem out6_at (y : S1x128x1024.Idx) : out0_6 (F := Ideal) x0 x1 x2 x3 x4 x5 y = blockOut x0 x1 x2 x3 x4 x5 y := by
  rw [out6_eq]
  refine View.canon_apply_of_pieces _ _ ?_ y (cover0_6 _ _ _ _ _ _ _ _ y)
  have key : ∀ (p : Fin 8) (inb inb' inb'') , ∀ x : S1x128x128.Idx,
      pairOut (View.ld (Val := Elt Ideal) (e' := .f32) x0 (Rect.unit (s := S1x128x1024) ![0, 0, 128 * p.val] S1x128x128.size inb))
        (View.ld (Val := Elt Ideal) (e' := .f32) x2 (Rect.unit (s := S1x128x1024) ![0, 0, 128 * p.val] S1x128x128.size inb))
        (View.ld (Val := Elt Ideal) (e' := .f32) x1 (Rect.unit (s := S1x128x1024) ![0, 0, 128 * p.val] S1x128x128.size inb))
        (View.ld (Val := Elt Ideal) (e' := .f32) x4 (Rect.unit (s := S1x128x1024) ![0, 0, 128 * p.val] S1x128x128.size inb))
        (View.ld (Val := Elt Ideal) (e' := .f32) x3 (Rect.unit (s := S1x128x1024) ![0, 0, 128 * p.val] S1x128x128.size inb))
        (View.ld (Val := Elt Ideal) (e' := .f32) x5 (Rect.unit (s := S1x16x128x256) ![0, (pairHead p 0).val, 0, 0] S1x1x128x256.size inb'))
        (View.ld (Val := Elt Ideal) (e' := .f32) x5 (Rect.unit (s := S1x16x128x256) ![0, (pairHead p 1).val, 0, 0] S1x1x128x256.size inb'')) x
        = blockOut x0 x1 x2 x3 x4 x5 ((Rect.unit (s := S1x128x1024) ![0, 0, 128 * p.val] S1x128x128.size inb).emb x) := fun p inb inb' inb'' => by
    refine blockOut_emb x0 x1 x2 x3 x4 x5 p inb _ (pair_of_loads x0 x1 x2 x3 x4 x5 p _ _ _ _ _ (two _ _) (ld_cols x0 p inb)
      (ld_cols x2 p inb) (ld_cols x1 p inb) (ld_cols x4 p inb) (ld_cols x3 p inb) fun a => ?_)
    obtain rfl | rfl : a = 0 ∨ a = 1 := by revert a; decide
    · exact ld_bias x5 _ inb'
    · exact ld_bias x5 _ inb''
  intro pc hpc
  simp only [List.mem_cons, List.not_mem_nil, or_false] at hpc
  rcases hpc with rfl | rfl | rfl | rfl | rfl | rfl | rfl | rfl
  · exact key 7 _ _ _
  · exact key 6 _ _ _
  · exact key 5 _ _ _
  · exact key 4 _ _ _
  · exact key 3 _ _ _
  · exact key 2 _ _ _
  · exact key 1 _ _ _
  · exact key 0 _ _ _

end Cert.AttnIdeal.Closed

end
-- ==== Proof.AttnRefValue.lean ====
module

public import proofs.«01_k».proof.Defs
public import proofs.«01_k».proof.Proof.Gen.AttnRefIdeal.Run
public import proofs.«01_k».proof.Proof.AttnMath
public import Idealize.ShloMosaic.Lib.Claim
public import Idealize.ShloMosaic.Lib.Pointwise
public import Idealize.ShloMosaic.Lib.Routing.Ops

@[expose] public section

noncomputable section

/-! The reference of the windowed attention, read at one query, head and lane. -/

namespace Cert.AttnRefIdeal.Closed

open Cert.AttnRefIdeal Cert.AttnRefIdeal.Gen Cert.AttnRefIdeal.Value Idealize.ShloMosaic Idealize.ShloMosaic.TcCoe Idealize.SL.Sem Idealize.ShloMosaic.Routing Cert.Common

/-- Query position less the distance. -/
def dist : IVec S2048x129 32 :=
  subi (broadcastInDim S2048x129 ![0, 1] bcast_S2048x1_S2048x129_0_1 (broadcastInDim S2048x1 ![0] bcast_S2048_S2048x1_0 (iotaInDim S2048 32 0))) (broadcastInDim S2048x129 ![0, 1] bcast_S1x129_S2048x129_0_1 (broadcastInDim S1x129 ![1] bcast_S129_S1x129_1 (muli (broadcastInDim S129 ![] bcast_S_S129 (constantI S_ 32 1#32)) (iotaInDim S129 32 0))))

/-- The key position, held at zero. -/
def pos : IVec S2048x129 32 :=
  maxsi dist (broadcastInDim S2048x129 ![] bcast_S_S2048x129 (constantI S_ 32 0#32))

/-- The key positions as the gather takes them. -/
def posw : IVec S2048x129x1 32 :=
  broadcastInDim S2048x129x1 ![0, 1] bcast_S2048x129_S2048x129x1_0_1 (select (cmpi .slt pos (broadcastInDim S2048x129 ![] bcast_S_S2048x129 (constantI S_ 32 0#32))) (addi pos (broadcastInDim S2048x129 ![] bcast_S_S2048x129 (constantI S_ 32 2048#32))) pos)

/-- The keys, by batch, position and head. -/
def keys (kv : FVec Ideal S32768x2048 .f32) : FVec Ideal S16x2048x16x64 .f32 :=
  shapeCast _ (extractStridedSlice S16x2048x1x16x64 ![0, 0, 0, 0, 0] (shapeCast _ kv shapeCasts_S32768x2048_S16x2048x2x16x64) slices_S16x2048x2x16x64_S16x2048x1x16x64_0_0_0_0_0) shapeCasts_S16x2048x1x16x64_S16x2048x16x64

/-- The values, by batch, position and head. -/
def vals (kv : FVec Ideal S32768x2048 .f32) : FVec Ideal S16x2048x16x64 .f32 :=
  shapeCast _ (extractStridedSlice S16x2048x1x16x64 ![0, 0, 1, 0, 0] (shapeCast _ kv shapeCasts_S32768x2048_S16x2048x2x16x64) slices_S16x2048x2x16x64_S16x2048x1x16x64_0_0_1_0_0) shapeCasts_S16x2048x1x16x64_S16x2048x16x64

/-- The keys each query reads. -/
def kg (kv : FVec Ideal S32768x2048 .f32) : FVec Ideal S16x2048x129x16x64 .f32 :=
  Host.gather gather_S16x2048x16x64_S2048x129x1_S16x2048x129x16x64_034_1_n_n_1_2_1611664 (keys kv) posw

/-- The values each query reads. -/
def vg (kv : FVec Ideal S32768x2048 .f32) : FVec Ideal S16x2048x129x16x64 .f32 :=
  Host.gather gather_S16x2048x16x64_S2048x129x1_S16x2048x129x16x64_034_1_n_n_1_2_1611664 (vals kv) posw

/-- The bias of each head at each distance. -/
def bias (rel : FVec Ideal S32x16 .f32) : FVec Ideal S16x129 .f32 :=
  transpose S16x129 [1, 0] (Host.gather gather_S32x16_S129x1_S129x16_1_0_n_n_0_1_116 rel (broadcastInDim S129x1 ![0] bcast_S129_S129x1_0 (select (constantI S129 1 0#1) (addi ((fun i => lit0 (S129.rowMajor i))) (broadcastInDim S129 ![] bcast_S_S129 (constantI S_ 32 32#32))) ((fun i => lit0 (S129.rowMajor i)))))) transposes_S129x16_S16x129_1_0

/-- The masked logits. -/
def logits (q : FVec Ideal S32768x1024 .f32) (kv : FVec Ideal S32768x2048 .f32) (rel : FVec Ideal S32x16 .f32) : FVec Ideal S16x2048x16x129 .f32 :=
  select (broadcastInDim S16x2048x16x129 ![0, 1, 2, 3] bcast_S1x2048x1x129_S16x2048x16x129_0_1_2_3 (broadcastInDim S1x2048x1x129 ![1, 3] bcast_S2048x129_S1x2048x1x129_1_3 (cmpi .sge dist (broadcastInDim S2048x129 ![] bcast_S_S2048x129 (constantI S_ 32 0#32))))) (addf (mulf (Host.dotGeneral dot_S16x2048x16x64_S16x2048x129x16x64_S16x2048x16x129_3_4_n_2_012_013 none (shapeCast _ q shapeCasts_S32768x1024_S16x2048x16x64) (kg kv)) (broadcastInDim S16x2048x16x129 ![] bcast_S_S16x2048x16x129 (constant S_ .f32 0x3E000000#32))) (broadcastInDim S16x2048x16x129 ![0, 1, 2, 3] bcast_S1x1x16x129_S16x2048x16x129_0_1_2_3 (broadcastInDim S1x1x16x129 ![2, 3] bcast_S16x129_S1x1x16x129_2_3 (bias rel)))) (broadcastInDim S16x2048x16x129 ![] bcast_S_S16x2048x16x129 (id (constant S_ .f32 0xFF800000#32)))

/-- The greatest logit of a row. -/
def mx3 (q : FVec Ideal S32768x1024 .f32) (kv : FVec Ideal S32768x2048 .f32) (rel : FVec Ideal S32x16 .f32) : FVec Ideal S16x2048x16 .f32 :=
  Host.reduce FloatOps.maximumf (logits q kv rel) (constant S_ .f32 0xFF800000#32) reducesTo_S16x2048x16x129_S16x2048x16_d3 h_S_

/-- The exponentials. -/
def ex (q : FVec Ideal S32768x1024 .f32) (kv : FVec Ideal S32768x2048 .f32) (rel : FVec Ideal S32x16 .f32) : FVec Ideal S16x2048x16x129 .f32 :=
  Host.exp (subf (logits q kv rel) (broadcastInDim S16x2048x16x129 ![0, 1, 2, 3] bcast_S16x2048x16x1_S16x2048x16x129_0_1_2_3 (broadcastInDim S16x2048x16x1 ![0, 1, 2] bcast_S16x2048x16_S16x2048x16x1_0_1_2 (mx3 q kv rel))))

/-- The sum of a row. -/
def sm3 (q : FVec Ideal S32768x1024 .f32) (kv : FVec Ideal S32768x2048 .f32) (rel : FVec Ideal S32x16 .f32) : FVec Ideal S16x2048x16 .f32 :=
  Host.reduceAdd (ex q kv rel) (constant S_ .f32 0x00000000#32) reducesTo_S16x2048x16x129_S16x2048x16_d3 h_S_

/-- The weights. -/
def attn (q : FVec Ideal S32768x1024 .f32) (kv : FVec Ideal S32768x2048 .f32) (rel : FVec Ideal S32x16 .f32) : FVec Ideal S16x2048x16x129 .f32 :=
  Host.divf (ex q kv rel) (broadcastInDim S16x2048x16x129 ![0, 1, 2, 3] bcast_S16x2048x16x1_S16x2048x16x129_0_1_2_3 (broadcastInDim S16x2048x16x1 ![0, 1, 2] bcast_S16x2048x16_S16x2048x16x1_0_1_2 (sm3 q kv rel)))

/-- The first result. -/
def outs (q : FVec Ideal S32768x1024 .f32) (kv : FVec Ideal S32768x2048 .f32) (rel : FVec Ideal S32x16 .f32) : FVec Ideal S16x2048x1024 .f32 :=
  shapeCast _ (Host.dotGeneral dot_S16x2048x16x129_S16x2048x129x16x64_S16x2048x16x64_3_2_n_4_012_013 none (attn q kv rel) (vg kv)) shapeCasts_S16x2048x16x64_S16x2048x1024

/-- The logarithms of the sums, with a last axis of one. -/
def lse4 (q : FVec Ideal S32768x1024 .f32) (kv : FVec Ideal S32768x2048 .f32) (rel : FVec Ideal S32x16 .f32) : FVec Ideal S16x2048x16x1 .f32 :=
  addf (broadcastInDim S16x2048x16x1 ![0, 1, 2] bcast_S16x2048x16_S16x2048x16x1_0_1_2 (mx3 q kv rel)) (Host.log (broadcastInDim S16x2048x16x1 ![0, 1, 2] bcast_S16x2048x16_S16x2048x16x1_0_1_2 (sm3 q kv rel)))

/-- The second result. -/
def lses (q : FVec Ideal S32768x1024 .f32) (kv : FVec Ideal S32768x2048 .f32) (rel : FVec Ideal S32x16 .f32) : FVec Ideal S16x1x2048x16 .f32 :=
  shapeCast _ (lse4 q kv rel) shapeCasts_S16x2048x16x1_S16x1x2048x16

variable (m : (ℓ : Loc nD τ sig) → Buf (Elt Ideal) ℓ)

theorem outs_eq (c : Dev nD) : res_main_v59 m c
    = outs (m ((c : Thread nD τ).loc main_arg0)) (m ((c : Thread nD τ).loc main_arg1)) (m ((c : Thread nD τ).loc main_arg2)) := rfl

theorem lses_eq (c : Dev nD) : res_main_v60 m c
    = lses (m ((c : Thread nD τ).loc main_arg0)) (m ((c : Thread nD τ).loc main_arg1)) (m ((c : Thread nD τ).loc main_arg2)) := rfl

variable (q : FVec Ideal S32768x1024 .f32) (kv : FVec Ideal S32768x2048 .f32) (rel : FVec Ideal S32x16 .f32)

/-- The keys' gather reads position `p` of its batch, head and lane, where its word holds `p`. -/
theorem gather_keys (x : FVec Ideal S16x2048x16x64 .f32) (idx : IVec S2048x129x1 32) (b : Fin 16) (s : Fin 2048) (j : Fin 129) (h : Fin 16)
    (d : Fin 64) (p : Fin 2048) (hp : (idx (ix3 s j 0)).toInt = (p.val : Int)) :
    Host.gather gather_S16x2048x16x64_S2048x129x1_S16x2048x129x16x64_034_1_n_n_1_2_1611664 x idx (ix5 b s j h d) = x (ix4 b p h d) := by
  have hsl := p.isLt
  unfold Host.gather
  refine congrArg x (funext fun a => Fin.ext ?_)
  show GatherDims.start _ (ix5 b s j h d) idx a + GatherDims.batchCoord _ (ix5 b s j h d) a + GatherDims.offCoord _ (ix5 b s j h d) a = _
  rw [GatherDims.batchCoord_eq_zero _ _ _ List.not_mem_nil, Nat.add_zero]
  obtain rfl | rfl | rfl | rfl : a = 0 ∨ a = 1 ∨ a = 2 ∨ a = 3 := by revert a; decide
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : ∀ hh, GatherDims.siIdx gather_S16x2048x16x64_S2048x129x1_S16x2048x129x16x64_034_1_n_n_1_2_1611664 (ix5 b s j h d) ⟨0, hh⟩ = ix3 s j 0 := fun hh => by
      funext e; refine Fin.ext ?_
      match e with
      | ⟨0, _⟩ => rfl
      | ⟨1, _⟩ => rfl
      | ⟨2, _⟩ => rfl
    refine (congrArg (fun z => min (idx z).toInt.toNat (2048 - 1)) (hsi _)).trans ?_
    show min (idx (ix3 s j 0)).toInt.toNat (2048 - 1) = p.val
    rw [hp]
    omega
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-- The bucket of distance `j`. -/
def bucket (j : Fin 129) : Fin 32 := ⟨(lit0 j).toNat % 32, Nat.mod_lt _ (by norm_num)⟩

theorem lit0_at : ∀ j : Fin 129, lit0 j = BitVec.ofNat 32 (bucket j).val := by decide +kernel

theorem dist_at (s : Fin 2048) (j : Fin 129) : dist (ix2 s j) = BitVec.ofNat 32 s.val - BitVec.ofNat 32 j.val := by
  have h : IntOp.muli 1#32 (BitVec.ofNat 32 j.val) = BitVec.ofNat 32 j.val := BitVec.one_mul (x := BitVec.ofNat 32 j.val)
  pointwise [dist]
  rw [h]; rfl

/-- Words of small naturals, and of their negatives, under the comparisons the program makes. -/
theorem word_pos : ∀ n : Fin 2048, IntOp.cmpi CmpIPredicate.sge (BitVec.ofNat 32 n.val) 0#32 = 1#1
    ∧ (Scalar.select (IntOp.cmpi CmpIPredicate.slt (IntOp.maxsi (BitVec.ofNat 32 n.val) 0#32) 0#32) (IntOp.addi (IntOp.maxsi (BitVec.ofNat 32 n.val) 0#32) 2048#32)
      (IntOp.maxsi (BitVec.ofNat 32 n.val) 0#32)).toInt = (n.val : Int) := by decide +kernel

theorem word_neg : ∀ n : Fin 128, IntOp.cmpi CmpIPredicate.sge (- BitVec.ofNat 32 (n.val + 1)) 0#32 = 0#1
    ∧ (Scalar.select (IntOp.cmpi CmpIPredicate.slt (IntOp.maxsi (- BitVec.ofNat 32 (n.val + 1)) 0#32) 0#32) (IntOp.addi (IntOp.maxsi (- BitVec.ofNat 32 (n.val + 1)) 0#32) 2048#32)
      (IntOp.maxsi (- BitVec.ofNat 32 (n.val + 1)) 0#32)).toInt = 0 := by decide +kernel

theorem sub_le (s : Fin 2048) (j : Fin 129) (h : j.val ≤ s.val) : BitVec.ofNat 32 s.val - BitVec.ofNat 32 j.val = BitVec.ofNat 32 (s.val - j.val) := by
  have := s.isLt
  refine BitVec.eq_of_toNat_eq ?_
  simp only [BitVec.toNat_sub, BitVec.toNat_ofNat]
  omega

theorem sub_gt (s : Fin 2048) (j : Fin 129) (h : ¬ j.val ≤ s.val) :
    BitVec.ofNat 32 s.val - BitVec.ofNat 32 j.val = - BitVec.ofNat 32 ((j.val - s.val - 1) + 1) := by
  have := s.isLt
  have := j.isLt
  refine BitVec.eq_of_toNat_eq ?_
  simp only [BitVec.toNat_sub, BitVec.toNat_neg, BitVec.toNat_ofNat]
  omega

theorem posw_at (s : Fin 2048) (j : Fin 129) : (posw (ix3 s j 0)).toInt = ((back s j).val : Int) := by
  pointwise [posw, pos]
  rw [dist_at]
  by_cases h : j.val ≤ s.val
  · rw [sub_le s j h]
    exact (word_pos (back s j)).2
  · rw [sub_gt s j h]
    refine ((word_neg ⟨j.val - s.val - 1, by have := j.isLt; omega⟩).2).trans ?_
    simp only [back]
    omega

theorem in_range (s : Fin 2048) (j : Fin 129) : IntOp.cmpi CmpIPredicate.sge (dist (ix2 s j)) 0#32 = if j.val ≤ s.val then 1#1 else 0#1 := by
  rw [dist_at]
  by_cases h : j.val ≤ s.val
  · rw [sub_le s j h, if_pos h]
    exact (word_pos (back s j)).1
  · rw [sub_gt s j h, if_neg h]
    exact (word_neg ⟨j.val - s.val - 1, by have := j.isLt; omega⟩).1

/-- Row `p` of batch `b`; lane `d` of head `h`. -/
def row (b : Fin 16) (p : Fin 2048) : Fin 32768 := ⟨b.val * 2048 + p.val, by omega⟩
def col (h : Fin 16) (d : Fin 64) : Fin 1024 := ⟨h.val * 64 + d.val, by omega⟩
def keyCol (l : Fin 1024) : Fin 2048 := ⟨l.val, by omega⟩
def valCol (l : Fin 1024) : Fin 2048 := ⟨1024 + l.val, by omega⟩

theorem keys_at (b : Fin 16) (s : Fin 2048) (h : Fin 16) (d : Fin 64) : keys kv (ix4 b s h d) = kv (ix2 (row b s) (keyCol (col h d))) := by
  pointwise [keys]
  rfl

theorem vals_at (b : Fin 16) (s : Fin 2048) (h : Fin 16) (d : Fin 64) : vals kv (ix4 b s h d) = kv (ix2 (row b s) (valCol (col h d))) := by
  pointwise [vals]
  refine congrArg kv (congrArg (ix2 (row b s)) (Fin.ext ?_))
  simp only [valCol, col]
  omega

theorem kg_at (b : Fin 16) (s : Fin 2048) (j : Fin 129) (h : Fin 16) (d : Fin 64) :
    kg kv (ix5 b s j h d) = kv (ix2 (row b (back s j)) (keyCol (col h d))) := by
  unfold kg
  rw [gather_keys _ _ b s j h d (back s j) (posw_at s j), keys_at]

theorem vg_at (b : Fin 16) (s : Fin 2048) (j : Fin 129) (h : Fin 16) (d : Fin 64) :
    vg kv (ix5 b s j h d) = kv (ix2 (row b (back s j)) (valCol (col h d))) := by
  unfold vg
  rw [gather_keys _ _ b s j h d (back s j) (posw_at s j), vals_at]

theorem bias_at (h : Fin 16) (j : Fin 129) : bias rel (ix2 h j) = rel (ix2 (bucket j) h) := by
  pointwise [bias]
  refine gather_row _ rfl rfl rfl rfl rfl rel _ j h (bucket j) ?_ (by norm_num)
  pointwise []
  exact (congrArg lit0 (Fin.ext (rowMajor_val1 _)) : _ = lit0 j).trans (lit0_at j)

/-- The reference's logits of a row, over plain functions. -/
def rowLogits (b : Fin 16) (s : Fin 2048) (h : Fin 16) : Fin 129 → EReal :=
  refLogit (fun d => q (ix2 (row b s) (col h d))) (fun p d => kv (ix2 (row b p) (keyCol (col h d)))) (fun j => rel (ix2 (bucket j) h)) s

theorem logits_at (b : Fin 16) (s : Fin 2048) (h : Fin 16) (j : Fin 129) : logits q kv rel (ix4 b s h j) = rowLogits q kv rel b s h j := by
  have hneg : (constant S_ .f32 4286578688#32 : FVec Ideal S_ .f32) ix0 = ⊥ := bot_f32
  pointwise [logits]
  rw [in_range, bias_at, eighth_f32]
  simp only [kg_at, id, hneg]
  unfold rowLogits refLogit
  by_cases hj : j.val ≤ s.val
  · rw [if_pos hj, if_pos hj]; rfl
  · rw [if_neg hj, if_neg hj]; rfl

theorem mx3_at (b : Fin 16) (s : Fin 2048) (h : Fin 16) : mx3 q kv rel (ix3 b s h) = rowMax (rowLogits q kv rel b s h) := by
  pointwise [mx3]
  simp only [logits_at, bot_f32]
  rfl

theorem sm3_at (b : Fin 16) (s : Fin 2048) (h : Fin 16) : sm3 q kv rel (ix3 b s h) = rowSum (rowLogits q kv rel b s h) := by
  pointwise [sm3, ex]
  simp only [logits_at, mx3_at]
  rfl

theorem attn_at (b : Fin 16) (s : Fin 2048) (h : Fin 16) (j : Fin 129) : attn q kv rel (ix4 b s h j)
    = Ideal.div (Ideal.exp (rowLogits q kv rel b s h j - rowMax (rowLogits q kv rel b s h))) (rowSum (rowLogits q kv rel b s h)) := by
  pointwise [attn, ex]
  rw [logits_at, mx3_at, sm3_at]

/-- The head and the lane of a column. -/
def headOf (l : Fin 1024) : Fin 16 := ⟨l.val / 64, by omega⟩
def laneOf (l : Fin 1024) : Fin 64 := ⟨l.val % 64, by omega⟩

theorem outs_at (b : Fin 16) (s : Fin 2048) (l : Fin 1024) : outs q kv rel (ix3 b s l)
    = weighFirst (rowLogits q kv rel b s (headOf l)) fun j => kv (ix2 (row b (back s j)) (valCol (col (headOf l) (laneOf l)))) := by
  pointwise [outs]
  simp only [attn_at, vg_at]
  rfl

/-- A last axis of one more. -/
theorem lift_at (x : FVec Ideal S16x2048x16 .f32) (b : Fin 16) (s : Fin 2048) (h : Fin 16) (o : Fin 1) :
    broadcastInDim S16x2048x16x1 ![0, 1, 2] bcast_S16x2048x16_S16x2048x16x1_0_1_2 x (ix4 b s h o) = x (ix3 b s h) := by
  pointwise []

theorem lse4_at (b : Fin 16) (s : Fin 2048) (h : Fin 16) (o : Fin 1) : lse4 q kv rel (ix4 b s h o) = rowLse (rowLogits q kv rel b s h) := by
  unfold lse4
  rw [addf_apply, lift_at, mx3_at]
  show _ + Ideal.log (broadcastInDim S16x2048x16x1 ![0, 1, 2] bcast_S16x2048x16_S16x2048x16x1_0_1_2 (sm3 q kv rel) (ix4 b s h o)) = _
  rw [lift_at, sm3_at]
  rfl

theorem cast_at (x : FVec Ideal S16x2048x16x1 .f32) (b : Fin 16) (s : Fin 2048) (h : Fin 16) (o : Fin 1) :
    shapeCast S16x1x2048x16 x shapeCasts_S16x2048x16x1_S16x1x2048x16 (ix4 b o s h) = x (ix4 b s h o) := by
  refine shapeCast_apply _ _ _ _ ?_
  rw [Shape.rowMajor_val_four, Shape.rowMajor_val_four]
  show ((b.val * 2048 + s.val) * 16 + h.val) * 1 + o.val = ((b.val * 1 + o.val) * 2048 + s.val) * 16 + h.val
  omega

theorem lses_at (b : Fin 16) (s : Fin 2048) (h : Fin 16) (o : Fin 1) : lses q kv rel (ix4 b o s h) = rowLse (rowLogits q kv rel b s h) := by
  unfold lses
  rw [cast_at, lse4_at]

end Cert.AttnRefIdeal.Closed

end
-- ==== Proof.AttnTables.lean ====
module

public import proofs.«01_k».proof.Defs
public import proofs.«01_k».proof.Proof.Gen.AttnIdeal.Value
public import proofs.«01_k».proof.Proof.AttnRefValue

@[expose] public section

/-! The call's four tables: the bias bucket of each query and key of a tile, and which keys are in the window. What each must hold, over half of its rows. -/

namespace Cert.AttnIdeal.Closed

open Cert.AttnIdeal Cert.AttnIdeal.Gen Idealize.ShloMosaic

/-- The position of entry `(r, c)` in a table. -/
def cell (r : Fin 128) (c : Fin 256) : Fin 32768 := ⟨r.val * 256 + c.val, by omega⟩

/-- Key `c` of the tile is at most 128 positions before query `r`, and not after it. -/
def inWindow (r : Fin 128) (c : Fin 256) : Bool := Nat.ble r.val c.val && Nat.ble c.val (128 + r.val)

/-- Row `r` of the upper or the lower half. -/
def half (up : Bool) (r : Fin 64) : Fin 128 := ⟨(if up then 0 else 64) + r.val, by cases up <;> simp <;> omega⟩

/-- The key at distance `j` from query `r`. -/
def keyAt (r : Fin 128) (j : Fin 129) : Fin 256 := ⟨128 + r.val - j.val, by omega⟩

theorem half_all {P : Fin 128 → Prop} (h : ∀ up r, P (half up r)) (r : Fin 128) : P r := by
  by_cases hr : r.val < 64
  · exact (congrArg P (Fin.ext (by simp [half]))).mp (h true ⟨r.val, hr⟩)
  · exact (congrArg P (Fin.ext (by simp [half]; omega))).mp (h false ⟨r.val - 64, by omega⟩)

/-- The mask of the blocks after the first marks the window. -/
abbrev LaterMask (up : Bool) : Prop := ∀ (r : Fin 64) (c : Fin 256), lit1 (cell (half up r) c) = if inWindow (half up r) c then 1#1 else 0#1

/-- The first block's mask marks the part of the window in the current block. -/
abbrev FirstMask (up : Bool) : Prop :=
  ∀ (r : Fin 64) (c : Fin 256), lit3 (cell (half up r) c) = if inWindow (half up r) c && Nat.ble 128 c.val then 1#1 else 0#1

/-- In the window both bucket tables hold the bucket of the distance. -/
abbrev LaterBucket (up : Bool) : Prop :=
  ∀ (r : Fin 64) (j : Fin 129), lit0 (cell (half up r) (keyAt (half up r) j)) = AttnRefIdeal.lit0 j

abbrev FirstBucket (up : Bool) : Prop :=
  ∀ (r : Fin 64) (j : Fin 129), lit2 (cell (half up r) (keyAt (half up r) j)) = AttnRefIdeal.lit0 j

end Cert.AttnIdeal.Closed
-- ==== Proof.AttnHost.lean ====
module

public import proofs.«01_k».proof.Defs
public import proofs.«01_k».proof.Proof.Gen.AttnIdeal.Value
public import proofs.«01_k».proof.Proof.AttnTables
public import proofs.«01_k».proof.Proof.AttnMath
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.ReduceAll
public import Idealize.ShloMosaic.Lib.StableHlo.ReadAt

@[expose] public section

noncomputable section

/-! The bias that the call makes before its kernel: the bucket's bias where a key is in the window, and the mask elsewhere. -/

namespace Cert.AttnIdeal.Closed

open Cert.AttnIdeal Cert.AttnIdeal.Gen Idealize.ShloMosaic Idealize.ShloMosaic.TcCoe Idealize.SL.Sem Cert.Common

/-- The indices, a negative one counted from the end. -/
def wrapped (w : IVec S128x256 32) : IVec S128x256x1 32 :=
  broadcastInDim S128x256x1 ![0, 1] bcast_S128x256_S128x256x1_0_1
    (select (cmpi .slt w (broadcastInDim S128x256 ![] bcast_S_S128x256 (constantI S_ 32 0#32)))
      (addi w (broadcastInDim S128x256 ![] bcast_S_S128x256 (constantI S_ 32 32#32))) w)

/-- Whether each index is in the table. -/
def bounded (w : IVec S128x256 32) : IVec S128x256 1 :=
  Host.reduce IntOp.andi
    (andi (cmpi .sge (wrapped w) (broadcastInDim S128x256x1 ![] bcast_S_S128x256x1 (constantI S_ 32 0#32)))
      (cmpi .sle (wrapped w) (broadcastInDim S128x256x1 ![0, 1, 2] bcast_S1x1x1_S128x256x1_0_1_2 (broadcastInDim S1x1x1 ![2] bcast_S1_S1x1x1_2 (constantI S1 32 31#32)))))
    (constantI S_ 1 1#1) reducesTo_S128x256x1_S128x256_d2 h_S_

/-- The bias table taken at the indices. -/
def taken (w : IVec S128x256 32) (rel : FVec Ideal S32x16 .f32) : FVec Ideal S16x128x256 .f32 :=
  select (broadcastInDim S16x128x256 ![1, 2] bcast_S128x256_S16x128x256_1_2 (bounded w))
    (Host.gather gather_S16x32_S128x256x1_S16x128x256_0_1_n_n_1_2_161 (transpose S16x32 [1, 0] rel transposes_S32x16_S16x32_1_0) (wrapped w))
    (broadcastInDim S16x128x256 ![] bcast_S_S16x128x256 (constant S_ .f32 0x7FC00000#32))

/-- The taken biases under a mask. -/
def masked (k : IVec S128x256 1) (x : FVec Ideal S16x128x256 .f32) : FVec Ideal S16x128x256 .f32 :=
  select (broadcastInDim S16x128x256 ![0, 1, 2] bcast_S1x128x256_S16x128x256_0_1_2 (broadcastInDim S1x128x256 ![1, 2] bcast_S128x256_S1x128x256_1_2 k)) x
    (broadcastInDim S16x128x256 ![] bcast_S_S16x128x256 (constant S_ .f32 0xFF800000#32))

/-- A table by row and column. -/
def grid {w : ℕ} (t : Fin 32768 → BitVec w) : IVec S128x256 w := fun i => t (S128x256.rowMajor i)

def firstBias (rel : FVec Ideal S32x16 .f32) : FVec Ideal S16x128x256 .f32 := masked (grid lit3) (taken (grid lit2) rel)
def laterBias (rel : FVec Ideal S32x16 .f32) : FVec Ideal S16x128x256 .f32 := masked (grid lit1) (taken (grid lit0) rel)

/-- Two biases one above the other. -/
def stacked (x y : FVec Ideal S1x16x128x256 .f32) : FVec Ideal S2x16x128x256 .f32 :=
  concatenate S2x16x128x256 0 [⟨S1x16x128x256, x⟩, ⟨S1x16x128x256, y⟩] concatenates_S1x16x128x256_S1x16x128x256_S2x16x128x256_d0

/-- The two biases, the first block's and the later blocks'. -/
def biases (rel : FVec Ideal S32x16 .f32) : FVec Ideal S2x16x128x256 .f32 :=
  stacked (broadcastInDim S1x16x128x256 ![1, 2, 3] bcast_S16x128x256_S1x16x128x256_1_2_3 (firstBias rel))
    (broadcastInDim S1x16x128x256 ![1, 2, 3] bcast_S16x128x256_S1x16x128x256_1_2_3 (laterBias rel))

variable (m : (ℓ : Loc nD τ sig) → Buf (Elt Ideal) ℓ)

set_option maxRecDepth 40000 in
theorem biases_eq (c : Dev nD) : V m c main_v12 = biases (m ((c : Thread nD τ).loc main_arg2)) := by
  unfold V
  after_reads_simp
  refine congrArg₂ stacked ?_ ?_
  all_goals after_reads_simp
  all_goals simp -implicitDefEqProofs only [StableHlo.TRef.toBuf, StableHlo.TRef.ofBuf, cast_cast, cast_eq, id]
  all_goals clean_types
  · unfold firstBias masked taken bounded wrapped grid
    rfl
  · unfold laterBias masked taken bounded wrapped grid
    rfl

theorem small_word : ∀ p : Fin 32, IntOp.cmpi .slt (BitVec.ofNat 32 p.val) 0#32 = 0#1 ∧ IntOp.cmpi .sge (BitVec.ofNat 32 p.val) 0#32 = 1#1
    ∧ IntOp.cmpi .sle (BitVec.ofNat 32 p.val) 31#32 = 1#1 ∧ (BitVec.ofNat 32 p.val).toInt = (p.val : Int) := by decide +kernel

theorem wrapped_at (w : IVec S128x256 32) (r : Fin 128) (c : Fin 256) (p : Fin 32) (hp : w (ix2 r c) = BitVec.ofNat 32 p.val) :
    wrapped w (ix3 r c 0) = BitVec.ofNat 32 p.val := by
  pointwise [wrapped]
  rw [hp, (small_word p).1]
  rfl

theorem bounded_at (w : IVec S128x256 32) (r : Fin 128) (c : Fin 256) (p : Fin 32) (hp : w (ix2 r c) = BitVec.ofNat 32 p.val) :
    bounded w (ix2 r c) = 1#1 := by
  unfold bounded
  rw [Host.reduce_eq_foldl]
  refine IntOp.foldl_andi_one _ _ _ rfl fun n hn => ?_
  obtain ⟨a, b, o, rfl⟩ : ∃ a b o, n = ix3 a b o := ⟨n 0, n 1, n 2, eq_ix3 n⟩
  have hd := of_decide_eq_true (List.mem_filter.mp hn).2
  have ha : a = r := Fin.ext (congrArg Fin.val (congrFun hd 0))
  have hb : b = c := Fin.ext (congrArg Fin.val (congrFun hd 1))
  obtain rfl : o = 0 := Subsingleton.elim _ _
  subst ha hb
  show IntOp.andi (IntOp.cmpi .sge (wrapped w (ix3 a b 0)) _) (IntOp.cmpi .sle (wrapped w (ix3 a b 0)) _) = 1#1
  rw [wrapped_at w a b p hp]
  show IntOp.andi (IntOp.cmpi .sge (BitVec.ofNat 32 p.val) 0#32) (IntOp.cmpi .sle (BitVec.ofNat 32 p.val) 31#32) = 1#1
  rw [(small_word p).2.1, (small_word p).2.2.1]
  rfl

theorem gather_bias (x : FVec Ideal S16x32 .f32) (idx : IVec S128x256x1 32) (h : Fin 16) (r : Fin 128) (c : Fin 256) (p : Fin 32)
    (hp : (idx (ix3 r c 0)).toInt = (p.val : Int)) :
    Host.gather gather_S16x32_S128x256x1_S16x128x256_0_1_n_n_1_2_161 x idx (ix3 h r c) = x (ix2 h p) := by
  have hsl := p.isLt
  unfold Host.gather
  refine congrArg x (funext fun a => Fin.ext ?_)
  show GatherDims.start _ (ix3 h r c) idx a + GatherDims.batchCoord _ (ix3 h r c) a + GatherDims.offCoord _ (ix3 h r c) a = _
  rw [GatherDims.batchCoord_eq_zero _ _ _ List.not_mem_nil, Nat.add_zero]
  obtain rfl | rfl : a = 0 ∨ a = 1 := by revert a; decide
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : ∀ hh, GatherDims.siIdx gather_S16x32_S128x256x1_S16x128x256_0_1_n_n_1_2_161 (ix3 h r c) ⟨0, hh⟩ = ix3 r c 0 := fun hh => by
      funext e; refine Fin.ext ?_
      match e with
      | ⟨0, _⟩ => rfl
      | ⟨1, _⟩ => rfl
      | ⟨2, _⟩ => rfl
    refine (congrArg (fun z => min (idx z).toInt.toNat (32 - 1)) (hsi _)).trans ?_
    show min (idx (ix3 r c 0)).toInt.toNat (32 - 1) = p.val
    rw [hp]
    omega

theorem taken_at (w : IVec S128x256 32) (rel : FVec Ideal S32x16 .f32) (h : Fin 16) (r : Fin 128) (c : Fin 256) (p : Fin 32)
    (hp : w (ix2 r c) = BitVec.ofNat 32 p.val) : taken w rel (ix3 h r c) = rel (ix2 p h) := by
  have hg := gather_bias (transpose S16x32 [1, 0] rel transposes_S32x16_S16x32_1_0) (wrapped w) h r c p
    (by rw [wrapped_at w r c p hp]; exact (small_word p).2.2.2)
  have hb := bounded_at w r c p hp
  pointwise [taken]
  rw [hb]
  refine Eq.trans (b := Host.gather gather_S16x32_S128x256x1_S16x128x256_0_1_n_n_1_2_161 (transpose S16x32 [1, 0] rel transposes_S32x16_S16x32_1_0) (wrapped w) (ix3 h r c)) ?_ (hg.trans ?_)
  · rfl
  · pointwise []

theorem masked_at (k : IVec S128x256 1) (x : FVec Ideal S16x128x256 .f32) (h : Fin 16) (r : Fin 128) (c : Fin 256) :
    masked k x (ix3 h r c) = if k (ix2 r c) = 1#1 then x (ix3 h r c) else ⊥ := by
  pointwise [masked]
  rw [bot_f32]
  rfl

theorem grid_at {w : ℕ} (t : Fin 32768 → BitVec w) (r : Fin 128) (c : Fin 256) : grid t (ix2 r c) = t (cell r c) :=
  congrArg t (Fin.ext (rowMajor_val2 _ 256 rfl))

theorem biases_at (rel : FVec Ideal S32x16 .f32) (s : Fin 2) (h : Fin 16) (r : Fin 128) (c : Fin 256) :
    biases rel (ix4 s h r c) = if s = 0 then firstBias rel (ix3 h r c) else laterBias rel (ix3 h r c) := by
  pointwise [biases, stacked]
  obtain rfl | rfl : s = 0 ∨ s = 1 := by revert s; decide
  · rfl
  · rfl

end Cert.AttnIdeal.Closed
-- ==== Proof.AttnLaterMask.lean ====
module

public import proofs.«01_k».proof.Proof.AttnTables

@[expose] public section

/-! The mask of the blocks after the first, entry by entry. -/

namespace Cert.AttnIdeal.Closed

theorem later_mask_upper : LaterMask true := by decide +kernel

theorem later_mask_lower : LaterMask false := by decide +kernel

end Cert.AttnIdeal.Closed
-- ==== Proof.AttnFirstMask.lean ====
module

public import proofs.«01_k».proof.Proof.AttnTables

@[expose] public section

/-! The first block's mask, entry by entry. -/

namespace Cert.AttnIdeal.Closed

theorem first_mask_upper : FirstMask true := by decide +kernel

theorem first_mask_lower : FirstMask false := by decide +kernel

end Cert.AttnIdeal.Closed
-- ==== Proof.AttnLaterBucket.lean ====
module

public import proofs.«01_k».proof.Proof.AttnTables

@[expose] public section

/-! The buckets of the blocks after the first, entry by entry. -/

namespace Cert.AttnIdeal.Closed

theorem later_bucket_upper : LaterBucket true := by decide +kernel

theorem later_bucket_lower : LaterBucket false := by decide +kernel

end Cert.AttnIdeal.Closed
-- ==== Proof.AttnFirstBucket.lean ====
module

public import proofs.«01_k».proof.Proof.AttnTables

@[expose] public section

/-! The first block's buckets, entry by entry. -/

namespace Cert.AttnIdeal.Closed

theorem first_bucket_upper : FirstBucket true := by decide +kernel

theorem first_bucket_lower : FirstBucket false := by decide +kernel

end Cert.AttnIdeal.Closed
-- ==== Proof.AttnValue.lean ====
module

public import proofs.«01_k».proof.Defs
public import proofs.«01_k».proof.Proof.Gen.AttnIdeal.Value
public import proofs.«01_k».proof.Proof.Gen.AttnRefIdeal.Run
public import proofs.«01_k».proof.Proof.AttnTile
public import proofs.«01_k».proof.Proof.AttnHost
public import proofs.«01_k».proof.Proof.AttnRefValue
public import proofs.«01_k».proof.Proof.AttnLaterMask
public import proofs.«01_k».proof.Proof.AttnFirstMask
public import proofs.«01_k».proof.Proof.AttnLaterBucket
public import proofs.«01_k».proof.Proof.AttnFirstBucket
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.StableHlo.ReadAt

@[expose] public section

noncomputable section

/-! The windowed attention's results: each point's blocks read from the arguments, and the two result arrays as the reference's. -/

namespace Cert.AttnIdeal.Closed

open Cert.AttnIdeal Cert.AttnIdeal.Gen Idealize.ShloMosaic Idealize.ShloMosaic.TcCoe Idealize.SL.Sem Cert.Common
open Cert.AttnRefIdeal.Closed (row col keyCol valCol bucket rowLogits)

variable (m : (ℓ : Loc nD τ sig) → Buf (Elt Ideal) ℓ)

theorem ix_facts : ∀ t : Fin cfg0.N, win0_0.index t = ![t.val / 16, t.val % 16, 0] ∧ win0_1.index t = ![t.val / 16, t.val % 16, 0]
    ∧ win0_2.index t = ![t.val / 16, t.val % 16 - 1, 0] ∧ win0_3.index t = ![t.val / 16, t.val % 16, 1]
    ∧ win0_4.index t = ![t.val / 16, t.val % 16 - 1, 1] ∧ win0_5.index t = ![min (t.val % 16) 1, 0, 0, 0]
    ∧ win0_6.index t = ![t.val / 16, t.val % 16, 0] ∧ win0_7.index t = ![t.val / 16, 0, t.val % 16, 0] := by decide +kernel

/-- The three arguments. -/
def qArg (c : Dev nD) : FVec Ideal S32768x1024 .f32 := m ((c : Thread nD τ).loc main_arg0)
def kvArg (c : Dev nD) : FVec Ideal S32768x2048 .f32 := m ((c : Thread nD τ).loc main_arg1)
def relArg (c : Dev nD) : FVec Ideal S32x16 .f32 := m ((c : Thread nD τ).loc main_arg2)

/-- A point's batch, its block of queries, and the positions in that block and in the one before. -/
def batchOf (t : Fin cfg0.N) : Fin 16 := ⟨t.val / 16, by have h := t.isLt; change t.val < 256 at h; omega⟩
def here (t : Fin cfg0.N) (r : Fin 128) : Fin 2048 := ⟨t.val % 16 * 128 + r.val, by omega⟩
def before (t : Fin cfg0.N) (r : Fin 128) : Fin 2048 := ⟨(t.val % 16 - 1) * 128 + r.val, by omega⟩
def slot (t : Fin cfg0.N) : Fin 2 := ⟨min (t.val % 16) 1, by omega⟩

theorem blk_q (c : Dev nD) (t : Fin cfg0.N) (r : Fin 128) (l : Fin 1024) :
    iblk m c 0 t (ix3 0 r l) = qArg m c (ix2 (row (batchOf t) (here t r)) l) := by
  unfold qArg row
  blk_simp [iblk, V]
  rw [show (win0_0.blk t).view.emb (ix3 0 r l) = ix3 (batchOf t) (here t r) l from by unfold batchOf here; blk_ext! [ix_facts t]]
  after_reads_at

theorem blk_kc (c : Dev nD) (t : Fin cfg0.N) (r : Fin 128) (l : Fin 1024) :
    iblk m c 1 t (ix3 0 r l) = kvArg m c (ix2 (row (batchOf t) (here t r)) (keyCol l)) := by
  unfold kvArg row keyCol
  blk_simp [iblk, V]
  rw [show (win0_1.blk t).view.emb (ix3 0 r l) = ix3 (batchOf t) (here t r) (keyCol l) from by unfold batchOf here keyCol; blk_ext! [ix_facts t]]
  after_reads_at
  rfl

theorem blk_kp (c : Dev nD) (t : Fin cfg0.N) (r : Fin 128) (l : Fin 1024) :
    iblk m c 2 t (ix3 0 r l) = kvArg m c (ix2 (row (batchOf t) (before t r)) (keyCol l)) := by
  unfold kvArg row keyCol
  blk_simp [iblk, V]
  rw [show (win0_2.blk t).view.emb (ix3 0 r l) = ix3 (batchOf t) (before t r) (keyCol l) from by unfold batchOf before keyCol; blk_ext! [ix_facts t]]
  after_reads_at
  rfl

theorem blk_vc (c : Dev nD) (t : Fin cfg0.N) (r : Fin 128) (l : Fin 1024) :
    iblk m c 3 t (ix3 0 r l) = kvArg m c (ix2 (row (batchOf t) (here t r)) (valCol l)) := by
  unfold kvArg row valCol
  blk_simp [iblk, V]
  rw [show (win0_3.blk t).view.emb (ix3 0 r l) = ix3 (batchOf t) (here t r) (valCol l) from by unfold batchOf here valCol; blk_ext! [ix_facts t]]
  after_reads_at
  rfl

theorem blk_vp (c : Dev nD) (t : Fin cfg0.N) (r : Fin 128) (l : Fin 1024) :
    iblk m c 4 t (ix3 0 r l) = kvArg m c (ix2 (row (batchOf t) (before t r)) (valCol l)) := by
  unfold kvArg row valCol
  blk_simp [iblk, V]
  rw [show (win0_4.blk t).view.emb (ix3 0 r l) = ix3 (batchOf t) (before t r) (valCol l) from by unfold batchOf before valCol; blk_ext! [ix_facts t]]
  after_reads_at
  rfl

theorem blk_b (c : Dev nD) (t : Fin cfg0.N) (h : Fin 16) (r : Fin 128) (k : Fin 256) :
    iblk m c 5 t (ix4 0 h r k) = biases (relArg m c) (ix4 (slot t) h r k) := by
  have e := congrFun (biases_eq m c) (ix4 (slot t) h r k)
  unfold relArg
  rw [← e]
  blk_simp [iblk]
  rw [show (win0_5.blk t).view.emb (ix4 0 h r k) = ix4 (slot t) h r k from by unfold slot; blk_ext! [ix_facts t]]

/-! The bias over the window. -/

theorem later_mask (r : Fin 128) (k : Fin 256) : lit1 (cell r k) = if inWindow r k then 1#1 else 0#1 :=
  half_all (P := fun r => ∀ k, lit1 (cell r k) = if inWindow r k then 1#1 else 0#1) (fun up => by cases up; exacts [later_mask_lower, later_mask_upper]) r k

theorem first_mask (r : Fin 128) (k : Fin 256) : lit3 (cell r k) = if inWindow r k && Nat.ble 128 k.val then 1#1 else 0#1 :=
  half_all (P := fun r => ∀ k, lit3 (cell r k) = if inWindow r k && Nat.ble 128 k.val then 1#1 else 0#1)
    (fun up => by cases up; exacts [first_mask_lower, first_mask_upper]) r k

theorem later_bucket (r : Fin 128) (j : Fin 129) : lit0 (cell r (keyAt r j)) = AttnRefIdeal.lit0 j :=
  half_all (P := fun r => ∀ j, lit0 (cell r (keyAt r j)) = AttnRefIdeal.lit0 j) (fun up => by cases up; exacts [later_bucket_lower, later_bucket_upper]) r j

theorem first_bucket (r : Fin 128) (j : Fin 129) : lit2 (cell r (keyAt r j)) = AttnRefIdeal.lit0 j :=
  half_all (P := fun r => ∀ j, lit2 (cell r (keyAt r j)) = AttnRefIdeal.lit0 j) (fun up => by cases up; exacts [first_bucket_lower, first_bucket_upper]) r j

theorem keyAt_inj (r : Fin 128) : Function.Injective (keyAt r) := fun a b h => by
  have h' : 128 + r.val - a.val = 128 + r.val - b.val := congrArg Fin.val h
  exact Fin.ext (by have := a.isLt; have := b.isLt; omega)

theorem inWindow_keyAt (r : Fin 128) (j : Fin 129) : inWindow r (keyAt r j) = true := by
  have := j.isLt
  rw [inWindow, Bool.and_eq_true, Nat.ble_eq, Nat.ble_eq]
  simp only [keyAt]
  omega

theorem inWindow_off (r : Fin 128) (k : Fin 256) (h : k ∉ Set.range (keyAt r)) : inWindow r k = false := by
  refine Bool.eq_false_iff.mpr fun hw => h ?_
  rw [inWindow, Bool.and_eq_true, Nat.ble_eq, Nat.ble_eq] at hw
  exact ⟨⟨128 + r.val - k.val, by omega⟩, Fin.ext (by simp only [keyAt]; omega)⟩

theorem first_off (rel : FVec Ideal S32x16 .f32) (h : Fin 16) (r : Fin 128) (k : Fin 256) (hk : inWindow r k = false ∨ k.val < 128) :
    firstBias rel (ix3 h r k) = ⊥ := by
  have hb : (inWindow r k && Nat.ble 128 k.val) = false := by
    obtain hk | hk := hk
    · rw [hk]; rfl
    · rw [show Nat.ble 128 k.val = false from Bool.eq_false_iff.mpr fun hh => by rw [Nat.ble_eq] at hh; omega, Bool.and_false]
  rw [firstBias, masked_at, grid_at, first_mask, hb]
  rfl

theorem later_off (rel : FVec Ideal S32x16 .f32) (h : Fin 16) (r : Fin 128) (k : Fin 256) (hk : inWindow r k = false) :
    laterBias rel (ix3 h r k) = ⊥ := by
  rw [laterBias, masked_at, grid_at, later_mask, hk]
  rfl

theorem first_on (rel : FVec Ideal S32x16 .f32) (h : Fin 16) (r : Fin 128) (j : Fin 129) (hk : 128 ≤ (keyAt r j).val) :
    firstBias rel (ix3 h r (keyAt r j)) = rel (ix2 (bucket j) h) := by
  rw [firstBias, masked_at, grid_at, first_mask, inWindow_keyAt, show Nat.ble 128 (keyAt r j).val = true from Nat.ble_eq.mpr hk,
    Bool.and_self, if_pos rfl, if_pos rfl]
  exact taken_at (grid lit2) rel h r (keyAt r j) (bucket j) ((grid_at lit2 r _).trans ((first_bucket r j).trans (AttnRefIdeal.Closed.lit0_at j)))

theorem later_on (rel : FVec Ideal S32x16 .f32) (h : Fin 16) (r : Fin 128) (j : Fin 129) :
    laterBias rel (ix3 h r (keyAt r j)) = rel (ix2 (bucket j) h) := by
  rw [laterBias, masked_at, grid_at, later_mask, inWindow_keyAt, if_pos rfl, if_pos rfl]
  exact taken_at (grid lit0) rel h r (keyAt r j) (bucket j) ((grid_at lit0 r _).trans ((later_bucket r j).trans (AttnRefIdeal.Closed.lit0_at j)))

/-- A key of the window is in the sequence where it is in the current block, or there is a block before. -/
theorem in_seq (t : Fin cfg0.N) (r : Fin 128) (j : Fin 129) : j.val ≤ (here t r).val ↔ (slot t = 0 → 128 ≤ (keyAt r j).val) := by
  have hj := j.isLt
  have hs : slot t = 0 ↔ t.val % 16 = 0 := by
    rw [Fin.ext_iff]; simp only [slot, Fin.val_zero]; omega
  rw [hs]
  simp only [here, keyAt]
  omega

theorem bias_off (rel : FVec Ideal S32x16 .f32) (s : Fin 2) (h : Fin 16) (r : Fin 128) (k : Fin 256) (hk : k ∉ Set.range (keyAt r)) :
    biases rel (ix4 s h r k) = ⊥ := by
  rw [biases_at]
  split
  · exact first_off rel h r k (.inl (inWindow_off r k hk))
  · exact later_off rel h r k (inWindow_off r k hk)

theorem bias_on (rel : FVec Ideal S32x16 .f32) (t : Fin cfg0.N) (h : Fin 16) (r : Fin 128) (j : Fin 129) :
    biases rel (ix4 (slot t) h r (keyAt r j)) = if j.val ≤ (here t r).val then rel (ix2 (bucket j) h) else ⊥ := by
  rw [biases_at]
  by_cases hj : j.val ≤ (here t r).val
  · rw [if_pos hj]
    split
    · next h0 => exact first_on rel h r j ((in_seq t r j).mp hj h0)
    · exact later_on rel h r j
  · rw [if_neg hj]
    have hn := mt (in_seq t r j).mpr hj
    rw [Classical.not_imp] at hn
    rw [if_pos hn.1]
    exact first_off rel h r _ (.inr (by omega))

/-- What a tile holds at the key of distance `j`: what the sequence holds `j` before the query. -/
theorem both_at (t : Fin cfg0.N) (r : Fin 128) (j : Fin 129) (hj : j.val ≤ (here t r).val) (f : Fin 2048 → EReal) :
    both (fun i => f (before t i)) (fun i => f (here t i)) (keyAt r j) = f (back (here t r) j) := by
  have := j.isLt
  unfold both
  split
  · next h =>
    have h' : 128 + r.val - j.val < 128 := h
    have hj' : j.val ≤ t.val % 16 * 128 + r.val := hj
    refine congrArg f (Fin.ext ?_)
    show (t.val % 16 - 1) * 128 + (128 + r.val - j.val) = t.val % 16 * 128 + r.val - j.val
    omega
  · next h =>
    have h' : ¬ 128 + r.val - j.val < 128 := h
    refine congrArg f (Fin.ext ?_)
    show t.val % 16 * 128 + (128 + r.val - j.val - 128) = t.val % 16 * 128 + r.val - j.val
    omega

/-- A tile's row of logits and the reference's. -/
theorem window (c : Dev nD) (t : Fin cfg0.N) (h : Fin 16) (r : Fin 128) :
    Window (keyAt r) (tileLogits (iblk m c 0 t) (iblk m c 1 t) (iblk m c 2 t) (iblk m c 5 t) h r)
      (rowLogits (qArg m c) (kvArg m c) (relArg m c) (batchOf t) (here t r) h) where
  inj := keyAt_inj r
  on j := by
    unfold tileLogits rowLogits refLogit
    simp only [blk_q, blk_kc, blk_kp, blk_b]
    rw [bias_on]
    by_cases hj : j.val ≤ (here t r).val
    · rw [if_pos hj, if_pos hj]
      refine congrArg (fun z => z * eighth + _) (Finset.sum_congr rfl fun d _ => congrArg (_ * ·) ?_)
      exact both_at t r j hj fun p => kvArg m c (ix2 (row (batchOf t) p) (keyCol (headCol h d)))
    · rw [if_neg hj, if_neg hj, EReal.add_bot]
  off k hk := by
    unfold tileLogits
    rw [blk_b, bias_off _ _ _ _ _ hk, EReal.add_bot]

/-- The arguments are real where the precondition asks it: queries, keys, biases. -/
structure Finite (q : FVec Ideal S32768x1024 .f32) (kv : FVec Ideal S32768x2048 .f32) (rel : FVec Ideal S32x16 .f32) : Prop where
  query : ∀ p l, ∃ x : ℝ, q (ix2 p l) = x
  key : ∀ p l, ∃ x : ℝ, kv (ix2 p (keyCol l)) = x
  bias : ∀ b h, ∃ x : ℝ, rel (ix2 b h) = x

theorem out_at (c : Dev nD) (t : Fin cfg0.N) (r : Fin 128) (l : Fin 1024) (hf : Finite (qArg m c) (kvArg m c) (relArg m c)) :
    blockOut (iblk m c 0 t) (iblk m c 1 t) (iblk m c 2 t) (iblk m c 3 t) (iblk m c 4 t) (iblk m c 5 t) (ix3 0 r l)
      = AttnRefIdeal.Closed.outs (qArg m c) (kvArg m c) (relArg m c) (ix3 (batchOf t) (here t r) l) := by
  rw [AttnRefIdeal.Closed.outs_at]
  have hlog := refLogit_real (fun d => qArg m c (ix2 (row (batchOf t) (here t r)) (col (headOf l) d)))
    (fun p d => kvArg m c (ix2 (row (batchOf t) p) (keyCol (col (headOf l) d)))) (fun j => relArg m c (ix2 (bucket j) (headOf l))) (here t r)
    (fun d => hf.query _ _) (fun p d => hf.key _ _) (fun j => hf.bias _ _) 0 (Nat.zero_le _)
  have htop := refLogit_ne_top (fun d => qArg m c (ix2 (row (batchOf t) (here t r)) (col (headOf l) d)))
    (fun p d => kvArg m c (ix2 (row (batchOf t) p) (keyCol (col (headOf l) d)))) (fun j => relArg m c (ix2 (bucket j) (headOf l))) (here t r)
    (fun d => hf.query _ _) (fun p d => hf.key _ _) (fun j => hf.bias _ _)
  refine (window m c t (headOf l) r).out _ _ (fun j hj => ?_) htop 0 ?_
  · simp only [blk_vc, blk_vp]
    refine both_at t r j ?_ fun p => kvArg m c (ix2 (row (batchOf t) p) (valCol (headCol (headOf l) (laneOf l))))
    by_contra hn
    exact hj (if_neg hn)
  · obtain ⟨x, hx⟩ := hlog
    exact fun he => EReal.coe_ne_bot x (hx.symm.trans he)

theorem result_out (c : Dev nD) (hf : Finite (qArg m c) (kvArg m c) (relArg m c)) :
    (dats m 0 c).arrAt 6 cfg0.N = AttnRefIdeal.Closed.outs (qArg m c) (kvArg m c) (relArg m c) := by
  refine (dats m 0 c).arrAt_eq_of_covers 6 _ (by decide +kernel) fun t hfl y => ?_
  blk_simp
  rw [after0_6]
  obtain ⟨o, r, l, rfl⟩ : ∃ o r l, y = ix3 o r l := ⟨y 0, y 1, y 2, eq_ix3 y⟩
  obtain rfl : o = 0 := Subsingleton.elim _ _
  rw [show (win0_6.blk t).view.emb (ix3 0 r l) = ix3 (batchOf t) (here t r) l from by unfold batchOf here; blk_ext! [ix_facts t]]
  exact (out6_at _ _ _ _ _ _ _).trans (out_at m c t r l hf)

theorem result_lse (c : Dev nD) : (dats m 0 c).arrAt 7 cfg0.N = AttnRefIdeal.Closed.lses (qArg m c) (kvArg m c) (relArg m c) := by
  refine (dats m 0 c).arrAt_eq_of_covers 7 _ (by decide +kernel) fun t hfl y => ?_
  blk_simp
  rw [after0_7]
  obtain ⟨o, o', r, h, rfl⟩ : ∃ o o' r h, y = ix4 o o' r h := ⟨y 0, y 1, y 2, y 3, eq_ix4 y⟩
  obtain rfl : o = 0 := Subsingleton.elim _ _
  obtain rfl : o' = 0 := Subsingleton.elim _ _
  rw [show (win0_7.blk t).view.emb (ix4 0 0 r h) = ix4 (batchOf t) 0 (here t r) h from by unfold batchOf here; blk_ext! [ix_facts t]]
  refine (out7_at _ _ _ _ _ _ _).trans ?_
  exact (window m c t h r).lse.trans (AttnRefIdeal.Closed.lses_at _ _ _ _ _ _ _).symm

end Cert.AttnIdeal.Closed
-- ==== Proof.AttnFinite.lean ====
module

public import proofs.«01_k».proof.Defs
public import proofs.«01_k».proof.Proof.AttnMath
public import Idealize.ShloMosaic.Lib.Pointwise
public import Idealize.ShloMosaic.Lib.ReduceAll

@[expose] public section

noncomputable section

/-! The precondition of the windowed attention, read back: the queries, the keys and the biases are real numbers. -/

namespace Cert.Pre_finite_attn

open Idealize.ShloMosaic Cert.Common

theorem facts : Facts where
  slices_S32768x2048_S32768x1024_0_0 := by decide
  bcast_S_S32768x1024 := by decide
  reducesTo_S32768x1024_S_d0_1 := by decide
  h_S_ := by decide
  bcast_S_S32x16 := by decide
  reducesTo_S32x16_S_d0_1 := by decide

/-- A number below infinity in size is real. -/
theorem real_of_small (x : EReal) (h : Ideal.cmp .olt (max x (-x)) (Ideal.ofBits .f32 0x7F800000#32) = 1#1) : ∃ r : ℝ, x = r := by
  rw [show (1#1 : BitVec 1) = 1 from rfl, Ideal.cmp_olt_eq_one, top_f32] at h
  induction x with
  | bot => exact absurd h (by simp)
  | top => exact absurd h (by simp)
  | coe r => exact ⟨r, rfl⟩

variable [Facts]
open Facts

theorem split (q : FVec Ideal S32768x1024 .f32) (kv : FVec Ideal S32768x2048 .f32) (rel : FVec Ideal S32x16 .f32)
    (h : fn (F := Ideal) q kv rel = fun _ => 1#1) :
    (∀ i, cmpf (F := Ideal) .olt (Host.absf q) (broadcastInDim S32768x1024 ![] bcast_S_S32768x1024 (constant S_ .f32 0x7F800000#32)) i = 1#1)
    ∧ (∀ i, cmpf (F := Ideal) .olt (Host.absf (extractStridedSlice S32768x1024 ![0, 0] kv slices_S32768x2048_S32768x1024_0_0))
        (broadcastInDim S32768x1024 ![] bcast_S_S32768x1024 (constant S_ .f32 0x7F800000#32)) i = 1#1)
    ∧ ∀ i, cmpf (F := Ideal) .olt (Host.absf rel) (broadcastInDim S32x16 ![] bcast_S_S32x16 (constant S_ .f32 0x7F800000#32)) i = 1#1 := by
  have hs : Subsingleton S_.Idx := ⟨fun a b => funext fun d => d.elim0⟩
  have h0 := congrFun h (fun d => d.elim0)
  obtain ⟨h1, h2⟩ := IntOp.andi_eq_one.mp h0
  obtain ⟨h3, h4⟩ := IntOp.andi_eq_one.mp h1
  exact ⟨Host.reduce_andi_all _ _ _ _ _ h3, Host.reduce_andi_all _ _ _ _ _ h4, Host.reduce_andi_all _ _ _ _ _ h2⟩

theorem query_real (q : FVec Ideal S32768x1024 .f32) (kv : FVec Ideal S32768x2048 .f32) (rel : FVec Ideal S32x16 .f32)
    (h : fn (F := Ideal) q kv rel = fun _ => 1#1) (p : Fin 32768) (l : Fin 1024) : ∃ x : ℝ, q (ix2 p l) = x :=
  real_of_small _ ((split q kv rel h).1 (ix2 p l))

theorem key_real (q : FVec Ideal S32768x1024 .f32) (kv : FVec Ideal S32768x2048 .f32) (rel : FVec Ideal S32x16 .f32)
    (h : fn (F := Ideal) q kv rel = fun _ => 1#1) (p : Fin 32768) (l : Fin 1024) : ∃ x : ℝ, kv (ix2 p ⟨l.val, by omega⟩) = x := by
  have hk := real_of_small _ ((split q kv rel h).2.1 (ix2 p l))
  pointwise at hk
  exact hk

theorem bias_real (q : FVec Ideal S32768x1024 .f32) (kv : FVec Ideal S32768x2048 .f32) (rel : FVec Ideal S32x16 .f32)
    (h : fn (F := Ideal) q kv rel = fun _ => 1#1) (b : Fin 32) (g : Fin 16) : ∃ x : ℝ, rel (ix2 b g) = x :=
  real_of_small _ ((split q kv rel h).2.2 (ix2 b g))

end Cert.Pre_finite_attn
-- ==== Proof.AttnAgrees.lean ====
module

public import proofs.«01_k».proof.Defs
public import proofs.«01_k».proof.Proof.AttnValue
public import proofs.«01_k».proof.Proof.AttnFinite
public import Idealize.ShloMosaic.Lib.Claim

@[expose] public section

noncomputable section

/-! The windowed attention's kernel and its reference end with the same two arrays. -/

namespace Cert.AttnIdeal.Closed

open Cert.AttnIdeal Cert.AttnIdeal.Gen Idealize.ShloMosaic Idealize.ShloMosaic.TcCoe Idealize.SL.Sem Cert.Common

theorem finite_of_pre (m : (ℓ : Loc nD τ sig) → Buf (Elt Ideal) ℓ) (h : Pre_AttnIdeal_finite_attn (hPre_finite_attn := Cert.Pre_finite_attn.facts) m) (c : Dev nD) :
    Finite (qArg m c) (kvArg m c) (relArg m c) :=
  letI := Cert.Pre_finite_attn.facts
  ⟨Cert.Pre_finite_attn.query_real _ _ _ (h c), Cert.Pre_finite_attn.key_real _ _ _ (h c), Cert.Pre_finite_attn.bias_real _ _ _ (h c)⟩

theorem agrees : algebraic_AttnIdeal_AttnRefIdeal_pre_finite_attn (hAttnIdeal := Cert.AttnIdeal.Gen.facts) (hAttnRefIdeal := Cert.AttnRefIdeal.Gen.facts)
    (hPre_finite_attn := Cert.Pre_finite_attn.facts) := by
  intro m g m' g' hpre hagree
  refine ⟨fun c => AttnRefIdeal.Closed.outs (qArg m c) (kvArg m c) (relArg m c), fun c => AttnRefIdeal.Closed.lses (qArg m c) (kvArg m c) (relArg m c), ?_, ?_⟩
  · refine (θ_run defs _ _).mono (fun r h c => ?_) (Value.run_blocks m g)
    obtain ⟨h0, h1, h2⟩ := h c
    exact ⟨h0.trans (result_out m c (finite_of_pre m hpre c)), h1.trans (result_lse m c), h2⟩
  · refine (θ_run AttnRefIdeal.defs _ _).mono (fun r h c => ?_) (AttnRefIdeal.Value.run m' g')
    obtain ⟨h0, h1, h2⟩ := h c
    obtain ⟨e0, e1, e2⟩ := hagree c
    refine ⟨h0.trans ((AttnRefIdeal.Closed.outs_eq m' c).trans ?_), h1.trans ((AttnRefIdeal.Closed.lses_eq m' c).trans ?_), h2⟩
    · rw [e0, e1, e2]; rfl
    · rw [e0, e1, e2]; rfl

end Cert.AttnIdeal.Closed

end
-- ==== Proof.ShiftLaunch.lean ====
/-
  A region that stages nothing, run: its body copies between whole buffers by its own nine transfers.

  `run_unstaged` turns one statement about the body — from the two buffers read, the buffer written and the nine
  counters at zero, to the same with the written buffer at named contents — into the run of the program: the written
  buffer at the named contents, the two arguments as launched, every counter at zero.
-/
module

public import Idealize.ShloMosaic.Lib.Pipeline.FrameValue
public import Idealize.ShloMosaic.Lib.Tactic

@[expose] public section

noncomputable section

namespace Cert.Shift

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Idealize.SL.Sem.Labels} [∀ e, Nonempty (Val e)]

/-- What is asserted of the buffers and counters. -/
abbrev Res (nD : Nat) (τ : Topo) (sig : RefSig) (Val : EltTy → Type) : Type := sProp (MT nD τ sig Unit Val ℕ (UD sig nD τ) ℕ)

/-- Core `c`'s whole buffer `b` holds `f`. -/
abbrev holds (c : Dev nD) (b : Ref sig .tc) (f : Buf Val ((c.tc : Thread nD τ).loc b)) : Res nD τ sig Val :=
  ((c.tc : Thread nD τ).loc b) ↦{fullShare} f

/-- The nine counters are at zero. -/
abbrev sems0 (osem : Fin 9 → SemLoc sig) (c : Dev nD) : Res nD τ sig Val :=
  iprop(semVal ((c.tc : Thread nD τ), osem 0) 0 ∗ semVal ((c.tc : Thread nD τ), osem 1) 0 ∗ semVal ((c.tc : Thread nD τ), osem 2) 0
    ∗ semVal ((c.tc : Thread nD τ), osem 3) 0 ∗ semVal ((c.tc : Thread nD τ), osem 4) 0 ∗ semVal ((c.tc : Thread nD τ), osem 5) 0
    ∗ semVal ((c.tc : Thread nD τ), osem 6) 0 ∗ semVal ((c.tc : Thread nD τ), osem 7) 0 ∗ semVal ((c.tc : Thread nD τ), osem 8) 0)

/-- The nine counters, one by one. -/
theorem ownSems0_nine (osem : Fin 9 → SemLoc sig) (c : Dev nD) :
    (ownSems0 (Ix := Unit) (Name := ℕ) (U := UD sig nD τ) (Lvl := ℕ) (Val := Val) (τ := τ) osem c : Res nD τ sig Val) = sems0 osem c :=
  ownSems0_eq_of_list c osem [0, 1, 2, 3, 4, 5, 6, 7, 8] (by decide) (by decide)

variable (cfgs : Fin 1 → Cfg sig Λ₀) (kit : LaunchFacts (nD := nD) (τ := τ) cfgs 0) (osem : Fin 9 → SemLoc sig) (defs₀ : Defs nD τ sig Val Λ₀)
  (b0 b1 b2 a0 a1 : Ref sig .tc)

/-- The contents found, with the written buffer's replaced. -/
abbrev wrote (V : (c : Dev nD) → (b : Ref sig .tc) → Buf Val ((c.tc : Thread nD τ).loc b)) (g2 : (c : Dev nD) → Buf Val ((c.tc : Thread nD τ).loc b2))
    (c : Dev nD) (b : Ref sig .tc) : Buf Val ((c.tc : Thread nD τ).loc b) := Function.update (V c) b2 (g2 c) b

/-- The proof data of a region that stages nothing: before its point the buffers as found, after it the written buffer replaced. -/
def dats (V G : (c : Dev nD) → (b : Ref sig .tc) → Buf Val ((c.tc : Thread nD τ).loc b)) (hW : ∀ p, IsEmpty (Fin (cfgs p).W))
    (p : Fin 1) (c : Dev nD) : Dat τ Val Unit ℕ (UD sig nD τ) ℕ (cfgs p) c where
  A w := (hW p).elim w
  after w := (hW p).elim w
  Φ t := if t = 0 then ΦDRG osem (cfgs p).spec {b0, b1} {b2} V V c else ΦDRG osem (cfgs p).spec {b0, b1} {b2} V G c
  q _ := fullShare
  owed _ := 0

/-- The invariant with its buffers and counters listed. -/
theorem inv_eq (h01 : b0 ≠ b1) (V G : (c : Dev nD) → (b : Ref sig .tc) → Buf Val ((c.tc : Thread nD τ).loc b)) (c : Dev nD) :
    ΦDRG osem (cfgs 0).spec {b0, b1} {b2} V G c
      = iprop(scopedRest (Ix := Unit) (Name := ℕ) (U := UD sig nD τ) (Lvl := ℕ) (Val := Val) (cfgs 0).spec c ∗ (∃ r, prngReg c r)
          ∗ sems0 osem c ∗ (holds c b0 (V c b0) ∗ holds c b1 (V c b1)) ∗ holds c b2 (G c b2)) := by
  rw [ΦDRG_eq, ownSems0_nine]
  unfold routed
  rw [BI.bigSep_eq_bigSepL_of_eq [b0, b1] (by simp) (by simp [h01]), BI.bigSep_eq_bigSepL_of_eq [b2] (by simp) (by simp)]
  simp only [BI.bigSepL_cons_cons, BI.bigSepL_singleton]
  rfl

include kit in
/-- The run of a program whose region stages nothing, from its body. -/
theorem run_unstaged (hW : ∀ p, IsEmpty (Fin (cfgs p).W)) (hN : (cfgs 0).N = 1) (ho : OwnSemFacts (cfgs 0).spec osem)
    (h01 : b0 ≠ b1) (h0 : b0 ∈ restRefs sig (cfgs 0).spec) (h1 : b1 ∈ restRefs sig (cfgs 0).spec) (h2 : b2 ∈ restRefs sig (cfgs 0).spec)
    (h20 : b2 ≠ b0) (h21 : b2 ≠ b1)
    (m : (ℓ : Loc nD τ sig) → Buf Val ℓ) (g : Dev nD → PrngReg)
    (main : Dev nD → Prog (TpuEff nD τ sig Val (Pipeline.Sig Λ₀ (Fin 1) fun p => ((cfgs p).toPCfg (Val := Val)).Adm) .tc) PUnit)
    (V : (c : Dev nD) → (b : Ref sig .tc) → Buf Val ((c.tc : Thread nD τ).loc b))
    (hmain : HMain (Ix := Unit) (Name := ℕ) (U := UD sig nD τ) (Lvl := ℕ) cfgs 0 defs₀ Variants.none m main V)
    (ha0 : a0 ∈ restRefs sig (cfgs 0).spec) (ha1 : a1 ∈ restRefs sig (cfgs 0).spec) (hne0 : a0 ≠ b2) (hne1 : a1 ≠ b2)
    (hV0 : ∀ c, V c a0 = m ((c.tc : Thread nD τ).loc a0)) (hV1 : ∀ c, V c a1 = m ((c.tc : Thread nD τ).loc a1))
    (g2 : (c : Dev nD) → Buf Val ((c.tc : Thread nD τ).loc b2))
    (hbody : ∀ (c : Dev nD) (t : Fin (cfgs 0).N) (W : Waits sig Unit) (Q : Res nD τ sig Val),
      iprop(holds c b0 (V c b0) ∗ holds c b1 (V c b1) ∗ holds c b2 (V c b2) ∗ sems0 osem c ∗ owes (c : Thread nD τ) 0 W
          ∗ (iprop(holds c b0 (V c b0) ∗ holds c b1 (V c b1) ∗ holds c b2 (g2 c) ∗ sems0 osem c ∗ ∃ W, owes (c : Thread nD τ) 0 W) -∗ Q))
        ⊢ wp frame (wpE defs₀ Variants.none c none) Set.univ (defs₀ .tc (cfgs 0).body ((cfgs 0).bodyArgs t ((cfgs 0).slots t))) fun _ => Q) :
    θ_run (Pipeline.defs (fun q => Cfg.toPCfg (Val := Val) (cfgs q)) defs₀) (onTc main) (s₀ m g) (fun r =>
      (∀ c : Dev nD, r.2.mem ((c.tc : Thread nD τ).loc b2) = g2 c
        ∧ r.2.mem ((c.tc : Thread nD τ).loc a0) = m ((c.tc : Thread nD τ).loc a0)
        ∧ r.2.mem ((c.tc : Thread nD τ).loc a1) = m ((c.tc : Thread nD τ).loc a1))
      ∧ r.2.sem = fun _ => 0) := by
  refine θ_run_frame_dmaRG cfgs (dats cfgs osem b0 b1 b2 V (wrote b2 V g2) hW) 0 kit osem defs₀ Variants.none ho {b0, b1} {b2} ?_ ?_ m g main ?_
    (fun c w => (hW 0).elim w) (fun c t => rfl) V hmain (fun c w => (hW 0).elim w) (wrote b2 V g2) ?_ ?_ _ ?_
  · intro b hb
    rcases Finset.mem_insert.mp hb with rfl | hb
    · exact h0
    · exact (Finset.mem_singleton.mp hb) ▸ h1
  · intro b hb
    obtain rfl := Finset.mem_singleton.mp hb
    exact Finset.mem_sdiff.mpr ⟨h2, by simp [h20, h21]⟩
  · intro c
    refine BodyObligation.loose _ ?_
    intro t
    have e0 : (dats cfgs osem b0 b1 b2 V (wrote b2 V g2) hW 0 c).Φ t.castSucc = ΦDRG osem (cfgs 0).spec {b0, b1} {b2} V V c :=
      by dsimp only [dats]; rw [if_pos (by ext; have := t.isLt; simp; omega)]
    have e1 : (dats cfgs osem b0 b1 b2 V (wrote b2 V g2) hW 0 c).Φ t.succ = ΦDRG osem (cfgs 0).spec {b0, b1} {b2} V (wrote b2 V g2) c :=
      by dsimp only [dats]; rw [if_neg (Fin.succ_ne_zero t)]
    haveI := hW 0
    rw [e0, e1, inv_eq cfgs osem b0 b1 b2 h01, inv_eq cfgs osem b0 b1 b2 h01, Finset.univ_eq_empty, BI.bigSep_empty, BI.bigSep_empty]
    unfold Dat.owesAt Pipeline.owesWithin
    rw [show (dats cfgs osem b0 b1 b2 V (wrote b2 V g2) hW 0 c).owed t.castSucc = 0 from rfl,
      show (dats cfgs osem b0 b1 b2 V (wrote b2 V g2) hW 0 c).owed t.succ = 0 from rfl]
    iintro ⟨⟨Hs, Hp, Hd, ⟨H0, H1⟩, H2⟩, ⟨%W, %hW', HO⟩, He⟩
    iapply (hbody c t W)
    isplitl [H0]; · iexact H0
    isplitl [H1]; · iexact H1
    isplitl [H2]; · iexact H2
    isplitl [Hd]; · iexact Hd
    isplitl [HO]; · iexact HO
    iintro ⟨H0, H1, H2, Hd, ⟨%W', HO⟩⟩
    isplitl [Hs Hp Hd H0 H1 H2]
    · isplitl [Hs]; · iexact Hs
      isplitl [Hp]; · iexact Hp
      isplitl [Hd]; · iexact Hd
      isplitl [H0 H1]
      · isplitl [H0]; · iexact H0
        iexact H1
      rw [show wrote b2 V g2 c b2 = g2 c from Function.update_self ..]
      iexact H2
    isplitl [HO]
    · iexists W'; isplitr; · ipureintro; exact fun _ _ => Or.inl trivial
      iexact HO
    iexact He
  · intro c
    have e : (dats cfgs osem b0 b1 b2 V (wrote b2 V g2) hW 0 c).Φ 0 = ΦDRG osem (cfgs 0).spec {b0, b1} {b2} V V c := by
      dsimp only [dats]; rw [if_pos rfl]
    rw [e]
  · intro c
    have e : (dats cfgs osem b0 b1 b2 V (wrote b2 V g2) hW 0 c).Φ (Fin.last (cfgs 0).N) = ΦDRG osem (cfgs 0).spec {b0, b1} {b2} V (wrote b2 V g2) c :=
      by dsimp only [dats]; rw [if_neg (by intro h; have := congrArg Fin.val h; simp at this; omega)]
    rw [e]
  · rintro r ⟨h, hs⟩
    have hk : ∀ (c : Dev nD) (a : Ref sig .tc), a ∈ restRefs sig (cfgs 0).spec → a ≠ b2 → r.2.mem ((c.tc : Thread nD τ).loc a) = V c a :=
      fun c a ha hne => (h.toR c).2 a (Finset.mem_sdiff.mpr ⟨ha, by simpa using hne⟩)
    exact ⟨fun c => ⟨(h.written c (Finset.mem_singleton_self b2)).trans (Function.update_self ..),
      (hk c a0 ha0 hne0).trans (hV0 c), (hk c a1 ha1 hne1).trans (hV1 c)⟩, hs⟩

omit [∀ e, Nonempty (Val e)] in
/-- A run's post without its second part. -/
theorem first_of {Λ : Labels} {D : Defs nD τ sig Val Λ} {P : (c : Thread nD τ) → Prog (TpuEff nD τ sig Val Λ c.2) PUnit} {s : MemSt nD τ sig Val}
    {A B : PUnit × MemSt nD τ sig Val → Prop} (h : θ_run D P s (fun r => A r ∧ B r)) : θ_run D P s A :=
  (θ_run D P s).mono (fun _ h => h.1) h

end Cert.Shift

end
-- ==== Proof.ShiftView.lean ====
/-
  What the nine transfers leave: a cache one row further on.

  The kernel copies rows 1, 2, … of the cache to rows 0, 1, …, four sequences at a time, and the new row to the last
  place. The pieces fill the result and each carries what the appended cache holds there, so the result is the appended
  cache (`landed`). One statement for every cache: the window's length and the number of lane groups are its own.
-/
module

public import Idealize.ShloMosaic.Lib.Pipeline.FrameValue
public import Idealize.ShloMosaic.Lib.Writes
public import Idealize.ShloMosaic.Lib.Tactic
public import Idealize.ShloMosaic.Lib.Pointwise
public import Idealize.ShloMosaic.Lib.Pipeline.Value

@[expose] public section

noncomputable section

namespace Cert.Shift

open Idealize.ShloMosaic

variable {sig : RefSig} {Val : EltTy → Type} {W C : Nat}

/-- A cache of `W + 1` places. -/
abbrev SCache (W C : Nat) : Shape := ⟨4, ![32, W + 1, C, 128]⟩
/-- Four sequences' places but the last. -/
abbrev SPiece (W C : Nat) : Shape := ⟨4, ![4, W, C, 128]⟩
/-- One new place of every sequence. -/
abbrev SNew (C : Nat) : Shape := ⟨4, ![32, 1, C, 128]⟩

/-- The place after `y`'s. -/
def next (y : (SCache W C).Idx) (h : (y 1).val < W) : (SCache W C).Idx
  | 0 => y 0
  | 1 => ⟨(y 1).val + 1, Nat.succ_lt_succ h⟩
  | 2 => y 2
  | 3 => y 3

/-- `y`'s place in the new row. -/
def fresh (y : (SCache W C).Idx) : (SNew C).Idx
  | 0 => y 0
  | 1 => ⟨0, Nat.one_pos⟩
  | 2 => y 2
  | 3 => y 3

/-- The cache with its first place dropped and the new one put last. -/
def appended {α : Type} (cache : (SCache W C).Idx → α) (new : (SNew C).Idx → α) (y : (SCache W C).Idx) : α :=
  if h : (y 1).val < W then cache (next y h) else new (fresh y)

/-- A piece of four sequences from `o` on carries what the appended cache holds there. -/
theorem piece_carries {α : Type} (cache : (SCache W C).Idx → α) (new : (SNew C).Idx → α) (o : Nat)
    (hr : ∀ i, (![o, 1, 0, 0] : Fin 4 → Nat) i + (SPiece W C).size i ≤ (SCache W C).size i)
    (hw : ∀ i, (![o, 0, 0, 0] : Fin 4 → Nat) i + (SPiece W C).size i ≤ (SCache W C).size i) (x : (SPiece W C).Idx) :
    cache ((Rect.unit (s := SCache W C) ![o, 1, 0, 0] (SPiece W C).size hr).emb x)
      = appended cache new ((Rect.unit (s := SCache W C) ![o, 0, 0, 0] (SPiece W C).size hw).emb x) := by
  have h1 : (x 1).val < W := (x 1).isLt
  have hl : (((Rect.unit (s := SCache W C) ![o, 0, 0, 0] (SPiece W C).size hw).emb x) 1).val < W := by
    rw [Rect.emb_apply]; simpa [Rect.unit] using h1
  unfold appended
  rw [dif_pos hl]
  congr 1
  funext a
  apply Fin.ext
  match a with
  | 0 => rfl
  | 1 => show 1 + 1 * (x 1).val = (0 + 1 * (x 1).val) + 1; omega
  | 2 => rfl
  | 3 => rfl

/-- The new row carries what the appended cache holds in the last place. -/
theorem last_carries {α : Type} (cache : (SCache W C).Idx → α) (new : (SNew C).Idx → α)
    (hw : ∀ i, (![0, W, 0, 0] : Fin 4 → Nat) i + (SNew C).size i ≤ (SCache W C).size i) (x : (SNew C).Idx) :
    new x = appended cache new ((Rect.unit (s := SCache W C) ![0, W, 0, 0] (SNew C).size hw).emb x) := by
  have hl : ¬ (((Rect.unit (s := SCache W C) ![0, W, 0, 0] (SNew C).size hw).emb x) 1).val < W := by
    rw [Rect.emb_apply]; simp [Rect.unit]
  unfold appended
  rw [dif_neg hl]
  congr 1
  funext a
  apply Fin.ext
  have h1 : (x 1).val < 1 := (x 1).isLt
  match a with
  | 0 => show (x 0).val = 0 + 1 * (x 0).val; omega
  | 1 => show (x 1).val = 0; omega
  | 2 => show (x 2).val = 0 + 1 * (x 2).val; omega
  | 3 => show (x 3).val = 0 + 1 * (x 3).val; omega

/-- A place before the last lies in its four sequences' piece. -/
theorem mem_piece (o : Nat) (hw : ∀ i, (![o, 0, 0, 0] : Fin 4 → Nat) i + (SPiece W C).size i ≤ (SCache W C).size i)
    (y : (SCache W C).Idx) (h1 : (y 1).val < W) (ho : o ≤ (y 0).val) (ho' : (y 0).val < o + 4) :
    y ∈ (Rect.unit (s := SCache W C) ![o, 0, 0, 0] (SPiece W C).size hw).set := by
  rw [LoadRect.mem_set]
  intro a
  match a with
  | 0 => exact ⟨(y 0).val - o, by simp [Rect.unit]; omega, by simp [Rect.unit]; omega⟩
  | 1 => exact ⟨(y 1).val, by simpa [Rect.unit] using h1, by simp [Rect.unit]⟩
  | 2 => exact ⟨(y 2).val, by simpa [Rect.unit] using (y 2).isLt, by simp [Rect.unit]⟩
  | 3 => exact ⟨(y 3).val, by simpa [Rect.unit] using (y 3).isLt, by simp [Rect.unit]⟩

/-- A last place lies in the new row. -/
theorem mem_last (hw : ∀ i, (![0, W, 0, 0] : Fin 4 → Nat) i + (SNew C).size i ≤ (SCache W C).size i)
    (y : (SCache W C).Idx) (h1 : ¬ (y 1).val < W) :
    y ∈ (Rect.unit (s := SCache W C) ![0, W, 0, 0] (SNew C).size hw).set := by
  have h : (y 1).val < W + 1 := (y 1).isLt
  rw [LoadRect.mem_set]
  intro a
  match a with
  | 0 => exact ⟨(y 0).val, by simpa [Rect.unit] using (y 0).isLt, by simp [Rect.unit]⟩
  | 1 => exact ⟨0, by simp [Rect.unit], by simp [Rect.unit]; omega⟩
  | 2 => exact ⟨(y 2).val, by simpa [Rect.unit] using (y 2).isLt, by simp [Rect.unit]⟩
  | 3 => exact ⟨(y 3).val, by simpa [Rect.unit] using (y 3).isLt, by simp [Rect.unit]⟩

/-- A piece of four sequences, as the transfer of the cache from `o` on writes it. -/
abbrev pieceFrom {e : EltTy} (cache : (SCache W C).Idx → Val e) (o : Nat)
    (hr : ∀ i, (![o, 1, 0, 0] : Fin 4 → Nat) i + (SPiece W C).size i ≤ (SCache W C).size i)
    (hw : ∀ i, (![o, 0, 0, 0] : Fin 4 → Nat) i + (SPiece W C).size i ≤ (SCache W C).size i) : View.Piece Val (SCache W C) e :=
  ⟨Rect.unit ![o, 0, 0, 0] (SPiece W C).size hw, fun x => cache ((Rect.unit (s := SCache W C) ![o, 1, 0, 0] (SPiece W C).size hr).emb x)⟩

/-- The nine pieces, written over anything, leave the appended cache. -/
theorem landed {κ : Kind} {sp : Space} {e : EltTy} (v : View sig κ sp (SCache W C) e) (f : v.ty.Contents Val)
    (cache : (SCache W C).Idx → Val e) (new : (SNew C).Idx → Val e) (hl) (r0 r1 r2 r3 r4 r5 r6 r7 w0 w1 w2 w3 w4 w5 w6 w7) (y : (SCache W C).Idx) :
    v.read Val (v.writes Val f
      [⟨Rect.unit ![0, W, 0, 0] (SNew C).size hl, new⟩, pieceFrom cache 28 r7 w7, pieceFrom cache 24 r6 w6, pieceFrom cache 20 r5 w5,
        pieceFrom cache 16 r4 w4, pieceFrom cache 12 r3 w3, pieceFrom cache 8 r2 w2, pieceFrom cache 4 r1 w1, pieceFrom cache 0 r0 w0]) y
      = appended cache new y := by
  refine View.read_writes_apply_of_pieces _ _ (appended cache new) _ ?_ y ?_
  · intro p hp
    simp only [List.mem_cons, List.not_mem_nil, or_false] at hp
    rcases hp with rfl | rfl | rfl | rfl | rfl | rfl | rfl | rfl | rfl
    · exact fun x => last_carries cache new hl x
    exacts [piece_carries cache new 28 r7 w7, piece_carries cache new 24 r6 w6, piece_carries cache new 20 r5 w5, piece_carries cache new 16 r4 w4,
      piece_carries cache new 12 r3 w3, piece_carries cache new 8 r2 w2, piece_carries cache new 4 r1 w1, piece_carries cache new 0 r0 w0]
  · by_cases h1 : (y 1).val < W
    · have h0 : (y 0).val < 32 := (y 0).isLt
      rcases (by omega : (y 0).val / 4 = 0 ∨ (y 0).val / 4 = 1 ∨ (y 0).val / 4 = 2 ∨ (y 0).val / 4 = 3 ∨ (y 0).val / 4 = 4
          ∨ (y 0).val / 4 = 5 ∨ (y 0).val / 4 = 6 ∨ (y 0).val / 4 = 7) with h | h | h | h | h | h | h | h
      · exact ⟨pieceFrom cache 0 r0 w0, by simp, mem_piece 0 w0 y h1 (by omega) (by omega)⟩
      · exact ⟨pieceFrom cache 4 r1 w1, by simp, mem_piece 4 w1 y h1 (by omega) (by omega)⟩
      · exact ⟨pieceFrom cache 8 r2 w2, by simp, mem_piece 8 w2 y h1 (by omega) (by omega)⟩
      · exact ⟨pieceFrom cache 12 r3 w3, by simp, mem_piece 12 w3 y h1 (by omega) (by omega)⟩
      · exact ⟨pieceFrom cache 16 r4 w4, by simp, mem_piece 16 w4 y h1 (by omega) (by omega)⟩
      · exact ⟨pieceFrom cache 20 r5 w5, by simp, mem_piece 20 w5 y h1 (by omega) (by omega)⟩
      · exact ⟨pieceFrom cache 24 r6 w6, by simp, mem_piece 24 w6 y h1 (by omega) (by omega)⟩
      · exact ⟨pieceFrom cache 28 r7 w7, by simp, mem_piece 28 w7 y h1 (by omega) (by omega)⟩
    · exact ⟨_, List.mem_cons_self, mem_last hl y h1⟩

/-- The appended cache of arrays with the lane groups joined. -/
theorem appended_joined {α : Type} (a : (⟨3, ![32, W + 1, C * 128]⟩ : Shape).Idx → α) (b : (⟨2, ![32, C * 128]⟩ : Shape).Idx → α)
    (ha : (⟨3, ![32, W + 1, C * 128]⟩ : Shape).ShapeCasts (SCache W C)) (hb : (⟨2, ![32, C * 128]⟩ : Shape).ShapeCasts (SNew C))
    (r : Fin 32) (p : Fin (W + 1)) (q : Fin C) (l : Fin 128) (hk : q.val * 128 + l.val < C * 128) :
    appended (shapeCast (SCache W C) a ha) (shapeCast (SNew C) b hb) (ix4 r p q l)
      = if h : p.val < W then a (ix3 r ⟨1 + p.val, by omega⟩ ⟨q.val * 128 + l.val, hk⟩) else b (ix2 r ⟨q.val * 128 + l.val, hk⟩) := by
  unfold appended
  by_cases h : p.val < W
  · rw [dif_pos h, dif_pos (show ((ix4 r p q l : (SCache W C).Idx) 1).val < W from h)]
    refine shapeCast_apply a ha _ _ ?_
    rw [Shape.rowMajor_val_three, Shape.rowMajor_val_four]
    show (r.val * (W + 1) + (1 + p.val)) * (C * 128) + (q.val * 128 + l.val) = ((r.val * (W + 1) + (p.val + 1)) * C + q.val) * 128 + l.val
    ring
  · rw [dif_neg h, dif_neg (show ¬ ((ix4 r p q l : (SCache W C).Idx) 1).val < W from h)]
    refine shapeCast_apply b hb _ _ ?_
    rw [Shape.rowMajor_val_two, Shape.rowMajor_val_four]
    show r.val * (C * 128) + (q.val * 128 + l.val) = ((r.val * 1 + 0) * C + q.val) * 128 + l.val
    ring

end Cert.Shift

end
-- ==== Proof.ShiftAValue.lean ====
/-
  The append to the first group's cache of 128 places: the body stepped transfer by transfer, the run of the program, and the
  result against the reference's. What the transfers leave and how a body gives a run are `ShiftView` and `ShiftLaunch`.
-/
module

public import proofs.«01_k».proof.Defs
public import proofs.«01_k».proof.Proof.Gen.ShiftAIdeal.Frame
public import proofs.«01_k».proof.Proof.Gen.ShiftARefIdeal.Run
public import proofs.«01_k».proof.Proof.ShiftLaunch
public import proofs.«01_k».proof.Proof.ShiftView
public import Idealize.ShloMosaic.Lib.Claim
public import Idealize.ShloMosaic.Lib.Pointwise
public import Idealize.ShloMosaic.Lib.StableHlo.RunRead

@[expose] public section

set_option maxRecDepth 16384
set_option sl_exec.dmaWindow true

noncomputable section

namespace Cert.ShiftAIdeal.Shift

open Cert.ShiftAIdeal Cert.ShiftAIdeal.Gen Cert.Shift
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The contents of a whole buffer of core `c`. -/
abbrev Contents (F : FTy → Type) (c : Dev nD) (b : Ref sig .tc) : Type := Buf (Elt F) ((c.tc : Thread nD τ).loc b)

/-- The whole buffer read through its view. -/
abbrev at' (c : Dev nD) {sp : Space} {S : Shape} {e : EltTy} (M : Memref sig .tc sp S e) (f : Buf (Elt F) (M.view.loc (c.tc : Thread nD τ))) :
    Res nD τ sig (Elt F) := M.view.loc (c.tc : Thread nD τ) ↦{fullShare} f

/-- The counters of the body's nine transfers. -/
abbrev osem : Fin 9 → SemLoc sig
  | 0 => .dma 0 | 1 => .dma 1 | 2 => .dma 2 | 3 => .dma 3 | 4 => .dma 4 | 5 => .dma 5 | 6 => .dma 6 | 7 => .dma 7 | 8 => .dma 8

/-- What the body leaves in the result's buffer. -/
abbrev left (c : Dev nD) (f0 : Contents F c main_v0) (f1 : Contents F c main_v1) : Contents F c main_v2 :=
  appended (W := 127) (C := 16) f0 f1

/-- The body: the result's buffer ends as the cache one place further on. -/
theorem body_run (c : Dev nD) (f0 : Contents F c main_v0) (f1 : Contents F c main_v1) (f2 : Contents F c main_v2)
    (W : Waits sig Unit) (Q : Res nD τ sig (Elt F)) :
    iprop(at' c (Memref.whole main_v0) f0 ∗ at' c (Memref.whole main_v1) f1 ∗ at' c (Memref.whole main_v2) f2
      ∗ sems0 osem c ∗ owes (c : Thread nD τ) 0 W
      ∗ (iprop(at' c (Memref.whole main_v0) f0 ∗ at' c (Memref.whole main_v1) f1 ∗ at' c (Memref.whole main_v2) (left c f0 f1)
            ∗ sems0 osem c ∗ ∃ W, owes (c : Thread nD τ) 0 W) -∗ Q))
    ⊢ wp frame (wpE (defs₀ (F := F)) Variants.none c none) Set.univ (bodyAt0 t0_0) fun _ => Q := by
  unfold bodyAt0
  iintro ⟨H0, H1, H2, ⟨Hd0, Hd1, Hd2, Hd3, Hd4, Hd5, Hd6, Hd7, Hd8⟩, HO, Hk⟩
  sl_exec!
  sl_step
  iapply Hk
  isplitl [H0]; · iexact H0
  isplitl [H1]; · iexact H1
  isplitl [H2]
  · have e8 : body_run.sl.dma0_8 c f1 = f1 := rfl
    have e0 : body_run.sl.dma0 c f0 = (pieceFrom (W := 127) (C := 16) f0 0 (by decide) (by decide)).2 := rfl
    have e1 : body_run.sl.dma0_1 c f0 = (pieceFrom (W := 127) (C := 16) f0 4 (by decide) (by decide)).2 := rfl
    have e2 : body_run.sl.dma0_2 c f0 = (pieceFrom (W := 127) (C := 16) f0 8 (by decide) (by decide)).2 := rfl
    have e3 : body_run.sl.dma0_3 c f0 = (pieceFrom (W := 127) (C := 16) f0 12 (by decide) (by decide)).2 := rfl
    have e4 : body_run.sl.dma0_4 c f0 = (pieceFrom (W := 127) (C := 16) f0 16 (by decide) (by decide)).2 := rfl
    have e5 : body_run.sl.dma0_5 c f0 = (pieceFrom (W := 127) (C := 16) f0 20 (by decide) (by decide)).2 := rfl
    have e6 : body_run.sl.dma0_6 c f0 = (pieceFrom (W := 127) (C := 16) f0 24 (by decide) (by decide)).2 := rfl
    have e7 : body_run.sl.dma0_7 c f0 = (pieceFrom (W := 127) (C := 16) f0 28 (by decide) (by decide)).2 := rfl
    rw [e8, e7, e6, e5, e4, e3, e2, e1, e0]
    have hr : ∀ g : Contents F c main_v2, g = (Memref.whole main_v2).view.read (Elt F) g := fun _ => rfl
    iapply (Entails.of_eq (congrArg (at' c (Memref.whole main_v2)) ((hr _).trans (funext fun y => landed (W := 127) (C := 16)
      (Memref.whole main_v2).view (Memref.whole main_v2).view.junk f0 f1 (by decide) (by decide) (by decide) (by decide) (by decide) (by decide)
      (by decide) (by decide) (by decide) (by decide) (by decide) (by decide) (by decide) (by decide) (by decide) (by decide) (by decide) y))))
    iexact H2
  isplitl [Hd0 Hd1 Hd2 Hd3 Hd4 Hd5 Hd6 Hd7 Hd8]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    iexact Hd8
  iexists _; iexact HO

variable (m : (ℓ : Loc nD τ sig) → Buf (Elt F) ℓ) (ρ : Dev nD → PrngReg)

set_option backward.isDefEq.respectTransparency.types false in
/-- The run: the result's buffer the cache one place further on, the arguments as launched, every counter at zero. -/
theorem run : θ_run defs (onTc (τ := τ) (main (F := F))) (s₀ m ρ) (fun r => (∀ c : Dev nD,
    r.2.mem ((c.tc : Thread nD τ).loc main_v2) = left c (Gen.V m c main_v0) (Gen.V m c main_v1)
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  have hr : ∀ b : Ref sig .tc, b.isScoped = false → b ∈ Pipeline.restRefs sig cfg0.spec := fun b hb => Pipeline.mem_restRefs_of b hb (fun w => w.elim0)
  run_unstaged cfgs launch0 osem defs₀ main_v0 main_v1 main_v2 main_arg0 main_arg1 (fun _ => inferInstanceAs (IsEmpty (Fin 0))) N_0 (by decide)
    (by decide) (hr _ (by decide)) (hr _ (by decide)) (hr _ (by decide)) (by decide) (by decide) m ρ main (Gen.V m)
    (Pipeline.hmain_prefix cfgs 0 defs₀ Variants.none m main hostOps0 hostOps0_sub hostOps0_fresh main_chain)
    (hr _ (by decide)) (hr _ (by decide)) (by decide) (by decide) (Gen.V_main_arg0 m) (Gen.V_main_arg1 m)
    (fun c => left c (Gen.V m c main_v0) (Gen.V m c main_v1))
    (fun c t W Q => by
      obtain rfl := fin_N0 t
      exact body_run c (Gen.V m c main_v0) (Gen.V m c main_v1) (Gen.V m c main_v2) W Q)

/-- The cache as the body reads it: its lanes in groups. -/
theorem v0_eq (c : Dev nD) : Gen.V m c main_v0 = shapeCast _ (m ((c.tc : Thread nD τ).loc main_arg0)) shapeCasts_S32x128x2048_S32x128x16x128 := by
  after_reads_simp
  rfl

/-- The new row likewise. -/
theorem v1_eq (c : Dev nD) : Gen.V m c main_v1 = shapeCast _ (m ((c.tc : Thread nD τ).loc main_arg1)) shapeCasts_S32x2048_S32x1x16x128 := by
  after_reads_simp
  rfl

/-- The kernel and the reference end with the same array. -/
theorem agrees : algebraic_ShiftAIdeal_ShiftARefIdeal (hShiftAIdeal := Cert.ShiftAIdeal.Gen.facts) (hShiftARefIdeal := Cert.ShiftARefIdeal.Gen.facts) := by
  pair_intro
  · have h := first_of (run m g)
    exact h
  · run_from (ShiftARefIdeal.Value.run m' g')
    funext j
    obtain ⟨r, p, q, l, rfl⟩ : ∃ r p q l, j = ix4 r p q l := ⟨j 0, j 1, j 2, j 3, eq_ix4 j⟩
    rw [v0_eq, v1_eq]
    pointwise
    exact (appended_joined (W := 127) (C := 16) (m ((c.tc : Thread nD τ).loc main_arg0)) (m ((c.tc : Thread nD τ).loc main_arg1))
      shapeCasts_S32x128x2048_S32x128x16x128 shapeCasts_S32x2048_S32x1x16x128 r p q l (by omega)).symm

end Cert.ShiftAIdeal.Shift

end
-- ==== Proof.ShiftBValue.lean ====
/-
  The append to the second group's cache of 512 places: the body stepped transfer by transfer, the run of the program, and the
  result against the reference's. What the transfers leave and how a body gives a run are `ShiftView` and `ShiftLaunch`.
-/
module

public import proofs.«01_k».proof.Defs
public import proofs.«01_k».proof.Proof.Gen.ShiftBIdeal.Frame
public import proofs.«01_k».proof.Proof.Gen.ShiftBRefIdeal.Run
public import proofs.«01_k».proof.Proof.ShiftLaunch
public import proofs.«01_k».proof.Proof.ShiftView
public import Idealize.ShloMosaic.Lib.Claim
public import Idealize.ShloMosaic.Lib.Pointwise
public import Idealize.ShloMosaic.Lib.StableHlo.RunRead

@[expose] public section

set_option maxRecDepth 16384
set_option sl_exec.dmaWindow true

noncomputable section

namespace Cert.ShiftBIdeal.Shift

open Cert.ShiftBIdeal Cert.ShiftBIdeal.Gen Cert.Shift
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The contents of a whole buffer of core `c`. -/
abbrev Contents (F : FTy → Type) (c : Dev nD) (b : Ref sig .tc) : Type := Buf (Elt F) ((c.tc : Thread nD τ).loc b)

/-- The whole buffer read through its view. -/
abbrev at' (c : Dev nD) {sp : Space} {S : Shape} {e : EltTy} (M : Memref sig .tc sp S e) (f : Buf (Elt F) (M.view.loc (c.tc : Thread nD τ))) :
    Res nD τ sig (Elt F) := M.view.loc (c.tc : Thread nD τ) ↦{fullShare} f

/-- The counters of the body's nine transfers. -/
abbrev osem : Fin 9 → SemLoc sig
  | 0 => .dma 0 | 1 => .dma 1 | 2 => .dma 2 | 3 => .dma 3 | 4 => .dma 4 | 5 => .dma 5 | 6 => .dma 6 | 7 => .dma 7 | 8 => .dma 8

/-- What the body leaves in the result's buffer. -/
abbrev left (c : Dev nD) (f0 : Contents F c main_v0) (f1 : Contents F c main_v1) : Contents F c main_v2 :=
  appended (W := 511) (C := 16) f0 f1

/-- The body: the result's buffer ends as the cache one place further on. -/
theorem body_run (c : Dev nD) (f0 : Contents F c main_v0) (f1 : Contents F c main_v1) (f2 : Contents F c main_v2)
    (W : Waits sig Unit) (Q : Res nD τ sig (Elt F)) :
    iprop(at' c (Memref.whole main_v0) f0 ∗ at' c (Memref.whole main_v1) f1 ∗ at' c (Memref.whole main_v2) f2
      ∗ sems0 osem c ∗ owes (c : Thread nD τ) 0 W
      ∗ (iprop(at' c (Memref.whole main_v0) f0 ∗ at' c (Memref.whole main_v1) f1 ∗ at' c (Memref.whole main_v2) (left c f0 f1)
            ∗ sems0 osem c ∗ ∃ W, owes (c : Thread nD τ) 0 W) -∗ Q))
    ⊢ wp frame (wpE (defs₀ (F := F)) Variants.none c none) Set.univ (bodyAt0 t0_0) fun _ => Q := by
  unfold bodyAt0
  iintro ⟨H0, H1, H2, ⟨Hd0, Hd1, Hd2, Hd3, Hd4, Hd5, Hd6, Hd7, Hd8⟩, HO, Hk⟩
  sl_exec!
  sl_step
  iapply Hk
  isplitl [H0]; · iexact H0
  isplitl [H1]; · iexact H1
  isplitl [H2]
  · have e8 : body_run.sl.dma0_8 c f1 = f1 := rfl
    have e0 : body_run.sl.dma0 c f0 = (pieceFrom (W := 511) (C := 16) f0 0 (by decide) (by decide)).2 := rfl
    have e1 : body_run.sl.dma0_1 c f0 = (pieceFrom (W := 511) (C := 16) f0 4 (by decide) (by decide)).2 := rfl
    have e2 : body_run.sl.dma0_2 c f0 = (pieceFrom (W := 511) (C := 16) f0 8 (by decide) (by decide)).2 := rfl
    have e3 : body_run.sl.dma0_3 c f0 = (pieceFrom (W := 511) (C := 16) f0 12 (by decide) (by decide)).2 := rfl
    have e4 : body_run.sl.dma0_4 c f0 = (pieceFrom (W := 511) (C := 16) f0 16 (by decide) (by decide)).2 := rfl
    have e5 : body_run.sl.dma0_5 c f0 = (pieceFrom (W := 511) (C := 16) f0 20 (by decide) (by decide)).2 := rfl
    have e6 : body_run.sl.dma0_6 c f0 = (pieceFrom (W := 511) (C := 16) f0 24 (by decide) (by decide)).2 := rfl
    have e7 : body_run.sl.dma0_7 c f0 = (pieceFrom (W := 511) (C := 16) f0 28 (by decide) (by decide)).2 := rfl
    rw [e8, e7, e6, e5, e4, e3, e2, e1, e0]
    have hr : ∀ g : Contents F c main_v2, g = (Memref.whole main_v2).view.read (Elt F) g := fun _ => rfl
    iapply (Entails.of_eq (congrArg (at' c (Memref.whole main_v2)) ((hr _).trans (funext fun y => landed (W := 511) (C := 16)
      (Memref.whole main_v2).view (Memref.whole main_v2).view.junk f0 f1 (by decide) (by decide) (by decide) (by decide) (by decide) (by decide)
      (by decide) (by decide) (by decide) (by decide) (by decide) (by decide) (by decide) (by decide) (by decide) (by decide) (by decide) y))))
    iexact H2
  isplitl [Hd0 Hd1 Hd2 Hd3 Hd4 Hd5 Hd6 Hd7 Hd8]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    iexact Hd8
  iexists _; iexact HO

variable (m : (ℓ : Loc nD τ sig) → Buf (Elt F) ℓ) (ρ : Dev nD → PrngReg)

set_option backward.isDefEq.respectTransparency.types false in
/-- The run: the result's buffer the cache one place further on, the arguments as launched, every counter at zero. -/
theorem run : θ_run defs (onTc (τ := τ) (main (F := F))) (s₀ m ρ) (fun r => (∀ c : Dev nD,
    r.2.mem ((c.tc : Thread nD τ).loc main_v2) = left c (Gen.V m c main_v0) (Gen.V m c main_v1)
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  have hr : ∀ b : Ref sig .tc, b.isScoped = false → b ∈ Pipeline.restRefs sig cfg0.spec := fun b hb => Pipeline.mem_restRefs_of b hb (fun w => w.elim0)
  run_unstaged cfgs launch0 osem defs₀ main_v0 main_v1 main_v2 main_arg0 main_arg1 (fun _ => inferInstanceAs (IsEmpty (Fin 0))) N_0 (by decide)
    (by decide) (hr _ (by decide)) (hr _ (by decide)) (hr _ (by decide)) (by decide) (by decide) m ρ main (Gen.V m)
    (Pipeline.hmain_prefix cfgs 0 defs₀ Variants.none m main hostOps0 hostOps0_sub hostOps0_fresh main_chain)
    (hr _ (by decide)) (hr _ (by decide)) (by decide) (by decide) (Gen.V_main_arg0 m) (Gen.V_main_arg1 m)
    (fun c => left c (Gen.V m c main_v0) (Gen.V m c main_v1))
    (fun c t W Q => by
      obtain rfl := fin_N0 t
      exact body_run c (Gen.V m c main_v0) (Gen.V m c main_v1) (Gen.V m c main_v2) W Q)

/-- The cache as the body reads it: its lanes in groups. -/
theorem v0_eq (c : Dev nD) : Gen.V m c main_v0 = shapeCast _ (m ((c.tc : Thread nD τ).loc main_arg0)) shapeCasts_S32x512x2048_S32x512x16x128 := by
  after_reads_simp
  rfl

/-- The new row likewise. -/
theorem v1_eq (c : Dev nD) : Gen.V m c main_v1 = shapeCast _ (m ((c.tc : Thread nD τ).loc main_arg1)) shapeCasts_S32x2048_S32x1x16x128 := by
  after_reads_simp
  rfl

/-- The kernel and the reference end with the same array. -/
theorem agrees : algebraic_ShiftBIdeal_ShiftBRefIdeal (hShiftBIdeal := Cert.ShiftBIdeal.Gen.facts) (hShiftBRefIdeal := Cert.ShiftBRefIdeal.Gen.facts) := by
  pair_intro
  · have h := first_of (run m g)
    exact h
  · run_from (ShiftBRefIdeal.Value.run m' g')
    funext j
    obtain ⟨r, p, q, l, rfl⟩ : ∃ r p q l, j = ix4 r p q l := ⟨j 0, j 1, j 2, j 3, eq_ix4 j⟩
    rw [v0_eq, v1_eq]
    pointwise
    exact (appended_joined (W := 511) (C := 16) (m ((c.tc : Thread nD τ).loc main_arg0)) (m ((c.tc : Thread nD τ).loc main_arg1))
      shapeCasts_S32x512x2048_S32x512x16x128 shapeCasts_S32x2048_S32x1x16x128 r p q l (by omega)).symm

end Cert.ShiftBIdeal.Shift

end
-- ==== Proof.ShiftCValue.lean ====
/-
  The append to the third group's cache of 2048 places: the body stepped transfer by transfer, the run of the program, and the
  result against the reference's. What the transfers leave and how a body gives a run are `ShiftView` and `ShiftLaunch`.
-/
module

public import proofs.«01_k».proof.Defs
public import proofs.«01_k».proof.Proof.Gen.ShiftCIdeal.Frame
public import proofs.«01_k».proof.Proof.Gen.ShiftCRefIdeal.Run
public import proofs.«01_k».proof.Proof.ShiftLaunch
public import proofs.«01_k».proof.Proof.ShiftView
public import Idealize.ShloMosaic.Lib.Claim
public import Idealize.ShloMosaic.Lib.Pointwise
public import Idealize.ShloMosaic.Lib.StableHlo.RunRead

@[expose] public section

set_option maxRecDepth 16384
set_option sl_exec.dmaWindow true

noncomputable section

namespace Cert.ShiftCIdeal.Shift

open Cert.ShiftCIdeal Cert.ShiftCIdeal.Gen Cert.Shift
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The contents of a whole buffer of core `c`. -/
abbrev Contents (F : FTy → Type) (c : Dev nD) (b : Ref sig .tc) : Type := Buf (Elt F) ((c.tc : Thread nD τ).loc b)

/-- The whole buffer read through its view. -/
abbrev at' (c : Dev nD) {sp : Space} {S : Shape} {e : EltTy} (M : Memref sig .tc sp S e) (f : Buf (Elt F) (M.view.loc (c.tc : Thread nD τ))) :
    Res nD τ sig (Elt F) := M.view.loc (c.tc : Thread nD τ) ↦{fullShare} f

/-- The counters of the body's nine transfers. -/
abbrev osem : Fin 9 → SemLoc sig
  | 0 => .dma 0 | 1 => .dma 1 | 2 => .dma 2 | 3 => .dma 3 | 4 => .dma 4 | 5 => .dma 5 | 6 => .dma 6 | 7 => .dma 7 | 8 => .dma 8

/-- What the body leaves in the result's buffer. -/
abbrev left (c : Dev nD) (f0 : Contents F c main_v0) (f1 : Contents F c main_v1) : Contents F c main_v2 :=
  appended (W := 2047) (C := 16) f0 f1

/-- The body: the result's buffer ends as the cache one place further on. -/
theorem body_run (c : Dev nD) (f0 : Contents F c main_v0) (f1 : Contents F c main_v1) (f2 : Contents F c main_v2)
    (W : Waits sig Unit) (Q : Res nD τ sig (Elt F)) :
    iprop(at' c (Memref.whole main_v0) f0 ∗ at' c (Memref.whole main_v1) f1 ∗ at' c (Memref.whole main_v2) f2
      ∗ sems0 osem c ∗ owes (c : Thread nD τ) 0 W
      ∗ (iprop(at' c (Memref.whole main_v0) f0 ∗ at' c (Memref.whole main_v1) f1 ∗ at' c (Memref.whole main_v2) (left c f0 f1)
            ∗ sems0 osem c ∗ ∃ W, owes (c : Thread nD τ) 0 W) -∗ Q))
    ⊢ wp frame (wpE (defs₀ (F := F)) Variants.none c none) Set.univ (bodyAt0 t0_0) fun _ => Q := by
  unfold bodyAt0
  iintro ⟨H0, H1, H2, ⟨Hd0, Hd1, Hd2, Hd3, Hd4, Hd5, Hd6, Hd7, Hd8⟩, HO, Hk⟩
  sl_exec!
  sl_step
  iapply Hk
  isplitl [H0]; · iexact H0
  isplitl [H1]; · iexact H1
  isplitl [H2]
  · have e8 : body_run.sl.dma0_8 c f1 = f1 := rfl
    have e0 : body_run.sl.dma0 c f0 = (pieceFrom (W := 2047) (C := 16) f0 0 (by decide) (by decide)).2 := rfl
    have e1 : body_run.sl.dma0_1 c f0 = (pieceFrom (W := 2047) (C := 16) f0 4 (by decide) (by decide)).2 := rfl
    have e2 : body_run.sl.dma0_2 c f0 = (pieceFrom (W := 2047) (C := 16) f0 8 (by decide) (by decide)).2 := rfl
    have e3 : body_run.sl.dma0_3 c f0 = (pieceFrom (W := 2047) (C := 16) f0 12 (by decide) (by decide)).2 := rfl
    have e4 : body_run.sl.dma0_4 c f0 = (pieceFrom (W := 2047) (C := 16) f0 16 (by decide) (by decide)).2 := rfl
    have e5 : body_run.sl.dma0_5 c f0 = (pieceFrom (W := 2047) (C := 16) f0 20 (by decide) (by decide)).2 := rfl
    have e6 : body_run.sl.dma0_6 c f0 = (pieceFrom (W := 2047) (C := 16) f0 24 (by decide) (by decide)).2 := rfl
    have e7 : body_run.sl.dma0_7 c f0 = (pieceFrom (W := 2047) (C := 16) f0 28 (by decide) (by decide)).2 := rfl
    rw [e8, e7, e6, e5, e4, e3, e2, e1, e0]
    have hr : ∀ g : Contents F c main_v2, g = (Memref.whole main_v2).view.read (Elt F) g := fun _ => rfl
    iapply (Entails.of_eq (congrArg (at' c (Memref.whole main_v2)) ((hr _).trans (funext fun y => landed (W := 2047) (C := 16)
      (Memref.whole main_v2).view (Memref.whole main_v2).view.junk f0 f1 (by decide) (by decide) (by decide) (by decide) (by decide) (by decide)
      (by decide) (by decide) (by decide) (by decide) (by decide) (by decide) (by decide) (by decide) (by decide) (by decide) (by decide) y))))
    iexact H2
  isplitl [Hd0 Hd1 Hd2 Hd3 Hd4 Hd5 Hd6 Hd7 Hd8]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    iexact Hd8
  iexists _; iexact HO

variable (m : (ℓ : Loc nD τ sig) → Buf (Elt F) ℓ) (ρ : Dev nD → PrngReg)

set_option backward.isDefEq.respectTransparency.types false in
/-- The run: the result's buffer the cache one place further on, the arguments as launched, every counter at zero. -/
theorem run : θ_run defs (onTc (τ := τ) (main (F := F))) (s₀ m ρ) (fun r => (∀ c : Dev nD,
    r.2.mem ((c.tc : Thread nD τ).loc main_v2) = left c (Gen.V m c main_v0) (Gen.V m c main_v1)
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  have hr : ∀ b : Ref sig .tc, b.isScoped = false → b ∈ Pipeline.restRefs sig cfg0.spec := fun b hb => Pipeline.mem_restRefs_of b hb (fun w => w.elim0)
  run_unstaged cfgs launch0 osem defs₀ main_v0 main_v1 main_v2 main_arg0 main_arg1 (fun _ => inferInstanceAs (IsEmpty (Fin 0))) N_0 (by decide)
    (by decide) (hr _ (by decide)) (hr _ (by decide)) (hr _ (by decide)) (by decide) (by decide) m ρ main (Gen.V m)
    (Pipeline.hmain_prefix cfgs 0 defs₀ Variants.none m main hostOps0 hostOps0_sub hostOps0_fresh main_chain)
    (hr _ (by decide)) (hr _ (by decide)) (by decide) (by decide) (Gen.V_main_arg0 m) (Gen.V_main_arg1 m)
    (fun c => left c (Gen.V m c main_v0) (Gen.V m c main_v1))
    (fun c t W Q => by
      obtain rfl := fin_N0 t
      exact body_run c (Gen.V m c main_v0) (Gen.V m c main_v1) (Gen.V m c main_v2) W Q)

/-- The cache as the body reads it: its lanes in groups. -/
theorem v0_eq (c : Dev nD) : Gen.V m c main_v0 = shapeCast _ (m ((c.tc : Thread nD τ).loc main_arg0)) shapeCasts_S32x2048x2048_S32x2048x16x128 := by
  after_reads_simp
  rfl

/-- The new row likewise. -/
theorem v1_eq (c : Dev nD) : Gen.V m c main_v1 = shapeCast _ (m ((c.tc : Thread nD τ).loc main_arg1)) shapeCasts_S32x2048_S32x1x16x128 := by
  after_reads_simp
  rfl

/-- The kernel and the reference end with the same array. -/
theorem agrees : algebraic_ShiftCIdeal_ShiftCRefIdeal (hShiftCIdeal := Cert.ShiftCIdeal.Gen.facts) (hShiftCRefIdeal := Cert.ShiftCRefIdeal.Gen.facts) := by
  pair_intro
  · have h := first_of (run m g)
    exact h
  · run_from (ShiftCRefIdeal.Value.run m' g')
    funext j
    obtain ⟨r, p, q, l, rfl⟩ : ∃ r p q l, j = ix4 r p q l := ⟨j 0, j 1, j 2, j 3, eq_ix4 j⟩
    rw [v0_eq, v1_eq]
    pointwise
    exact (appended_joined (W := 2047) (C := 16) (m ((c.tc : Thread nD τ).loc main_arg0)) (m ((c.tc : Thread nD τ).loc main_arg1))
      shapeCasts_S32x2048x2048_S32x2048x16x128 shapeCasts_S32x2048_S32x1x16x128 r p q l (by omega)).symm

end Cert.ShiftCIdeal.Shift

end
-- ==== Proof.ShiftDValue.lean ====
/-
  The append to the shared window's cache of 512 places, 512 columns wide: the body stepped transfer by transfer, the run of the program, and the
  result against the reference's. What the transfers leave and how a body gives a run are `ShiftView` and `ShiftLaunch`.
-/
module

public import proofs.«01_k».proof.Defs
public import proofs.«01_k».proof.Proof.Gen.ShiftDIdeal.Frame
public import proofs.«01_k».proof.Proof.Gen.ShiftDRefIdeal.Run
public import proofs.«01_k».proof.Proof.ShiftLaunch
public import proofs.«01_k».proof.Proof.ShiftView
public import Idealize.ShloMosaic.Lib.Claim
public import Idealize.ShloMosaic.Lib.Pointwise
public import Idealize.ShloMosaic.Lib.StableHlo.RunRead

@[expose] public section

set_option maxRecDepth 16384
set_option sl_exec.dmaWindow true

noncomputable section

namespace Cert.ShiftDIdeal.Shift

open Cert.ShiftDIdeal Cert.ShiftDIdeal.Gen Cert.Shift
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The contents of a whole buffer of core `c`. -/
abbrev Contents (F : FTy → Type) (c : Dev nD) (b : Ref sig .tc) : Type := Buf (Elt F) ((c.tc : Thread nD τ).loc b)

/-- The whole buffer read through its view. -/
abbrev at' (c : Dev nD) {sp : Space} {S : Shape} {e : EltTy} (M : Memref sig .tc sp S e) (f : Buf (Elt F) (M.view.loc (c.tc : Thread nD τ))) :
    Res nD τ sig (Elt F) := M.view.loc (c.tc : Thread nD τ) ↦{fullShare} f

/-- The counters of the body's nine transfers. -/
abbrev osem : Fin 9 → SemLoc sig
  | 0 => .dma 0 | 1 => .dma 1 | 2 => .dma 2 | 3 => .dma 3 | 4 => .dma 4 | 5 => .dma 5 | 6 => .dma 6 | 7 => .dma 7 | 8 => .dma 8

/-- What the body leaves in the result's buffer. -/
abbrev left (c : Dev nD) (f0 : Contents F c main_v0) (f1 : Contents F c main_v1) : Contents F c main_v2 :=
  appended (W := 511) (C := 4) f0 f1

/-- The body: the result's buffer ends as the cache one place further on. -/
theorem body_run (c : Dev nD) (f0 : Contents F c main_v0) (f1 : Contents F c main_v1) (f2 : Contents F c main_v2)
    (W : Waits sig Unit) (Q : Res nD τ sig (Elt F)) :
    iprop(at' c (Memref.whole main_v0) f0 ∗ at' c (Memref.whole main_v1) f1 ∗ at' c (Memref.whole main_v2) f2
      ∗ sems0 osem c ∗ owes (c : Thread nD τ) 0 W
      ∗ (iprop(at' c (Memref.whole main_v0) f0 ∗ at' c (Memref.whole main_v1) f1 ∗ at' c (Memref.whole main_v2) (left c f0 f1)
            ∗ sems0 osem c ∗ ∃ W, owes (c : Thread nD τ) 0 W) -∗ Q))
    ⊢ wp frame (wpE (defs₀ (F := F)) Variants.none c none) Set.univ (bodyAt0 t0_0) fun _ => Q := by
  unfold bodyAt0
  iintro ⟨H0, H1, H2, ⟨Hd0, Hd1, Hd2, Hd3, Hd4, Hd5, Hd6, Hd7, Hd8⟩, HO, Hk⟩
  sl_exec!
  sl_step
  iapply Hk
  isplitl [H0]; · iexact H0
  isplitl [H1]; · iexact H1
  isplitl [H2]
  · have e8 : body_run.sl.dma0_8 c f1 = f1 := rfl
    have e0 : body_run.sl.dma0 c f0 = (pieceFrom (W := 511) (C := 4) f0 0 (by decide) (by decide)).2 := rfl
    have e1 : body_run.sl.dma0_1 c f0 = (pieceFrom (W := 511) (C := 4) f0 4 (by decide) (by decide)).2 := rfl
    have e2 : body_run.sl.dma0_2 c f0 = (pieceFrom (W := 511) (C := 4) f0 8 (by decide) (by decide)).2 := rfl
    have e3 : body_run.sl.dma0_3 c f0 = (pieceFrom (W := 511) (C := 4) f0 12 (by decide) (by decide)).2 := rfl
    have e4 : body_run.sl.dma0_4 c f0 = (pieceFrom (W := 511) (C := 4) f0 16 (by decide) (by decide)).2 := rfl
    have e5 : body_run.sl.dma0_5 c f0 = (pieceFrom (W := 511) (C := 4) f0 20 (by decide) (by decide)).2 := rfl
    have e6 : body_run.sl.dma0_6 c f0 = (pieceFrom (W := 511) (C := 4) f0 24 (by decide) (by decide)).2 := rfl
    have e7 : body_run.sl.dma0_7 c f0 = (pieceFrom (W := 511) (C := 4) f0 28 (by decide) (by decide)).2 := rfl
    rw [e8, e7, e6, e5, e4, e3, e2, e1, e0]
    have hr : ∀ g : Contents F c main_v2, g = (Memref.whole main_v2).view.read (Elt F) g := fun _ => rfl
    iapply (Entails.of_eq (congrArg (at' c (Memref.whole main_v2)) ((hr _).trans (funext fun y => landed (W := 511) (C := 4)
      (Memref.whole main_v2).view (Memref.whole main_v2).view.junk f0 f1 (by decide) (by decide) (by decide) (by decide) (by decide) (by decide)
      (by decide) (by decide) (by decide) (by decide) (by decide) (by decide) (by decide) (by decide) (by decide) (by decide) (by decide) y))))
    iexact H2
  isplitl [Hd0 Hd1 Hd2 Hd3 Hd4 Hd5 Hd6 Hd7 Hd8]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    iexact Hd8
  iexists _; iexact HO

variable (m : (ℓ : Loc nD τ sig) → Buf (Elt F) ℓ) (ρ : Dev nD → PrngReg)

set_option backward.isDefEq.respectTransparency.types false in
/-- The run: the result's buffer the cache one place further on, the arguments as launched, every counter at zero. -/
theorem run : θ_run defs (onTc (τ := τ) (main (F := F))) (s₀ m ρ) (fun r => (∀ c : Dev nD,
    r.2.mem ((c.tc : Thread nD τ).loc main_v2) = left c (Gen.V m c main_v0) (Gen.V m c main_v1)
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  have hr : ∀ b : Ref sig .tc, b.isScoped = false → b ∈ Pipeline.restRefs sig cfg0.spec := fun b hb => Pipeline.mem_restRefs_of b hb (fun w => w.elim0)
  run_unstaged cfgs launch0 osem defs₀ main_v0 main_v1 main_v2 main_arg0 main_arg1 (fun _ => inferInstanceAs (IsEmpty (Fin 0))) N_0 (by decide)
    (by decide) (hr _ (by decide)) (hr _ (by decide)) (hr _ (by decide)) (by decide) (by decide) m ρ main (Gen.V m)
    (Pipeline.hmain_prefix cfgs 0 defs₀ Variants.none m main hostOps0 hostOps0_sub hostOps0_fresh main_chain)
    (hr _ (by decide)) (hr _ (by decide)) (by decide) (by decide) (Gen.V_main_arg0 m) (Gen.V_main_arg1 m)
    (fun c => left c (Gen.V m c main_v0) (Gen.V m c main_v1))
    (fun c t W Q => by
      obtain rfl := fin_N0 t
      exact body_run c (Gen.V m c main_v0) (Gen.V m c main_v1) (Gen.V m c main_v2) W Q)

/-- The cache as the body reads it: its lanes in groups. -/
theorem v0_eq (c : Dev nD) : Gen.V m c main_v0 = shapeCast _ (m ((c.tc : Thread nD τ).loc main_arg0)) shapeCasts_S32x512x512_S32x512x4x128 := by
  after_reads_simp
  rfl

/-- The new row likewise. -/
theorem v1_eq (c : Dev nD) : Gen.V m c main_v1 = shapeCast _ (m ((c.tc : Thread nD τ).loc main_arg1)) shapeCasts_S32x512_S32x1x4x128 := by
  after_reads_simp
  rfl

/-- The kernel and the reference end with the same array. -/
theorem agrees : algebraic_ShiftDIdeal_ShiftDRefIdeal (hShiftDIdeal := Cert.ShiftDIdeal.Gen.facts) (hShiftDRefIdeal := Cert.ShiftDRefIdeal.Gen.facts) := by
  pair_intro
  · have h := first_of (run m g)
    exact h
  · run_from (ShiftDRefIdeal.Value.run m' g')
    funext j
    obtain ⟨r, p, q, l, rfl⟩ : ∃ r p q l, j = ix4 r p q l := ⟨j 0, j 1, j 2, j 3, eq_ix4 j⟩
    rw [v0_eq, v1_eq]
    pointwise
    exact (appended_joined (W := 511) (C := 4) (m ((c.tc : Thread nD τ).loc main_arg0)) (m ((c.tc : Thread nD τ).loc main_arg1))
      shapeCasts_S32x512x512_S32x512x4x128 shapeCasts_S32x512_S32x1x4x128 r p q l (by omega)).symm

end Cert.ShiftDIdeal.Shift

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpFinal
public import proofs.«01_k».proof.Proof.Gen.MlpFinal.Skeleton
public import proofs.«01_k».proof.Proof.Gen.MlpFinal.Launch
public import proofs.«01_k».proof.Proof.Gen.MlpFinal.Points
public import proofs.«01_k».proof.Proof.Gen.MlpFinal.Frame
public import proofs.«01_k».proof.Proof.Gen.MlpFinalIdeal
public import proofs.«01_k».proof.Proof.Gen.MlpFinalIdeal.Skeleton
public import proofs.«01_k».proof.Proof.Gen.MlpFinalIdeal.Launch
public import proofs.«01_k».proof.Proof.Gen.MlpFinalIdeal.Points
public import proofs.«01_k».proof.Proof.Gen.MlpFinalIdeal.Frame
public import proofs.«01_k».proof.Proof.Gen.MlpFinalIdeal.Value
public import proofs.«01_k».proof.Proof.Gen.MlpFinalRefIdeal.Run
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBRefIdeal.Run
public import proofs.«01_k».proof.Proof.Gen.Resid
public import proofs.«01_k».proof.Proof.Gen.Resid.Skeleton
public import proofs.«01_k».proof.Proof.Gen.Resid.Launch
public import proofs.«01_k».proof.Proof.Gen.Resid.Points
public import proofs.«01_k».proof.Proof.Gen.Resid.Frame
public import proofs.«01_k».proof.Proof.Gen.ResidIdeal
public import proofs.«01_k».proof.Proof.Gen.ResidIdeal.Skeleton
public import proofs.«01_k».proof.Proof.Gen.ResidIdeal.Launch
public import proofs.«01_k».proof.Proof.Gen.ResidIdeal.Points
public import proofs.«01_k».proof.Proof.Gen.ResidIdeal.Frame
public import proofs.«01_k».proof.Proof.Gen.ResidIdeal.Value
public import proofs.«01_k».proof.Proof.Gen.ResidRefIdeal.Run
public import proofs.«01_k».proof.Proof.Gen.ProjBS
public import proofs.«01_k».proof.Proof.Gen.ProjBS.Skeleton
public import proofs.«01_k».proof.Proof.Gen.ProjBS.Launch
public import proofs.«01_k».proof.Proof.Gen.ProjBS.Points
public import proofs.«01_k».proof.Proof.Gen.ProjBS.Frame
public import proofs.«01_k».proof.Proof.Gen.ProjBSIdeal
public import proofs.«01_k».proof.Proof.Gen.ProjBSIdeal.Skeleton
public import proofs.«01_k».proof.Proof.Gen.ProjBSIdeal.Launch
public import proofs.«01_k».proof.Proof.Gen.ProjBSIdeal.Points
public import proofs.«01_k».proof.Proof.Gen.ProjBSIdeal.Frame
public import proofs.«01_k».proof.Proof.Gen.ProjBSIdeal.Value
public import proofs.«01_k».proof.Proof.Gen.ProjBSRefIdeal.Run
public import proofs.«01_k».proof.Proof.Gen.MlpSF
public import proofs.«01_k».proof.Proof.Gen.MlpSF.Skeleton
public import proofs.«01_k».proof.Proof.Gen.MlpSF.Launch
public import proofs.«01_k».proof.Proof.Gen.MlpSF.Points
public import proofs.«01_k».proof.Proof.Gen.MlpSF.Frame
public import proofs.«01_k».proof.Proof.Gen.MlpSFIdeal
public import proofs.«01_k».proof.Proof.Gen.MlpSFIdeal.Skeleton
public import proofs.«01_k».proof.Proof.Gen.MlpSFIdeal.Launch
public import proofs.«01_k».proof.Proof.Gen.MlpSFIdeal.Points
public import proofs.«01_k».proof.Proof.Gen.MlpSFIdeal.Frame
public import proofs.«01_k».proof.Proof.Gen.MlpSFIdeal.Value
public import proofs.«01_k».proof.Proof.Gen.MlpSFRefIdeal.Run
public import proofs.«01_k».proof.Proof.Gen.AttnIdeal.Value
public import proofs.«01_k».proof.Proof.Gen.ProjIdeal.Value
public import proofs.«01_k».proof.Proof.Gen.MlpIdeal.Value
public import proofs.«01_k».proof.Proof.Gen.AttnRefIdeal.Run
public import proofs.«01_k».proof.Proof.Gen.ProjRefIdeal.Run
public import proofs.«01_k».proof.Proof.Gen.MlpRefIdeal.Run
public import proofs.«01_k».proof.Proof.Gen.ShiftA
public import proofs.«01_k».proof.Proof.Gen.ShiftA.Skeleton
public import proofs.«01_k».proof.Proof.Gen.ShiftAIdeal
public import proofs.«01_k».proof.Proof.Gen.ShiftAIdeal.Skeleton
public import proofs.«01_k».proof.Proof.Gen.ShiftARefIdeal.Run
public import proofs.«01_k».proof.Proof.Gen.ShiftA.Launch
public import proofs.«01_k».proof.Proof.Gen.ShiftA.Frame
public import proofs.«01_k».proof.Proof.Gen.ShiftAIdeal.Launch
public import proofs.«01_k».proof.Proof.Gen.ShiftAIdeal.Frame
public import proofs.«01_k».proof.Proof.Gen.ShiftB
public import proofs.«01_k».proof.Proof.Gen.ShiftB.Skeleton
public import proofs.«01_k».proof.Proof.Gen.ShiftBIdeal
public import proofs.«01_k».proof.Proof.Gen.ShiftBIdeal.Skeleton
public import proofs.«01_k».proof.Proof.Gen.ShiftBRefIdeal.Run
public import proofs.«01_k».proof.Proof.Gen.ShiftB.Launch
public import proofs.«01_k».proof.Proof.Gen.ShiftB.Frame
public import proofs.«01_k».proof.Proof.Gen.ShiftBIdeal.Launch
public import proofs.«01_k».proof.Proof.Gen.ShiftBIdeal.Frame
public import proofs.«01_k».proof.Proof.Gen.ShiftC
public import proofs.«01_k».proof.Proof.Gen.ShiftC.Skeleton
public import proofs.«01_k».proof.Proof.Gen.ShiftCIdeal
public import proofs.«01_k».proof.Proof.Gen.ShiftCIdeal.Skeleton
public import proofs.«01_k».proof.Proof.Gen.ShiftCRefIdeal.Run
public import proofs.«01_k».proof.Proof.Gen.ShiftC.Launch
public import proofs.«01_k».proof.Proof.Gen.ShiftC.Frame
public import proofs.«01_k».proof.Proof.Gen.ShiftCIdeal.Launch
public import proofs.«01_k».proof.Proof.Gen.ShiftCIdeal.Frame
public import proofs.«01_k».proof.Proof.Gen.ShiftD
public import proofs.«01_k».proof.Proof.Gen.ShiftD.Skeleton
public import proofs.«01_k».proof.Proof.Gen.ShiftDIdeal
public import proofs.«01_k».proof.Proof.Gen.ShiftDIdeal.Skeleton
public import proofs.«01_k».proof.Proof.Gen.ShiftDRefIdeal.Run
public import proofs.«01_k».proof.Proof.Gen.ShiftD.Launch
public import proofs.«01_k».proof.Proof.Gen.ShiftD.Frame
public import proofs.«01_k».proof.Proof.Gen.ShiftDIdeal.Launch
public import proofs.«01_k».proof.Proof.Gen.ShiftDIdeal.Frame
public import proofs.«01_k».proof.Proof.MlpValue
public import proofs.«01_k».proof.Proof.ProjValue
public import proofs.«01_k».proof.Proof.MlpFinalValue
public import proofs.«01_k».proof.Proof.ProjBValue
public import proofs.«01_k».proof.Proof.ResidValue
public import proofs.«01_k».proof.Proof.ProjBSValue
public import proofs.«01_k».proof.Proof.MlpSFValue
public import proofs.«01_k».proof.Proof.AttnAgrees
public import proofs.«01_k».proof.Proof.ShiftAValue
public import proofs.«01_k».proof.Proof.ShiftBValue
public import proofs.«01_k».proof.Proof.ShiftCValue
public import proofs.«01_k».proof.Proof.ShiftDValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-! The references leave their arguments as they were, and have no semaphores. -/

theorem kept_attn : Cert.quiescent_AttnRefIdeal (hAttnRefIdeal := Cert.AttnRefIdeal.Gen.facts) := fun m ρ _ =>
  (θ_run Cert.AttnRefIdeal.defs _ _).mono (fun r h => ⟨fun c => (h c).2.2, sem_eq_zero_of_no_sems rfl r.2⟩) (Cert.AttnRefIdeal.Value.run m ρ)

theorem kept_proj : Cert.quiescent_ProjRefIdeal (hProjRefIdeal := Cert.ProjRefIdeal.Gen.facts) := fun m ρ _ =>
  (θ_run Cert.ProjRefIdeal.defs _ _).mono (fun r h => ⟨fun c => (h c).2.2.2.2.2.2, sem_eq_zero_of_no_sems rfl r.2⟩) (Cert.ProjRefIdeal.Value.run m ρ)

theorem kept_mlp : Cert.quiescent_MlpRefIdeal (hMlpRefIdeal := Cert.MlpRefIdeal.Gen.facts) := fun m ρ _ =>
  (θ_run Cert.MlpRefIdeal.defs _ _).mono (fun r h => ⟨fun c => (h c).2, sem_eq_zero_of_no_sems rfl r.2⟩) (Cert.MlpRefIdeal.Value.run m ρ)

theorem kept_mlp_final : Cert.quiescent_MlpFinalRefIdeal (hMlpFinalRefIdeal := Cert.MlpFinalRefIdeal.Gen.facts) := fun m ρ _ =>
  (θ_run Cert.MlpFinalRefIdeal.defs _ _).mono (fun r h => ⟨fun c => (h c).2, sem_eq_zero_of_no_sems rfl r.2⟩) (Cert.MlpFinalRefIdeal.Value.run m ρ)

theorem kept_proj_b : Cert.quiescent_ProjBRefIdeal (hProjBRefIdeal := Cert.ProjBRefIdeal.Gen.facts) := fun m ρ _ =>
  (θ_run Cert.ProjBRefIdeal.defs _ _).mono (fun r h => ⟨fun c => (h c).2.2.2.2, sem_eq_zero_of_no_sems rfl r.2⟩) (Cert.ProjBRefIdeal.Value.run m ρ)

theorem kept_resid : Cert.quiescent_ResidRefIdeal (hResidRefIdeal := Cert.ResidRefIdeal.Gen.facts) := fun m ρ _ =>
  (θ_run Cert.ResidRefIdeal.defs _ _).mono (fun r h => ⟨fun c => (h c).2, sem_eq_zero_of_no_sems rfl r.2⟩) (Cert.ResidRefIdeal.Value.run m ρ)

theorem kept_proj_b_sample : Cert.quiescent_ProjBSRefIdeal (hProjBSRefIdeal := Cert.ProjBSRefIdeal.Gen.facts) := fun m ρ _ =>
  (θ_run Cert.ProjBSRefIdeal.defs _ _).mono (fun r h => ⟨fun c => (h c).2.2.2.2, sem_eq_zero_of_no_sems rfl r.2⟩) (Cert.ProjBSRefIdeal.Value.run m ρ)

theorem kept_mlp_sample_final : Cert.quiescent_MlpSFRefIdeal (hMlpSFRefIdeal := Cert.MlpSFRefIdeal.Gen.facts) := fun m ρ _ =>
  (θ_run Cert.MlpSFRefIdeal.defs _ _).mono (fun r h => ⟨fun c => (h c).2, sem_eq_zero_of_no_sems rfl r.2⟩) (Cert.MlpSFRefIdeal.Value.run m ρ)

/-! The appends: the program and its idealized reading are one text, so what is proved of the second at any floats is the first's. -/

/-- A run's post without the result. -/
theorem kept_of {nD : Nat} {τ : Topo} {sig : RefSig} {Val : EltTy → Type} {Λ : Labels} {D : Defs nD τ sig Val Λ}
    {P : (c : Thread nD τ) → Prog (TpuEff nD τ sig Val Λ c.2) PUnit} {s : MemSt nD τ sig Val} {A B : PUnit × MemSt nD τ sig Val → Dev nD → Prop}
    {C : PUnit × MemSt nD τ sig Val → Prop} (h : θ_run D P s (fun r => (∀ c, A r c ∧ B r c) ∧ C r)) : θ_run D P s (fun r => (∀ c, B r c) ∧ C r) :=
  (θ_run D P s).mono (fun _ h => ⟨fun c => (h.1 c).2, h.2⟩) h

theorem kept_shift_a : Cert.quiescent_ShiftARefIdeal (hShiftARefIdeal := Cert.ShiftARefIdeal.Gen.facts) := fun m ρ _ =>
  (θ_run Cert.ShiftARefIdeal.defs _ _).mono (fun r h => ⟨fun c => (h c).2, sem_eq_zero_of_no_sems rfl r.2⟩) (Cert.ShiftARefIdeal.Value.run m ρ)

theorem kept_shift_b : Cert.quiescent_ShiftBRefIdeal (hShiftBRefIdeal := Cert.ShiftBRefIdeal.Gen.facts) := fun m ρ _ =>
  (θ_run Cert.ShiftBRefIdeal.defs _ _).mono (fun r h => ⟨fun c => (h c).2, sem_eq_zero_of_no_sems rfl r.2⟩) (Cert.ShiftBRefIdeal.Value.run m ρ)

theorem kept_shift_c : Cert.quiescent_ShiftCRefIdeal (hShiftCRefIdeal := Cert.ShiftCRefIdeal.Gen.facts) := fun m ρ _ =>
  (θ_run Cert.ShiftCRefIdeal.defs _ _).mono (fun r h => ⟨fun c => (h c).2, sem_eq_zero_of_no_sems rfl r.2⟩) (Cert.ShiftCRefIdeal.Value.run m ρ)

theorem kept_shift_d : Cert.quiescent_ShiftDRefIdeal (hShiftDRefIdeal := Cert.ShiftDRefIdeal.Gen.facts) := fun m ρ _ =>
  (θ_run Cert.ShiftDRefIdeal.defs _ _).mono (fun r h => ⟨fun c => (h c).2, sem_eq_zero_of_no_sems rfl r.2⟩) (Cert.ShiftDRefIdeal.Value.run m ρ)

theorem claim : Cert.Claim :=
  ⟨Cert.Attn.Gen.facts, Cert.AttnIdeal.Gen.facts, Cert.AttnRefIdeal.Gen.facts,
    Cert.Proj.Gen.facts, Cert.ProjIdeal.Gen.facts, Cert.ProjRefIdeal.Gen.facts,
    Cert.Mlp.Gen.facts, Cert.MlpIdeal.Gen.facts, Cert.MlpRefIdeal.Gen.facts,
    Cert.MlpFinal.Gen.facts, Cert.MlpFinalIdeal.Gen.facts, Cert.MlpFinalRefIdeal.Gen.facts,
    Cert.ProjB.Gen.facts, Cert.ProjBIdeal.Gen.facts, Cert.ProjBRefIdeal.Gen.facts,
    Cert.Resid.Gen.facts, Cert.ResidIdeal.Gen.facts, Cert.ResidRefIdeal.Gen.facts,
    Cert.ProjBS.Gen.facts, Cert.ProjBSIdeal.Gen.facts, Cert.ProjBSRefIdeal.Gen.facts,
    Cert.MlpSF.Gen.facts, Cert.MlpSFIdeal.Gen.facts, Cert.MlpSFRefIdeal.Gen.facts,
    Cert.ShiftA.Gen.facts, Cert.ShiftAIdeal.Gen.facts, Cert.ShiftARefIdeal.Gen.facts,
    Cert.ShiftB.Gen.facts, Cert.ShiftBIdeal.Gen.facts, Cert.ShiftBRefIdeal.Gen.facts,
    Cert.ShiftC.Gen.facts, Cert.ShiftCIdeal.Gen.facts, Cert.ShiftCRefIdeal.Gen.facts,
    Cert.ShiftD.Gen.facts, Cert.ShiftDIdeal.Gen.facts, Cert.ShiftDRefIdeal.Gen.facts, Cert.Pre_finite_attn.facts,
    fun m ρ _ => Cert.Attn.Gen.frame m ρ, fun m ρ _ => Cert.AttnIdeal.Gen.frame m ρ, fun m ρ _ => Cert.AttnIdeal.Gen.frame m ρ, kept_attn, fun m ρ _ => kept_attn m ρ trivial,
    fun m ρ _ => Cert.Proj.Gen.frame m ρ, fun m ρ _ => Cert.ProjIdeal.Gen.frame m ρ, kept_proj,
    fun m ρ _ => Cert.Mlp.Gen.frame m ρ, fun m ρ _ => Cert.MlpIdeal.Gen.frame m ρ, kept_mlp,
    fun m ρ _ => Cert.MlpFinal.Gen.frame m ρ, fun m ρ _ => Cert.MlpFinalIdeal.Gen.frame m ρ, kept_mlp_final,
    fun m ρ _ => Cert.ProjB.Gen.frame m ρ, fun m ρ _ => Cert.ProjBIdeal.Gen.frame m ρ, kept_proj_b,
    fun m ρ _ => Cert.Resid.Gen.frame m ρ, fun m ρ _ => Cert.ResidIdeal.Gen.frame m ρ, kept_resid,
    fun m ρ _ => Cert.ProjBS.Gen.frame m ρ, fun m ρ _ => Cert.ProjBSIdeal.Gen.frame m ρ, kept_proj_b_sample,
    fun m ρ _ => Cert.MlpSF.Gen.frame m ρ, fun m ρ _ => Cert.MlpSFIdeal.Gen.frame m ρ, kept_mlp_sample_final,
    fun m ρ _ => kept_of (Cert.ShiftAIdeal.Shift.run (F := Bits) m ρ), fun m ρ _ => kept_of (Cert.ShiftAIdeal.Shift.run m ρ), kept_shift_a,
    fun m ρ _ => kept_of (Cert.ShiftBIdeal.Shift.run (F := Bits) m ρ), fun m ρ _ => kept_of (Cert.ShiftBIdeal.Shift.run m ρ), kept_shift_b,
    fun m ρ _ => kept_of (Cert.ShiftCIdeal.Shift.run (F := Bits) m ρ), fun m ρ _ => kept_of (Cert.ShiftCIdeal.Shift.run m ρ), kept_shift_c,
    fun m ρ _ => kept_of (Cert.ShiftDIdeal.Shift.run (F := Bits) m ρ), fun m ρ _ => kept_of (Cert.ShiftDIdeal.Shift.run m ρ), kept_shift_d,
    trivial, Cert.AttnIdeal.Closed.agrees,
    trivial, Cert.ProjIdeal.Closed.agrees,
    trivial, Cert.MlpIdeal.Closed.agrees,
    trivial, Cert.MlpFinalIdeal.Closed.agrees,
    trivial, Cert.ProjBIdeal.Closed.agrees,
    trivial, Cert.ResidIdeal.Closed.agrees,
    trivial, Cert.ProjBSIdeal.Closed.agrees,
    trivial, Cert.MlpSFIdeal.Closed.agrees,
    trivial, Cert.ShiftAIdeal.Shift.agrees,
    trivial, Cert.ShiftBIdeal.Shift.agrees,
    trivial, Cert.ShiftCIdeal.Shift.agrees,
    trivial, Cert.ShiftDIdeal.Shift.agrees⟩

end Cert.Proof

end
